-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v53)) (v2 : (c : Dev Cert.KernelIdeal.nD) → Buf (Elt Ideal) ((c.tc : Thread Cert.KernelIdeal.nD Cert.KernelIdeal.τ).loc Cert.KernelIdeal.main_v54)) (v3 : (c : Dev Cert.KernelIdeal.nD) → Buf (Elt Ideal) ((c.tc : Thread Cert.KernelIdeal.nD Cert.KernelIdeal.τ).loc Cert.KernelIdeal.main_v55)) (v4 : (c : Dev Cert.KernelIdeal.nD) → Buf (Elt Ideal) ((c.tc : Thread Cert.KernelIdeal.nD Cert.KernelIdeal.τ).loc Cert.KernelIdeal.main_v56)) (v5 : (c : Dev Cert.KernelIdeal.nD) → Buf (Elt Ideal) ((c.tc : Thread Cert.KernelIdeal.nD Cert.KernelIdeal.τ).loc Cert.KernelIdeal.main_v57)) (v6 : (c : Dev Cert.KernelIdeal.nD) → Buf (Elt Ideal) ((c.tc : Thread Cert.KernelIdeal.nD Cert.KernelIdeal.τ).loc Cert.KernelIdeal.main_v58)) (v7 : (c : Dev Cert.KernelIdeal.nD) → Buf (Elt Ideal) ((c.tc : Thread Cert.KernelIdeal.nD Cert.KernelIdeal.τ).loc Cert.KernelIdeal.main_v59)) (v8 : (c : Dev Cert.KernelIdeal.nD) → Buf (Elt Ideal) ((c.tc : Thread Cert.KernelIdeal.nD Cert.KernelIdeal.τ).loc Cert.KernelIdeal.main_v60)) (v9 : (c : Dev Cert.KernelIdeal.nD) → Buf (Elt Ideal) ((c.tc : Thread Cert.KernelIdeal.nD Cert.KernelIdeal.τ).loc Cert.KernelIdeal.main_v61)) (v10 : (c : Dev Cert.KernelIdeal.nD) → Buf (Elt Ideal) ((c.tc : Thread Cert.KernelIdeal.nD Cert.KernelIdeal.τ).loc Cert.KernelIdeal.main_v62)) (v11 : (c : Dev Cert.KernelIdeal.nD) → Buf (Elt Ideal) ((c.tc : Thread Cert.KernelIdeal.nD Cert.KernelIdeal.τ).loc Cert.KernelIdeal.main_v63)) (v12 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_v54) = v2 c
          ∧ r.2.mem ((c.tc : Thread Cert.KernelIdeal.nD Cert.KernelIdeal.τ).loc Cert.KernelIdeal.main_v55) = v3 c
          ∧ r.2.mem ((c.tc : Thread Cert.KernelIdeal.nD Cert.KernelIdeal.τ).loc Cert.KernelIdeal.main_v56) = v4 c
          ∧ r.2.mem ((c.tc : Thread Cert.KernelIdeal.nD Cert.KernelIdeal.τ).loc Cert.KernelIdeal.main_v57) = v5 c
          ∧ r.2.mem ((c.tc : Thread Cert.KernelIdeal.nD Cert.KernelIdeal.τ).loc Cert.KernelIdeal.main_v58) = v6 c
          ∧ r.2.mem ((c.tc : Thread Cert.KernelIdeal.nD Cert.KernelIdeal.τ).loc Cert.KernelIdeal.main_v59) = v7 c
          ∧ r.2.mem ((c.tc : Thread Cert.KernelIdeal.nD Cert.KernelIdeal.τ).loc Cert.KernelIdeal.main_v60) = v8 c
          ∧ r.2.mem ((c.tc : Thread Cert.KernelIdeal.nD Cert.KernelIdeal.τ).loc Cert.KernelIdeal.main_v61) = v9 c
          ∧ r.2.mem ((c.tc : Thread Cert.KernelIdeal.nD Cert.KernelIdeal.τ).loc Cert.KernelIdeal.main_v62) = v10 c
          ∧ r.2.mem ((c.tc : Thread Cert.KernelIdeal.nD Cert.KernelIdeal.τ).loc Cert.KernelIdeal.main_v63) = v11 c
          ∧ r.2.mem ((c.tc : Thread Cert.KernelIdeal.nD Cert.KernelIdeal.τ).loc Cert.KernelIdeal.main_v64) = v12 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v381) = v0 c
          ∧ r.2.mem ((c.tc : Thread Cert.ReferenceIdeal.nD Cert.ReferenceIdeal.τ).loc Cert.ReferenceIdeal.main_v148) = v1 c
          ∧ r.2.mem ((c.tc : Thread Cert.ReferenceIdeal.nD Cert.ReferenceIdeal.τ).loc Cert.ReferenceIdeal.main_v158) = v2 c
          ∧ r.2.mem ((c.tc : Thread Cert.ReferenceIdeal.nD Cert.ReferenceIdeal.τ).loc Cert.ReferenceIdeal.main_v193) = v3 c
          ∧ r.2.mem ((c.tc : Thread Cert.ReferenceIdeal.nD Cert.ReferenceIdeal.τ).loc Cert.ReferenceIdeal.main_v332) = v4 c
          ∧ r.2.mem ((c.tc : Thread Cert.ReferenceIdeal.nD Cert.ReferenceIdeal.τ).loc Cert.ReferenceIdeal.main_v27) = v5 c
          ∧ r.2.mem ((c.tc : Thread Cert.ReferenceIdeal.nD Cert.ReferenceIdeal.τ).loc Cert.ReferenceIdeal.main_v20) = v6 c
          ∧ r.2.mem ((c.tc : Thread Cert.ReferenceIdeal.nD Cert.ReferenceIdeal.τ).loc Cert.ReferenceIdeal.main_v213) = v7 c
          ∧ r.2.mem ((c.tc : Thread Cert.ReferenceIdeal.nD Cert.ReferenceIdeal.τ).loc Cert.ReferenceIdeal.main_v206) = v8 c
          ∧ r.2.mem ((c.tc : Thread Cert.ReferenceIdeal.nD Cert.ReferenceIdeal.τ).loc Cert.ReferenceIdeal.main_v268) = v9 c
          ∧ r.2.mem ((c.tc : Thread Cert.ReferenceIdeal.nD Cert.ReferenceIdeal.τ).loc Cert.ReferenceIdeal.main_v261) = v10 c
          ∧ r.2.mem ((c.tc : Thread Cert.ReferenceIdeal.nD Cert.ReferenceIdeal.τ).loc Cert.ReferenceIdeal.main_v352) = v11 c
          ∧ r.2.mem ((c.tc : Thread Cert.ReferenceIdeal.nD Cert.ReferenceIdeal.τ).loc Cert.ReferenceIdeal.main_v345) = v12 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x6144 : Shape := ⟨3, ![2, 128, 6144]⟩
abbrev S2 : Shape := ⟨1, ![2]⟩
abbrev S6144 : Shape := ⟨1, ![6144]⟩
abbrev S1536x6144 : Shape := ⟨2, ![1536, 6144]⟩
abbrev S_ : Shape := ⟨0, ![]⟩
abbrev S1536x768 : Shape := ⟨2, ![1536, 768]⟩
abbrev S1536x16384 : Shape := ⟨2, ![1536, 16384]⟩
abbrev S16384 : Shape := ⟨1, ![16384]⟩
abbrev S4096x6144 : Shape := ⟨2, ![4096, 6144]⟩
abbrev S256x6144 : Shape := ⟨2, ![256, 6144]⟩
abbrev S1x6144 : Shape := ⟨2, ![1, 6144]⟩
abbrev S256x1 : Shape := ⟨2, ![256, 1]⟩
abbrev S32x6144 : Shape := ⟨2, ![32, 6144]⟩
abbrev S32x1 : Shape := ⟨2, ![32, 1]⟩
abbrev S32 : Shape := ⟨1, ![32]⟩
abbrev S8x6144 : Shape := ⟨2, ![8, 6144]⟩
abbrev S8x128 : Shape := ⟨2, ![8, 128]⟩
abbrev S8x128x1 : Shape := ⟨3, ![8, 128, 1]⟩
abbrev S1x1 : Shape := ⟨2, ![1, 1]⟩
abbrev S1536x512 : Shape := ⟨2, ![1536, 512]⟩
abbrev S256x512 : Shape := ⟨2, ![256, 512]⟩
abbrev S6144x512 : Shape := ⟨2, ![6144, 512]⟩
abbrev S32x512 : Shape := ⟨2, ![32, 512]⟩
abbrev S8x512 : Shape := ⟨2, ![8, 512]⟩
abbrev S256x768 : Shape := ⟨2, ![256, 768]⟩
abbrev S1536x256 : Shape := ⟨2, ![1536, 256]⟩
abbrev S256x256 : Shape := ⟨2, ![256, 256]⟩
abbrev S6144x256 : Shape := ⟨2, ![6144, 256]⟩
abbrev S32x256 : Shape := ⟨2, ![32, 256]⟩
abbrev S8x256 : Shape := ⟨2, ![8, 256]⟩
abbrev S48 : Shape := ⟨1, ![48]⟩
abbrev S2x1 : Shape := ⟨2, ![2, 1]⟩
abbrev S128 : Shape := ⟨1, ![128]⟩
abbrev S1x128 : Shape := ⟨2, ![1, 128]⟩
abbrev S2x128 : Shape := ⟨2, ![2, 128]⟩
abbrev S2x128x1 : Shape := ⟨3, ![2, 128, 1]⟩
abbrev S1x1x48 : Shape := ⟨3, ![1, 1, 48]⟩
abbrev S2x128x48 : Shape := ⟨3, ![2, 128, 48]⟩
abbrev S256x48 : Shape := ⟨2, ![256, 48]⟩
abbrev S1x256x1x48 : Shape := ⟨4, ![1, 256, 1, 48]⟩
abbrev S1x256x16x48 : Shape := ⟨4, ![1, 256, 16, 48]⟩
abbrev S128x6144 : Shape := ⟨2, ![128, 6144]⟩
abbrev S128x768 : Shape := ⟨2, ![128, 768]⟩
abbrev S128x128 : Shape := ⟨2, ![128, 128]⟩
abbrev S128x96 : Shape := ⟨2, ![128, 96]⟩
abbrev S128x1 : Shape := ⟨2, ![128, 1]⟩
abbrev S256x16384 : Shape := ⟨2, ![256, 16384]⟩
abbrev S1x16384 : Shape := ⟨2, ![1, 16384]⟩
abbrev S32x16384 : Shape := ⟨2, ![32, 16384]⟩
abbrev S8x16384 : Shape := ⟨2, ![8, 16384]⟩
abbrev S4096x256 : Shape := ⟨2, ![4096, 256]⟩
abbrev S16384x256 : Shape := ⟨2, ![16384, 256]⟩
abbrev S2x128x64x96 : Shape := ⟨4, ![2, 128, 64, 96]⟩
abbrev S2x128x8x96 : Shape := ⟨4, ![2, 128, 8, 96]⟩
abbrev S2x128x16384 : Shape := ⟨3, ![2, 128, 16384]⟩

abbrev nBuf : Space → Nat
  | .hbm => 108
  | .vmem => 122
  | .smem => 7
  | _ => 0

abbrev bufTy : (tb : Table) → Fin (tcTables nBuf tb) → BufTy
  | .hbm, ⟨0, _⟩ => ⟨S2x128x6144, .bf16⟩
  | .hbm, ⟨1, _⟩ => ⟨S2, .i32⟩
  | .hbm, ⟨2, _⟩ => ⟨S6144, .f32⟩
  | .hbm, ⟨3, _⟩ => ⟨S1536x6144, .i8⟩
  | .hbm, ⟨4, _⟩ => ⟨S_, .f32⟩
  | .hbm, ⟨5, _⟩ => ⟨S1536x768, .i8⟩
  | .hbm, ⟨6, _⟩ => ⟨S_, .f32⟩
  | .hbm, ⟨7, _⟩ => ⟨S1536x768, .i8⟩
  | .hbm, ⟨8, _⟩ => ⟨S_, .f32⟩
  | .hbm, ⟨9, _⟩ => ⟨S6144, .f32⟩
  | .hbm, ⟨10, _⟩ => ⟨S1536x6144, .i8⟩
  | .hbm, ⟨11, _⟩ => ⟨S_, .f32⟩
  | .hbm, ⟨12, _⟩ => ⟨S6144, .f32⟩
  | .hbm, ⟨13, _⟩ => ⟨S1536x16384, .i8⟩
  | .hbm, ⟨14, _⟩ => ⟨S_, .f32⟩
  | .hbm, ⟨15, _⟩ => ⟨S1536x16384, .i8⟩
  | .hbm, ⟨16, _⟩ => ⟨S_, .f32⟩
  | .hbm, ⟨17, _⟩ => ⟨S16384, .f32⟩
  | .hbm, ⟨18, _⟩ => ⟨S4096x6144, .i8⟩
  | .hbm, ⟨19, _⟩ => ⟨S_, .f32⟩
  | .hbm, ⟨20, _⟩ => ⟨S256x6144, .bf16⟩
  | .hbm, ⟨21, _⟩ => ⟨S1x6144, .f32⟩
  | .hbm, ⟨22, _⟩ => ⟨S256x6144, .i8⟩
  | .hbm, ⟨23, _⟩ => ⟨S256x1, .f32⟩
  | .hbm, ⟨24, _⟩ => ⟨S256x1, .f32⟩
  | .hbm, ⟨25, _⟩ => ⟨S256x6144, .bf16⟩
  | .hbm, ⟨26, _⟩ => ⟨S256x1, .f32⟩
  | .hbm, ⟨27, _⟩ => ⟨S1x1, .f32⟩
  | .hbm, ⟨28, _⟩ => ⟨S256x6144, .f32⟩
  | .hbm, ⟨29, _⟩ => ⟨S1x1, .f32⟩
  | .hbm, ⟨30, _⟩ => ⟨S256x768, .f32⟩
  | .hbm, ⟨31, _⟩ => ⟨S1x1, .f32⟩
  | .hbm, ⟨32, _⟩ => ⟨S256x768, .f32⟩
  | .hbm, ⟨33, _⟩ => ⟨S48, .f32⟩
  | .hbm, ⟨34, _⟩ => ⟨S_, .f32⟩
  | .hbm, ⟨35, _⟩ => ⟨S48, .f32⟩
  | .hbm, ⟨36, _⟩ => ⟨S48, .f32⟩
  | .hbm, ⟨37, _⟩ => ⟨S_, .f32⟩
  | .hbm, ⟨38, _⟩ => ⟨S48, .f32⟩
  | .hbm, ⟨39, _⟩ => ⟨S48, .f32⟩
  | .hbm, ⟨40, _⟩ => ⟨S_, .f32⟩
  | .hbm, ⟨41, _⟩ => ⟨S48, .f32⟩
  | .hbm, ⟨42, _⟩ => ⟨S48, .f32⟩
  | .hbm, ⟨43, _⟩ => ⟨S_, .f32⟩
  | .hbm, ⟨44, _⟩ => ⟨S48, .f32⟩
  | .hbm, ⟨45, _⟩ => ⟨S48, .f32⟩
  | .hbm, ⟨46, _⟩ => ⟨S_, .f32⟩
  | .hbm, ⟨47, _⟩ => ⟨S48, .f32⟩
  | .hbm, ⟨48, _⟩ => ⟨S48, .f32⟩
  | .hbm, ⟨49, _⟩ => ⟨S2x1, .i32⟩
  | .hbm, ⟨50, _⟩ => ⟨S128, .i32⟩
  | .hbm, ⟨51, _⟩ => ⟨S1x128, .i32⟩
  | .hbm, ⟨52, _⟩ => ⟨S2x128, .i32⟩
  | .hbm, ⟨53, _⟩ => ⟨S2x128, .i32⟩
  | .hbm, ⟨54, _⟩ => ⟨S2x128, .i32⟩
  | .hbm, ⟨55, _⟩ => ⟨S2x128, .f32⟩
  | .hbm, ⟨56, _⟩ => ⟨S2x128x1, .f32⟩
  | .hbm, ⟨57, _⟩ => ⟨S1x1x48, .f32⟩
  | .hbm, ⟨58, _⟩ => ⟨S2x128x48, .f32⟩
  | .hbm, ⟨59, _⟩ => ⟨S2x128x48, .f32⟩
  | .hbm, ⟨60, _⟩ => ⟨S2x128x48, .f32⟩
  | .hbm, ⟨61, _⟩ => ⟨S256x48, .f32⟩
  | .hbm, ⟨62, _⟩ => ⟨S1x256x1x48, .f32⟩
  | .hbm, ⟨63, _⟩ => ⟨S1x256x16x48, .f32⟩
  | .hbm, ⟨64, _⟩ => ⟨S256x768, .f32⟩
  | .hbm, ⟨65, _⟩ => ⟨S256x768, .f32⟩
  | .hbm, ⟨66, _⟩ => ⟨S256x768, .f32⟩
  | .hbm, ⟨67, _⟩ => ⟨S256x6144, .bf16⟩
  | .hbm, ⟨68, _⟩ => ⟨S256x768, .bf16⟩
  | .hbm, ⟨69, _⟩ => ⟨S256x6144, .f32⟩
  | .hbm, ⟨70, _⟩ => ⟨S1x6144, .f32⟩
  | .hbm, ⟨71, _⟩ => ⟨S256x6144, .i8⟩
  | .hbm, ⟨72, _⟩ => ⟨S256x1, .f32⟩
  | .hbm, ⟨73, _⟩ => ⟨S256x1, .f32⟩
  | .hbm, ⟨74, _⟩ => ⟨S256x6144, .bf16⟩
  | .hbm, ⟨75, _⟩ => ⟨S256x1, .f32⟩
  | .hbm, ⟨76, _⟩ => ⟨S1x1, .f32⟩
  | .hbm, ⟨77, _⟩ => ⟨S256x6144, .f32⟩
  | .hbm, ⟨78, _⟩ => ⟨S1x6144, .f32⟩
  | .hbm, ⟨79, _⟩ => ⟨S256x6144, .i8⟩
  | .hbm, ⟨80, _⟩ => ⟨S256x1, .f32⟩
  | .hbm, ⟨81, _⟩ => ⟨S256x1, .f32⟩
  | .hbm, ⟨82, _⟩ => ⟨S256x6144, .bf16⟩
  | .hbm, ⟨83, _⟩ => ⟨S256x1, .f32⟩
  | .hbm, ⟨84, _⟩ => ⟨S1x1, .f32⟩
  | .hbm, ⟨85, _⟩ => ⟨S1x1, .f32⟩
  | .hbm, ⟨86, _⟩ => ⟨S256x16384, .f32⟩
  | .hbm, ⟨87, _⟩ => ⟨S1x16384, .f32⟩
  | .hbm, ⟨88, _⟩ => ⟨S256x16384, .i8⟩
  | .hbm, ⟨89, _⟩ => ⟨S256x1, .f32⟩
  | .hbm, ⟨90, _⟩ => ⟨S256x1, .f32⟩
  | .hbm, ⟨91, _⟩ => ⟨S256x16384, .bf16⟩
  | .hbm, ⟨92, _⟩ => ⟨S256x1, .f32⟩
  | .hbm, ⟨93, _⟩ => ⟨S1x1, .f32⟩
  | .hbm, ⟨94, _⟩ => ⟨S256x6144, .bf16⟩
  | .hbm, ⟨95, _⟩ => ⟨S2x128x6144, .bf16⟩
  | .hbm, ⟨96, _⟩ => ⟨S2x128x64x96, .bf16⟩
  | .hbm, ⟨97, _⟩ => ⟨S2x128x8x96, .bf16⟩
  | .hbm, ⟨98, _⟩ => ⟨S2x128, .f32⟩
  | .hbm, ⟨99, _⟩ => ⟨S2x128, .f32⟩
  | .hbm, ⟨100, _⟩ => ⟨S2x128x6144, .i8⟩
  | .hbm, ⟨101, _⟩ => ⟨S2x128, .f32⟩
  | .hbm, ⟨102, _⟩ => ⟨S2x128x6144, .i8⟩
  | .hbm, ⟨103, _⟩ => ⟨S2x128, .f32⟩
  | .hbm, ⟨104, _⟩ => ⟨S2x128x6144, .i8⟩
  | .hbm, ⟨105, _⟩ => ⟨S2x128, .f32⟩
  | .hbm, ⟨106, _⟩ => ⟨S2x128x16384, .i8⟩
  | .hbm, ⟨107, _⟩ => ⟨S2x128, .f32⟩
  | .local _ .vmem, ⟨0, _⟩ => ⟨S32x6144, .bf16⟩
  | .local _ .vmem, ⟨1, _⟩ => ⟨S32x6144, .bf16⟩
  | .local _ .vmem, ⟨2, _⟩ => ⟨S1x6144, .f32⟩
  | .local _ .vmem, ⟨3, _⟩ => ⟨S32x6144, .i8⟩
  | .local _ .vmem, ⟨4, _⟩ => ⟨S32x6144, .i8⟩
  | .local _ .vmem, ⟨5, _⟩ => ⟨S32x1, .f32⟩
  | .local _ .vmem, ⟨6, _⟩ => ⟨S32x1, .f32⟩
  | .local _ .vmem, ⟨7, _⟩ => ⟨S32x1, .f32⟩
  | .local _ .vmem, ⟨8, _⟩ => ⟨S32x1, .f32⟩
  | .local _ .vmem, ⟨9, _⟩ => ⟨S32x6144, .bf16⟩
  | .local _ .vmem, ⟨10, _⟩ => ⟨S32x6144, .bf16⟩
  | .local _ .vmem, ⟨11, _⟩ => ⟨S32x1, .f32⟩
  | .local _ .vmem, ⟨12, _⟩ => ⟨S32x1, .f32⟩
  | .local _ .vmem, ⟨13, _⟩ => ⟨S256x6144, .bf16⟩
  | .local _ .vmem, ⟨14, _⟩ => ⟨S1536x512, .i8⟩
  | .local _ .vmem, ⟨15, _⟩ => ⟨S1536x512, .i8⟩
  | .local _ .vmem, ⟨16, _⟩ => ⟨S256x1, .f32⟩
  | .local _ .vmem, ⟨17, _⟩ => ⟨S256x1, .f32⟩
  | .local _ .vmem, ⟨18, _⟩ => ⟨S256x512, .f32⟩
  | .local _ .vmem, ⟨19, _⟩ => ⟨S256x512, .f32⟩
  | .local _ .vmem, ⟨20, _⟩ => ⟨S6144x512, .fp8e4m3⟩
  | .local _ .vmem, ⟨21, _⟩ => ⟨S256x6144, .bf16⟩
  | .local _ .vmem, ⟨22, _⟩ => ⟨S1536x256, .i8⟩
  | .local _ .vmem, ⟨23, _⟩ => ⟨S1536x256, .i8⟩
  | .local _ .vmem, ⟨24, _⟩ => ⟨S256x1, .f32⟩
  | .local _ .vmem, ⟨25, _⟩ => ⟨S256x1, .f32⟩
  | .local _ .vmem, ⟨26, _⟩ => ⟨S256x256, .f32⟩
  | .local _ .vmem, ⟨27, _⟩ => ⟨S256x256, .f32⟩
  | .local _ .vmem, ⟨28, _⟩ => ⟨S6144x256, .fp8e4m3⟩
  | .local _ .vmem, ⟨29, _⟩ => ⟨S256x6144, .bf16⟩
  | .local _ .vmem, ⟨30, _⟩ => ⟨S1536x256, .i8⟩
  | .local _ .vmem, ⟨31, _⟩ => ⟨S1536x256, .i8⟩
  | .local _ .vmem, ⟨32, _⟩ => ⟨S256x1, .f32⟩
  | .local _ .vmem, ⟨33, _⟩ => ⟨S256x1, .f32⟩
  | .local _ .vmem, ⟨34, _⟩ => ⟨S256x256, .f32⟩
  | .local _ .vmem, ⟨35, _⟩ => ⟨S256x256, .f32⟩
  | .local _ .vmem, ⟨36, _⟩ => ⟨S6144x256, .fp8e4m3⟩
  | .local _ .vmem, ⟨37, _⟩ => ⟨S128x6144, .f32⟩
  | .local _ .vmem, ⟨38, _⟩ => ⟨S128x6144, .f32⟩
  | .local _ .vmem, ⟨39, _⟩ => ⟨S128x768, .f32⟩
  | .local _ .vmem, ⟨40, _⟩ => ⟨S128x768, .f32⟩
  | .local _ .vmem, ⟨41, _⟩ => ⟨S128x768, .f32⟩
  | .local _ .vmem, ⟨42, _⟩ => ⟨S128x768, .f32⟩
  | .local _ .vmem, ⟨43, _⟩ => ⟨S128x768, .f32⟩
  | .local _ .vmem, ⟨44, _⟩ => ⟨S128x768, .f32⟩
  | .local _ .vmem, ⟨45, _⟩ => ⟨S128x768, .f32⟩
  | .local _ .vmem, ⟨46, _⟩ => ⟨S128x768, .f32⟩
  | .local _ .vmem, ⟨47, _⟩ => ⟨S128x6144, .bf16⟩
  | .local _ .vmem, ⟨48, _⟩ => ⟨S128x6144, .bf16⟩
  | .local _ .vmem, ⟨49, _⟩ => ⟨S128x768, .bf16⟩
  | .local _ .vmem, ⟨50, _⟩ => ⟨S128x768, .bf16⟩
  | .local _ .vmem, ⟨51, _⟩ => ⟨S128x6144, .f32⟩
  | .local _ .vmem, ⟨52, _⟩ => ⟨S128x6144, .f32⟩
  | .local _ .vmem, ⟨53, _⟩ => ⟨S32x6144, .f32⟩
  | .local _ .vmem, ⟨54, _⟩ => ⟨S32x6144, .f32⟩
  | .local _ .vmem, ⟨55, _⟩ => ⟨S1x6144, .f32⟩
  | .local _ .vmem, ⟨56, _⟩ => ⟨S32x6144, .i8⟩
  | .local _ .vmem, ⟨57, _⟩ => ⟨S32x6144, .i8⟩
  | .local _ .vmem, ⟨58, _⟩ => ⟨S32x1, .f32⟩
  | .local _ .vmem, ⟨59, _⟩ => ⟨S32x1, .f32⟩
  | .local _ .vmem, ⟨60, _⟩ => ⟨S32x1, .f32⟩
  | .local _ .vmem, ⟨61, _⟩ => ⟨S32x1, .f32⟩
  | .local _ .vmem, ⟨62, _⟩ => ⟨S32x6144, .bf16⟩
  | .local _ .vmem, ⟨63, _⟩ => ⟨S32x6144, .bf16⟩
  | .local _ .vmem, ⟨64, _⟩ => ⟨S32x1, .f32⟩
  | .local _ .vmem, ⟨65, _⟩ => ⟨S32x1, .f32⟩
  | .local _ .vmem, ⟨66, _⟩ => ⟨S256x6144, .bf16⟩
  | .local _ .vmem, ⟨67, _⟩ => ⟨S1536x512, .i8⟩
  | .local _ .vmem, ⟨68, _⟩ => ⟨S1536x512, .i8⟩
  | .local _ .vmem, ⟨69, _⟩ => ⟨S256x1, .f32⟩
  | .local _ .vmem, ⟨70, _⟩ => ⟨S256x1, .f32⟩
  | .local _ .vmem, ⟨71, _⟩ => ⟨S256x512, .bf16⟩
  | .local _ .vmem, ⟨72, _⟩ => ⟨S256x512, .bf16⟩
  | .local _ .vmem, ⟨73, _⟩ => ⟨S256x512, .f32⟩
  | .local _ .vmem, ⟨74, _⟩ => ⟨S256x512, .f32⟩
  | .local _ .vmem, ⟨75, _⟩ => ⟨S6144x512, .fp8e4m3⟩
  | .local _ .vmem, ⟨76, _⟩ => ⟨S32x6144, .f32⟩
  | .local _ .vmem, ⟨77, _⟩ => ⟨S32x6144, .f32⟩
  | .local _ .vmem, ⟨78, _⟩ => ⟨S1x6144, .f32⟩
  | .local _ .vmem, ⟨79, _⟩ => ⟨S32x6144, .i8⟩
  | .local _ .vmem, ⟨80, _⟩ => ⟨S32x6144, .i8⟩
  | .local _ .vmem, ⟨81, _⟩ => ⟨S32x1, .f32⟩
  | .local _ .vmem, ⟨82, _⟩ => ⟨S32x1, .f32⟩
  | .local _ .vmem, ⟨83, _⟩ => ⟨S32x1, .f32⟩
  | .local _ .vmem, ⟨84, _⟩ => ⟨S32x1, .f32⟩
  | .local _ .vmem, ⟨85, _⟩ => ⟨S32x6144, .bf16⟩
  | .local _ .vmem, ⟨86, _⟩ => ⟨S32x6144, .bf16⟩
  | .local _ .vmem, ⟨87, _⟩ => ⟨S32x1, .f32⟩
  | .local _ .vmem, ⟨88, _⟩ => ⟨S32x1, .f32⟩
  | .local _ .vmem, ⟨89, _⟩ => ⟨S256x6144, .bf16⟩
  | .local _ .vmem, ⟨90, _⟩ => ⟨S1536x512, .i8⟩
  | .local _ .vmem, ⟨91, _⟩ => ⟨S1536x512, .i8⟩
  | .local _ .vmem, ⟨92, _⟩ => ⟨S1536x512, .i8⟩
  | .local _ .vmem, ⟨93, _⟩ => ⟨S1536x512, .i8⟩
  | .local _ .vmem, ⟨94, _⟩ => ⟨S256x1, .f32⟩
  | .local _ .vmem, ⟨95, _⟩ => ⟨S256x1, .f32⟩
  | .local _ .vmem, ⟨96, _⟩ => ⟨S256x512, .f32⟩
  | .local _ .vmem, ⟨97, _⟩ => ⟨S256x512, .f32⟩
  | .local _ .vmem, ⟨98, _⟩ => ⟨S6144x512, .fp8e4m3⟩
  | .local _ .vmem, ⟨99, _⟩ => ⟨S32x16384, .f32⟩
  | .local _ .vmem, ⟨100, _⟩ => ⟨S32x16384, .f32⟩
  | .local _ .vmem, ⟨101, _⟩ => ⟨S1x16384, .f32⟩
  | .local _ .vmem, ⟨102, _⟩ => ⟨S32x16384, .i8⟩
  | .local _ .vmem, ⟨103, _⟩ => ⟨S32x16384, .i8⟩
  | .local _ .vmem, ⟨104, _⟩ => ⟨S32x1, .f32⟩
  | .local _ .vmem, ⟨105, _⟩ => ⟨S32x1, .f32⟩
  | .local _ .vmem, ⟨106, _⟩ => ⟨S32x1, .f32⟩
  | .local _ .vmem, ⟨107, _⟩ => ⟨S32x1, .f32⟩
  | .local _ .vmem, ⟨108, _⟩ => ⟨S32x16384, .bf16⟩
  | .local _ .vmem, ⟨109, _⟩ => ⟨S32x16384, .bf16⟩
  | .local _ .vmem, ⟨110, _⟩ => ⟨S32x1, .f32⟩
  | .local _ .vmem, ⟨111, _⟩ => ⟨S32x1, .f32⟩
  | .local _ .vmem, ⟨112, _⟩ => ⟨S256x16384, .bf16⟩
  | .local _ .vmem, ⟨113, _⟩ => ⟨S4096x256, .i8⟩
  | .local _ .vmem, ⟨114, _⟩ => ⟨S4096x256, .i8⟩
  | .local _ .vmem, ⟨115, _⟩ => ⟨S256x1, .f32⟩
  | .local _ .vmem, ⟨116, _⟩ => ⟨S256x1, .f32⟩
  | .local _ .vmem, ⟨117, _⟩ => ⟨S256x256, .f32⟩
  | .local _ .vmem, ⟨118, _⟩ => ⟨S256x256, .f32⟩
  | .local _ .vmem, ⟨119, _⟩ => ⟨S256x256, .bf16⟩
  | .local _ .vmem, ⟨120, _⟩ => ⟨S256x256, .bf16⟩
  | .local _ .vmem, ⟨121, _⟩ => ⟨S16384x256, .fp8e4m3⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | .local _ .smem, ⟨4, _⟩ => ⟨S1x1, .f32⟩
  | .local _ .smem, ⟨5, _⟩ => ⟨S1x1, .f32⟩
  | .local _ .smem, ⟨6, _⟩ => ⟨S1x1, .f32⟩
  | _, _ => ⟨S2x128x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | .vmem, ⟨121, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | _, _ => false

abbrev semScoped : Fin 0 → Bool
  | ⟨_, h⟩ => absurd h (Nat.not_lt_zero _)

abbrev dmaSemScoped : Fin 123 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | _ => false

abbrev sig : RefSig :=
  ofTc nBuf bufTy 0 123 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2_0 : Ref sig .tc := ⟨.hbm, 22, rfl⟩
abbrev main_v2_1 : Ref sig .tc := ⟨.hbm, 23, rfl⟩
abbrev main_v2_2 : Ref sig .tc := ⟨.hbm, 24, rfl⟩
abbrev main_v2_3 : Ref sig .tc := ⟨.hbm, 25, rfl⟩
abbrev main_v2_4 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_cst : Ref sig .tc := ⟨.hbm, 34, rfl⟩
abbrev main_v10 : Ref sig .tc := ⟨.hbm, 35, rfl⟩
abbrev main_v11 : Ref sig .tc := ⟨.hbm, 36, rfl⟩
abbrev main_cst_0 : Ref sig .tc := ⟨.hbm, 37, rfl⟩
abbrev main_v12 : Ref sig .tc := ⟨.hbm, 38, rfl⟩
abbrev main_v13 : Ref sig .tc := ⟨.hbm, 39, rfl⟩
abbrev main_cst_1 : Ref sig .tc := ⟨.hbm, 40, rfl⟩
abbrev main_v14 : Ref sig .tc := ⟨.hbm, 41, rfl⟩
abbrev main_v15 : Ref sig .tc := ⟨.hbm, 42, rfl⟩
abbrev main_cst_2 : Ref sig .tc := ⟨.hbm, 43, rfl⟩
abbrev main_v16 : Ref sig .tc := ⟨.hbm, 44, rfl⟩
abbrev main_v17 : Ref sig .tc := ⟨.hbm, 45, rfl⟩
abbrev main_cst_3 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38_0 : Ref sig .tc := ⟨.hbm, 67, rfl⟩
abbrev main_v38_1 : Ref sig .tc := ⟨.hbm, 68, rfl⟩
abbrev main_v38_2 : Ref sig .tc := ⟨.hbm, 69, rfl⟩
abbrev main_v39 : Ref sig .tc := ⟨.hbm, 70, rfl⟩
abbrev main_v40_0 : Ref sig .tc := ⟨.hbm, 71, rfl⟩
abbrev main_v40_1 : Ref sig .tc := ⟨.hbm, 72, rfl⟩
abbrev main_v40_2 : Ref sig .tc := ⟨.hbm, 73, rfl⟩
abbrev main_v40_3 : Ref sig .tc := ⟨.hbm, 74, rfl⟩
abbrev main_v40_4 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44_0 : Ref sig .tc := ⟨.hbm, 79, rfl⟩
abbrev main_v44_1 : Ref sig .tc := ⟨.hbm, 80, rfl⟩
abbrev main_v44_2 : Ref sig .tc := ⟨.hbm, 81, rfl⟩
abbrev main_v44_3 : Ref sig .tc := ⟨.hbm, 82, rfl⟩
abbrev main_v44_4 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49_0 : Ref sig .tc := ⟨.hbm, 88, rfl⟩
abbrev main_v49_1 : Ref sig .tc := ⟨.hbm, 89, rfl⟩
abbrev main_v49_2 : Ref sig .tc := ⟨.hbm, 90, rfl⟩
abbrev main_v49_3 : Ref sig .tc := ⟨.hbm, 91, rfl⟩
abbrev main_v49_4 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_scratch0 : Ref sig .tc := ⟨.vmem, 20, rfl⟩
abbrev cc2_stg0_0 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_scratch0 : Ref sig .tc := ⟨.vmem, 28, rfl⟩
abbrev cc3_stg0_0 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg5_0 : Ref sig .tc := ⟨.vmem, 34, rfl⟩
abbrev cc3_stg5_1 : Ref sig .tc := ⟨.vmem, 35, rfl⟩
abbrev cc3_scratch0 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg1_1 : Ref sig .tc := ⟨.vmem, 40, rfl⟩
abbrev cc4_stg2_0 : Ref sig .tc := ⟨.vmem, 41, rfl⟩
abbrev cc4_stg2_1 : Ref sig .tc := ⟨.vmem, 42, rfl⟩
abbrev cc4_stg3_0 : Ref sig .tc := ⟨.vmem, 43, rfl⟩
abbrev cc4_stg3_1 : Ref sig .tc := ⟨.vmem, 44, rfl⟩
abbrev cc4_stg4_0 : Ref sig .tc := ⟨.vmem, 45, rfl⟩
abbrev cc4_stg4_1 : Ref sig .tc := ⟨.vmem, 46, rfl⟩
abbrev cc4_stg5_0 : Ref sig .tc := ⟨.vmem, 47, rfl⟩
abbrev cc4_stg5_1 : Ref sig .tc := ⟨.vmem, 48, rfl⟩
abbrev cc4_stg6_0 : Ref sig .tc := ⟨.vmem, 49, rfl⟩
abbrev cc4_stg6_1 : Ref sig .tc := ⟨.vmem, 50, rfl⟩
abbrev cc4_stg7_0 : Ref sig .tc := ⟨.vmem, 51, rfl⟩
abbrev cc4_stg7_1 : Ref sig .tc := ⟨.vmem, 52, rfl⟩
abbrev cc5_stg0_0 : Ref sig .tc := ⟨.vmem, 53, rfl⟩
abbrev cc5_stg0_1 : Ref sig .tc := ⟨.vmem, 54, rfl⟩
abbrev cc5_stg1_0 : Ref sig .tc := ⟨.vmem, 55, rfl⟩
abbrev cc5_stg2_0 : Ref sig .tc := ⟨.vmem, 56, rfl⟩
abbrev cc5_stg2_1 : Ref sig .tc := ⟨.vmem, 57, rfl⟩
abbrev cc5_stg3_0 : Ref sig .tc := ⟨.vmem, 58, rfl⟩
abbrev cc5_stg3_1 : Ref sig .tc := ⟨.vmem, 59, rfl⟩
abbrev cc5_stg4_0 : Ref sig .tc := ⟨.vmem, 60, rfl⟩
abbrev cc5_stg4_1 : Ref sig .tc := ⟨.vmem, 61, rfl⟩
abbrev cc5_stg5_0 : Ref sig .tc := ⟨.vmem, 62, rfl⟩
abbrev cc5_stg5_1 : Ref sig .tc := ⟨.vmem, 63, rfl⟩
abbrev cc5_stg6_0 : Ref sig .tc := ⟨.vmem, 64, rfl⟩
abbrev cc5_stg6_1 : Ref sig .tc := ⟨.vmem, 65, rfl⟩
abbrev cc6_stg0_0 : Ref sig .tc := ⟨.vmem, 66, rfl⟩
abbrev cc6_stg1_0 : Ref sig .tc := ⟨.vmem, 67, rfl⟩
abbrev cc6_stg1_1 : Ref sig .tc := ⟨.vmem, 68, rfl⟩
abbrev cc6_stg2_0 : Ref sig .tc := ⟨.vmem, 69, rfl⟩
abbrev cc6_stg3_0 : Ref sig .tc := ⟨.vmem, 70, rfl⟩
abbrev cc6_stg5_0 : Ref sig .tc := ⟨.vmem, 71, rfl⟩
abbrev cc6_stg5_1 : Ref sig .tc := ⟨.vmem, 72, rfl⟩
abbrev cc6_stg6_0 : Ref sig .tc := ⟨.vmem, 73, rfl⟩
abbrev cc6_stg6_1 : Ref sig .tc := ⟨.vmem, 74, rfl⟩
abbrev cc6_scratch0 : Ref sig .tc := ⟨.vmem, 75, rfl⟩
abbrev cc7_stg0_0 : Ref sig .tc := ⟨.vmem, 76, rfl⟩
abbrev cc7_stg0_1 : Ref sig .tc := ⟨.vmem, 77, rfl⟩
abbrev cc7_stg1_0 : Ref sig .tc := ⟨.vmem, 78, rfl⟩
abbrev cc7_stg2_0 : Ref sig .tc := ⟨.vmem, 79, rfl⟩
abbrev cc7_stg2_1 : Ref sig .tc := ⟨.vmem, 80, rfl⟩
abbrev cc7_stg3_0 : Ref sig .tc := ⟨.vmem, 81, rfl⟩
abbrev cc7_stg3_1 : Ref sig .tc := ⟨.vmem, 82, rfl⟩
abbrev cc7_stg4_0 : Ref sig .tc := ⟨.vmem, 83, rfl⟩
abbrev cc7_stg4_1 : Ref sig .tc := ⟨.vmem, 84, rfl⟩
abbrev cc7_stg5_0 : Ref sig .tc := ⟨.vmem, 85, rfl⟩
abbrev cc7_stg5_1 : Ref sig .tc := ⟨.vmem, 86, rfl⟩
abbrev cc7_stg6_0 : Ref sig .tc := ⟨.vmem, 87, rfl⟩
abbrev cc7_stg6_1 : Ref sig .tc := ⟨.vmem, 88, rfl⟩
abbrev cc8_stg0_0 : Ref sig .tc := ⟨.vmem, 89, rfl⟩
abbrev cc8_stg1_0 : Ref sig .tc := ⟨.vmem, 90, rfl⟩
abbrev cc8_stg1_1 : Ref sig .tc := ⟨.vmem, 91, rfl⟩
abbrev cc8_stg2_0 : Ref sig .tc := ⟨.vmem, 92, rfl⟩
abbrev cc8_stg2_1 : Ref sig .tc := ⟨.vmem, 93, rfl⟩
abbrev cc8_stg3_0 : Ref sig .tc := ⟨.vmem, 94, rfl⟩
abbrev cc8_stg4_0 : Ref sig .tc := ⟨.vmem, 95, rfl⟩
abbrev cc8_stg7_0 : Ref sig .tc := ⟨.vmem, 96, rfl⟩
abbrev cc8_stg7_1 : Ref sig .tc := ⟨.vmem, 97, rfl⟩
abbrev cc8_scratch0 : Ref sig .tc := ⟨.vmem, 98, rfl⟩
abbrev cc9_stg0_0 : Ref sig .tc := ⟨.vmem, 99, rfl⟩
abbrev cc9_stg0_1 : Ref sig .tc := ⟨.vmem, 100, rfl⟩
abbrev cc9_stg1_0 : Ref sig .tc := ⟨.vmem, 101, rfl⟩
abbrev cc9_stg2_0 : Ref sig .tc := ⟨.vmem, 102, rfl⟩
abbrev cc9_stg2_1 : Ref sig .tc := ⟨.vmem, 103, rfl⟩
abbrev cc9_stg3_0 : Ref sig .tc := ⟨.vmem, 104, rfl⟩
abbrev cc9_stg3_1 : Ref sig .tc := ⟨.vmem, 105, rfl⟩
abbrev cc9_stg4_0 : Ref sig .tc := ⟨.vmem, 106, rfl⟩
abbrev cc9_stg4_1 : Ref sig .tc := ⟨.vmem, 107, rfl⟩
abbrev cc9_stg5_0 : Ref sig .tc := ⟨.vmem, 108, rfl⟩
abbrev cc9_stg5_1 : Ref sig .tc := ⟨.vmem, 109, rfl⟩
abbrev cc9_stg6_0 : Ref sig .tc := ⟨.vmem, 110, rfl⟩
abbrev cc9_stg6_1 : Ref sig .tc := ⟨.vmem, 111, rfl⟩
abbrev cc10_stg0_0 : Ref sig .tc := ⟨.vmem, 112, rfl⟩
abbrev cc10_stg1_0 : Ref sig .tc := ⟨.vmem, 113, rfl⟩
abbrev cc10_stg1_1 : Ref sig .tc := ⟨.vmem, 114, rfl⟩
abbrev cc10_stg2_0 : Ref sig .tc := ⟨.vmem, 115, rfl⟩
abbrev cc10_stg3_0 : Ref sig .tc := ⟨.vmem, 116, rfl⟩
abbrev cc10_stg5_0 : Ref sig .tc := ⟨.vmem, 117, rfl⟩
abbrev cc10_stg5_1 : Ref sig .tc := ⟨.vmem, 118, rfl⟩
abbrev cc10_stg6_0 : Ref sig .tc := ⟨.vmem, 119, rfl⟩
abbrev cc10_stg6_1 : Ref sig .tc := ⟨.vmem, 120, rfl⟩
abbrev cc10_scratch0 : Ref sig .tc := ⟨.vmem, 121, rfl⟩
abbrev cc1_stg4_0 : Ref sig .tc := ⟨.smem, 0, rfl⟩
abbrev cc2_stg4_0 : Ref sig .tc := ⟨.smem, 1, rfl⟩
abbrev cc3_stg4_0 : Ref sig .tc := ⟨.smem, 2, rfl⟩
abbrev cc6_stg4_0 : Ref sig .tc := ⟨.smem, 3, rfl⟩
abbrev cc8_stg5_0 : Ref sig .tc := ⟨.smem, 4, rfl⟩
abbrev cc8_stg6_0 : Ref sig .tc := ⟨.smem, 5, rfl⟩
abbrev cc10_stg4_0 : Ref sig .tc := ⟨.smem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev cc2_sem0_0 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem5_1 : DmaSem sig := 28
abbrev cc3_sem0_0 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem5_1 : DmaSem sig := 36
abbrev cc4_sem0_0 : DmaSem sig := 37
abbrev cc4_sem0_1 : DmaSem sig := 38
abbrev cc4_sem1_0 : DmaSem sig := 39
abbrev cc4_sem1_1 : DmaSem sig := 40
abbrev cc4_sem2_0 : DmaSem sig := 41
abbrev cc4_sem2_1 : DmaSem sig := 42
abbrev cc4_sem3_0 : DmaSem sig := 43
abbrev cc4_sem3_1 : DmaSem sig := 44
abbrev cc4_sem4_0 : DmaSem sig := 45
abbrev cc4_sem4_1 : DmaSem sig := 46
abbrev cc4_sem5_0 : DmaSem sig := 47
abbrev cc4_sem5_1 : DmaSem sig := 48
abbrev cc4_sem6_0 : DmaSem sig := 49
abbrev cc4_sem6_1 : DmaSem sig := 50
abbrev cc4_sem7_0 : DmaSem sig := 51
abbrev cc4_sem7_1 : DmaSem sig := 52
abbrev cc5_sem0_0 : DmaSem sig := 53
abbrev cc5_sem0_1 : DmaSem sig := 54
abbrev cc5_sem1_0 : DmaSem sig := 55
abbrev cc5_sem2_0 : DmaSem sig := 56
abbrev cc5_sem2_1 : DmaSem sig := 57
abbrev cc5_sem3_0 : DmaSem sig := 58
abbrev cc5_sem3_1 : DmaSem sig := 59
abbrev cc5_sem4_0 : DmaSem sig := 60
abbrev cc5_sem4_1 : DmaSem sig := 61
abbrev cc5_sem5_0 : DmaSem sig := 62
abbrev cc5_sem5_1 : DmaSem sig := 63
abbrev cc5_sem6_0 : DmaSem sig := 64
abbrev cc5_sem6_1 : DmaSem sig := 65
abbrev cc6_sem0_0 : DmaSem sig := 66
abbrev cc6_sem1_0 : DmaSem sig := 67
abbrev cc6_sem1_1 : DmaSem sig := 68
abbrev cc6_sem2_0 : DmaSem sig := 69
abbrev cc6_sem3_0 : DmaSem sig := 70
abbrev cc6_sem4_0 : DmaSem sig := 71
abbrev cc6_sem5_0 : DmaSem sig := 72
abbrev cc6_sem5_1 : DmaSem sig := 73
abbrev cc6_sem6_0 : DmaSem sig := 74
abbrev cc6_sem6_1 : DmaSem sig := 75
abbrev cc7_sem0_0 : DmaSem sig := 76
abbrev cc7_sem0_1 : DmaSem sig := 77
abbrev cc7_sem1_0 : DmaSem sig := 78
abbrev cc7_sem2_0 : DmaSem sig := 79
abbrev cc7_sem2_1 : DmaSem sig := 80
abbrev cc7_sem3_0 : DmaSem sig := 81
abbrev cc7_sem3_1 : DmaSem sig := 82
abbrev cc7_sem4_0 : DmaSem sig := 83
abbrev cc7_sem4_1 : DmaSem sig := 84
abbrev cc7_sem5_0 : DmaSem sig := 85
abbrev cc7_sem5_1 : DmaSem sig := 86
abbrev cc7_sem6_0 : DmaSem sig := 87
abbrev cc7_sem6_1 : DmaSem sig := 88
abbrev cc8_sem0_0 : DmaSem sig := 89
abbrev cc8_sem1_0 : DmaSem sig := 90
abbrev cc8_sem1_1 : DmaSem sig := 91
abbrev cc8_sem2_0 : DmaSem sig := 92
abbrev cc8_sem2_1 : DmaSem sig := 93
abbrev cc8_sem3_0 : DmaSem sig := 94
abbrev cc8_sem4_0 : DmaSem sig := 95
abbrev cc8_sem5_0 : DmaSem sig := 96
abbrev cc8_sem6_0 : DmaSem sig := 97
abbrev cc8_sem7_0 : DmaSem sig := 98
abbrev cc8_sem7_1 : DmaSem sig := 99
abbrev cc9_sem0_0 : DmaSem sig := 100
abbrev cc9_sem0_1 : DmaSem sig := 101
abbrev cc9_sem1_0 : DmaSem sig := 102
abbrev cc9_sem2_0 : DmaSem sig := 103
abbrev cc9_sem2_1 : DmaSem sig := 104
abbrev cc9_sem3_0 : DmaSem sig := 105
abbrev cc9_sem3_1 : DmaSem sig := 106
abbrev cc9_sem4_0 : DmaSem sig := 107
abbrev cc9_sem4_1 : DmaSem sig := 108
abbrev cc9_sem5_0 : DmaSem sig := 109
abbrev cc9_sem5_1 : DmaSem sig := 110
abbrev cc9_sem6_0 : DmaSem sig := 111
abbrev cc9_sem6_1 : DmaSem sig := 112
abbrev cc10_sem0_0 : DmaSem sig := 113
abbrev cc10_sem1_0 : DmaSem sig := 114
abbrev cc10_sem1_1 : DmaSem sig := 115
abbrev cc10_sem2_0 : DmaSem sig := 116
abbrev cc10_sem3_0 : DmaSem sig := 117
abbrev cc10_sem4_0 : DmaSem sig := 118
abbrev cc10_sem5_0 : DmaSem sig := 119
abbrev cc10_sem5_1 : DmaSem sig := 120
abbrev cc10_sem6_0 : DmaSem sig := 121
abbrev cc10_sem6_1 : DmaSem sig := 122

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x6144 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x6144 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![12], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S256x6144 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1536x512 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .smem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![3], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S256x6144 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S1536x256 .i8 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .smem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S256x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![3], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S256x6144 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S1536x256 .i8 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .smem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S256x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![2], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S128x6144 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S128x768 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S128x768 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S128x768 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S128x768 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S128x6144 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S128x768 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S128x6144 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S32x6144 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x6144 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S32x6144 .i8 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S32x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S32x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S32x6144 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S32x1 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![12], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage6_0 : Fin 1 → Memref sig .tc .vmem S256x6144 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 2 → Memref sig .tc .vmem S1536x512 .i8 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S256x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .smem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S256x512 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S256x512 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S32x6144 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x6144 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S32x6144 .i8 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S32x1 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S32x1 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S32x6144 .bf16 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S32x1 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![32], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage8_0 : Fin 1 → Memref sig .tc .vmem S256x6144 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 2 → Memref sig .tc .vmem S1536x512 .i8 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S1536x512 .i8 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S256x1 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S256x1 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .smem S1x1 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .smem S1x1 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 2 → Memref sig .tc .vmem S256x512 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev grid9 : Pipeline.Grid := ⟨1, ![8], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S32x16384 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x16384 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S32x16384 .i8 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S32x1 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S32x1 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 2 → Memref sig .tc .vmem S32x16384 .bf16 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 2 → Memref sig .tc .vmem S32x1 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev grid10 : Pipeline.Grid := ⟨1, ![24], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_1 (i : grid10.Coords) : Fin 2 → Nat :=
  let arg0 : BitVec 32 := BitVec.ofNat 32 (i 0).val
  let c0_i32 : BitVec 32 := 0#32
  let c0_i32_0 : BitVec 32 := 0#32
  ![c0_i32.toNat, arg0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![c0_i32.toNat, arg0.toNat]

def cc10_transform_6 (i : grid10.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage10_0 : Fin 1 → Memref sig .tc .vmem S256x16384 .bf16 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![false]

abbrev stage10_1 : Fin 2 → Memref sig .tc .vmem S4096x256 .i8 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S256x1 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S256x1 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .smem S1x1 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S256x256 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev stage10_6 : Fin 2 → Memref sig .tc .vmem S256x256 .bf16 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]
-- ==== ReferenceIdeal.lean ====
abbrev S2x128x6144 : Shape := ⟨3, ![2, 128, 6144]⟩
abbrev S2 : Shape := ⟨1, ![2]⟩
abbrev S6144 : Shape := ⟨1, ![6144]⟩
abbrev S1536x6144 : Shape := ⟨2, ![1536, 6144]⟩
abbrev S_ : Shape := ⟨0, ![]⟩
abbrev S1536x768 : Shape := ⟨2, ![1536, 768]⟩
abbrev S1536x16384 : Shape := ⟨2, ![1536, 16384]⟩
abbrev S16384 : Shape := ⟨1, ![16384]⟩
abbrev S4096x6144 : Shape := ⟨2, ![4096, 6144]⟩
abbrev S2x128 : Shape := ⟨2, ![2, 128]⟩
abbrev S2x128x1 : Shape := ⟨3, ![2, 128, 1]⟩
abbrev S1x1x6144 : Shape := ⟨3, ![1, 1, 6144]⟩
abbrev S256x1536x4 : Shape := ⟨3, ![256, 1536, 4]⟩
abbrev S4x256x1536 : Shape := ⟨3, ![4, 256, 1536]⟩
abbrev S4 : Shape := ⟨1, ![4]⟩
abbrev S4x1x1 : Shape := ⟨3, ![4, 1, 1]⟩
abbrev S1x1536x6144 : Shape := ⟨3, ![1, 1536, 6144]⟩
abbrev S4x1536x6144 : Shape := ⟨3, ![4, 1536, 6144]⟩
abbrev S256x6144 : Shape := ⟨2, ![256, 6144]⟩
abbrev S2x128x64x96 : Shape := ⟨4, ![2, 128, 64, 96]⟩
abbrev S1x1536x768 : Shape := ⟨3, ![1, 1536, 768]⟩
abbrev S4x1536x768 : Shape := ⟨3, ![4, 1536, 768]⟩
abbrev S256x768 : Shape := ⟨2, ![256, 768]⟩
abbrev S2x128x768 : Shape := ⟨3, ![2, 128, 768]⟩
abbrev S2x128x8x96 : Shape := ⟨4, ![2, 128, 8, 96]⟩
abbrev S48 : Shape := ⟨1, ![48]⟩
abbrev S2x1 : Shape := ⟨2, ![2, 1]⟩
abbrev S128 : Shape := ⟨1, ![128]⟩
abbrev S1x128 : Shape := ⟨2, ![1, 128]⟩
abbrev S1x1x48 : Shape := ⟨3, ![1, 1, 48]⟩
abbrev S2x128x48 : Shape := ⟨3, ![2, 128, 48]⟩
abbrev S2x128x96 : Shape := ⟨3, ![2, 128, 96]⟩
abbrev S2x128x1x96 : Shape := ⟨4, ![2, 128, 1, 96]⟩
abbrev S2x128x64x48 : Shape := ⟨4, ![2, 128, 64, 48]⟩
abbrev S2x128x8x48 : Shape := ⟨4, ![2, 128, 8, 48]⟩
abbrev S2x128x8x8x96 : Shape := ⟨5, ![2, 128, 8, 8, 96]⟩
abbrev S2x8x128x128x8 : Shape := ⟨5, ![2, 8, 128, 128, 8]⟩
abbrev S2x8x8x128x128 : Shape := ⟨5, ![2, 8, 8, 128, 128]⟩
abbrev S128x1 : Shape := ⟨2, ![128, 1]⟩
abbrev S128x128 : Shape := ⟨2, ![128, 128]⟩
abbrev S2x8x8x128 : Shape := ⟨4, ![2, 8, 8, 128]⟩
abbrev S2x8x8x128x1 : Shape := ⟨5, ![2, 8, 8, 128, 1]⟩
abbrev S2x8x96x8x128 : Shape := ⟨5, ![2, 8, 96, 8, 128]⟩
abbrev S1x1536x16384 : Shape := ⟨3, ![1, 1536, 16384]⟩
abbrev S4x1536x16384 : Shape := ⟨3, ![4, 1536, 16384]⟩
abbrev S256x16384 : Shape := ⟨2, ![256, 16384]⟩
abbrev S2x128x16384 : Shape := ⟨3, ![2, 128, 16384]⟩
abbrev S1x1x16384 : Shape := ⟨3, ![1, 1, 16384]⟩
abbrev S256x4096x4 : Shape := ⟨3, ![256, 4096, 4]⟩
abbrev S4x256x4096 : Shape := ⟨3, ![4, 256, 4096]⟩
abbrev S1x4096x6144 : Shape := ⟨3, ![1, 4096, 6144]⟩
abbrev S4x4096x6144 : Shape := ⟨3, ![4, 4096, 6144]⟩

abbrev nBuf : Space → Nat
  | .hbm => 502
  | .vmem => 0
  | .smem => 0
  | _ => 0

abbrev hbmTy0_0 (i : Nat) : BufTy := match i % 128 with
  | 0 => ⟨S2x128x6144, .bf16⟩
  | 1 => ⟨S2, .i32⟩
  | 2 => ⟨S6144, .f32⟩
  | 3 => ⟨S1536x6144, .i8⟩
  | 4 => ⟨S_, .f32⟩
  | 5 => ⟨S1536x768, .i8⟩
  | 6 => ⟨S_, .f32⟩
  | 7 => ⟨S1536x768, .i8⟩
  | 8 => ⟨S_, .f32⟩
  | 9 => ⟨S6144, .f32⟩
  | 10 => ⟨S1536x6144, .i8⟩
  | 11 => ⟨S_, .f32⟩
  | 12 => ⟨S6144, .f32⟩
  | 13 => ⟨S1536x16384, .i8⟩
  | 14 => ⟨S_, .f32⟩
  | 15 => ⟨S1536x16384, .i8⟩
  | 16 => ⟨S_, .f32⟩
  | 17 => ⟨S16384, .f32⟩
  | 18 => ⟨S4096x6144, .i8⟩
  | 19 => ⟨S_, .f32⟩
  | 20 => ⟨S2x128x6144, .f32⟩
  | 21 => ⟨S2x128x6144, .f32⟩
  | 22 => ⟨S_, .f32⟩
  | 23 => ⟨S2x128, .f32⟩
  | 24 => ⟨S_, .f32⟩
  | 25 => ⟨S2x128, .f32⟩
  | 26 => ⟨S2x128, .f32⟩
  | 27 => ⟨S_, .f32⟩
  | 28 => ⟨S2x128, .f32⟩
  | 29 => ⟨S2x128, .f32⟩
  | 30 => ⟨S2x128, .f32⟩
  | 31 => ⟨S2x128x1, .f32⟩
  | 32 => ⟨S2x128x6144, .f32⟩
  | 33 => ⟨S2x128x6144, .f32⟩
  | 34 => ⟨S1x1x6144, .f32⟩
  | 35 => ⟨S2x128x6144, .f32⟩
  | 36 => ⟨S2x128x6144, .f32⟩
  | 37 => ⟨S2x128x6144, .f32⟩
  | 38 => ⟨S_, .f32⟩
  | 39 => ⟨S2x128, .f32⟩
  | 40 => ⟨S_, .f32⟩
  | 41 => ⟨S2x128, .f32⟩
  | 42 => ⟨S2x128, .i1⟩
  | 43 => ⟨S_, .f32⟩
  | 44 => ⟨S2x128, .f32⟩
  | 45 => ⟨S2x128, .f32⟩
  | 46 => ⟨S_, .f32⟩
  | 47 => ⟨S_, .f32⟩
  | 48 => ⟨S2x128, .f32⟩
  | 49 => ⟨S2x128, .f32⟩
  | 50 => ⟨S2x128x1, .f32⟩
  | 51 => ⟨S2x128x6144, .f32⟩
  | 52 => ⟨S2x128x6144, .f32⟩
  | 53 => ⟨S2x128x6144, .f32⟩
  | 54 => ⟨S_, .i32⟩
  | 55 => ⟨S_, .i32⟩
  | 56 => ⟨S_, .f32⟩
  | 57 => ⟨S2x128x6144, .f32⟩
  | 58 => ⟨S2x128x6144, .f32⟩
  | 59 => ⟨S_, .f32⟩
  | 60 => ⟨S2x128x6144, .f32⟩
  | 61 => ⟨S2x128x6144, .f32⟩
  | 62 => ⟨S2x128x6144, .i32⟩
  | 63 => ⟨S2x128x6144, .i8⟩
  | 64 => ⟨S2x128x6144, .i32⟩
  | 65 => ⟨S2x128x6144, .f32⟩
  | 66 => ⟨S2x128x6144, .bf16⟩
  | 67 => ⟨S256x1536x4, .bf16⟩
  | 68 => ⟨S4x256x1536, .bf16⟩
  | 69 => ⟨S4, .i32⟩
  | 70 => ⟨S_, .i32⟩
  | 71 => ⟨S4, .i32⟩
  | 72 => ⟨S4, .i32⟩
  | 73 => ⟨S4x1x1, .i32⟩
  | 74 => ⟨S1536x6144, .i32⟩
  | 75 => ⟨S1x1536x6144, .i32⟩
  | 76 => ⟨S4x1536x6144, .i32⟩
  | 77 => ⟨S4x1536x6144, .i32⟩
  | 78 => ⟨S4x1536x6144, .i32⟩
  | 79 => ⟨S_, .i32⟩
  | 80 => ⟨S4x1536x6144, .i32⟩
  | 81 => ⟨S4x1536x6144, .i32⟩
  | 82 => ⟨S_, .i32⟩
  | 83 => ⟨S4x1536x6144, .i32⟩
  | 84 => ⟨S4x1536x6144, .i32⟩
  | 85 => ⟨S4x1536x6144, .f32⟩
  | 86 => ⟨S4x1536x6144, .bf16⟩
  | 87 => ⟨S256x6144, .f32⟩
  | 88 => ⟨S2x128x6144, .f32⟩
  | 89 => ⟨S2x128x1, .f32⟩
  | 90 => ⟨S2x128x6144, .f32⟩
  | 91 => ⟨S2x128x6144, .f32⟩
  | 92 => ⟨S2x128x6144, .f32⟩
  | 93 => ⟨S2x128x6144, .f32⟩
  | 94 => ⟨S2x128x64x96, .f32⟩
  | 95 => ⟨S2x128x6144, .i32⟩
  | 96 => ⟨S2x128x6144, .f32⟩
  | 97 => ⟨S2x128x6144, .bf16⟩
  | 98 => ⟨S256x1536x4, .bf16⟩
  | 99 => ⟨S4x256x1536, .bf16⟩
  | 100 => ⟨S4, .i32⟩
  | 101 => ⟨S_, .i32⟩
  | 102 => ⟨S4, .i32⟩
  | 103 => ⟨S4, .i32⟩
  | 104 => ⟨S4x1x1, .i32⟩
  | 105 => ⟨S1536x768, .i32⟩
  | 106 => ⟨S1x1536x768, .i32⟩
  | 107 => ⟨S4x1536x768, .i32⟩
  | 108 => ⟨S4x1536x768, .i32⟩
  | 109 => ⟨S4x1536x768, .i32⟩
  | 110 => ⟨S_, .i32⟩
  | 111 => ⟨S4x1536x768, .i32⟩
  | 112 => ⟨S4x1536x768, .i32⟩
  | 113 => ⟨S_, .i32⟩
  | 114 => ⟨S4x1536x768, .i32⟩
  | 115 => ⟨S4x1536x768, .i32⟩
  | 116 => ⟨S4x1536x768, .f32⟩
  | 117 => ⟨S4x1536x768, .bf16⟩
  | 118 => ⟨S256x768, .f32⟩
  | 119 => ⟨S2x128x768, .f32⟩
  | 120 => ⟨S2x128x1, .f32⟩
  | 121 => ⟨S2x128x768, .f32⟩
  | 122 => ⟨S2x128x768, .f32⟩
  | 123 => ⟨S2x128x768, .f32⟩
  | 124 => ⟨S2x128x768, .f32⟩
  | 125 => ⟨S2x128x8x96, .f32⟩
  | 126 => ⟨S2x128x6144, .i32⟩
  | 127 => ⟨S2x128x6144, .f32⟩
  | _ => ⟨S2x128x6144, .bf16⟩

abbrev hbmTy0_1 (i : Nat) : BufTy := match i % 128 with
  | 0 => ⟨S2x128x6144, .bf16⟩
  | 1 => ⟨S256x1536x4, .bf16⟩
  | 2 => ⟨S4x256x1536, .bf16⟩
  | 3 => ⟨S4, .i32⟩
  | 4 => ⟨S_, .i32⟩
  | 5 => ⟨S4, .i32⟩
  | 6 => ⟨S4, .i32⟩
  | 7 => ⟨S4x1x1, .i32⟩
  | 8 => ⟨S1536x768, .i32⟩
  | 9 => ⟨S1x1536x768, .i32⟩
  | 10 => ⟨S4x1536x768, .i32⟩
  | 11 => ⟨S4x1536x768, .i32⟩
  | 12 => ⟨S4x1536x768, .i32⟩
  | 13 => ⟨S_, .i32⟩
  | 14 => ⟨S4x1536x768, .i32⟩
  | 15 => ⟨S4x1536x768, .i32⟩
  | 16 => ⟨S_, .i32⟩
  | 17 => ⟨S4x1536x768, .i32⟩
  | 18 => ⟨S4x1536x768, .i32⟩
  | 19 => ⟨S4x1536x768, .f32⟩
  | 20 => ⟨S4x1536x768, .bf16⟩
  | 21 => ⟨S256x768, .f32⟩
  | 22 => ⟨S2x128x768, .f32⟩
  | 23 => ⟨S2x128x1, .f32⟩
  | 24 => ⟨S2x128x768, .f32⟩
  | 25 => ⟨S2x128x768, .f32⟩
  | 26 => ⟨S2x128x768, .f32⟩
  | 27 => ⟨S2x128x768, .f32⟩
  | 28 => ⟨S2x128x8x96, .f32⟩
  | 29 => ⟨S48, .f32⟩
  | 30 => ⟨S_, .f32⟩
  | 31 => ⟨S48, .f32⟩
  | 32 => ⟨S48, .f32⟩
  | 33 => ⟨S_, .f32⟩
  | 34 => ⟨S48, .f32⟩
  | 35 => ⟨S48, .f32⟩
  | 36 => ⟨S_, .f32⟩
  | 37 => ⟨S48, .f32⟩
  | 38 => ⟨S48, .f32⟩
  | 39 => ⟨S_, .f32⟩
  | 40 => ⟨S48, .f32⟩
  | 41 => ⟨S48, .f32⟩
  | 42 => ⟨S_, .f32⟩
  | 43 => ⟨S48, .f32⟩
  | 44 => ⟨S48, .f32⟩
  | 45 => ⟨S2x1, .i32⟩
  | 46 => ⟨S128, .i32⟩
  | 47 => ⟨S1x128, .i32⟩
  | 48 => ⟨S2x128, .i32⟩
  | 49 => ⟨S2x128, .i32⟩
  | 50 => ⟨S2x128, .i32⟩
  | 51 => ⟨S2x128, .f32⟩
  | 52 => ⟨S2x128x1, .f32⟩
  | 53 => ⟨S1x1x48, .f32⟩
  | 54 => ⟨S2x128x48, .f32⟩
  | 55 => ⟨S2x128x48, .f32⟩
  | 56 => ⟨S2x128x48, .f32⟩
  | 57 => ⟨S2x128x96, .f32⟩
  | 58 => ⟨S2x128x1x96, .f32⟩
  | 59 => ⟨S2x128x1x96, .f32⟩
  | 60 => ⟨S2x128x1x96, .f32⟩
  | 61 => ⟨S2x128x64x96, .f32⟩
  | 62 => ⟨S2x128x64x96, .f32⟩
  | 63 => ⟨S2x128x64x48, .f32⟩
  | 64 => ⟨S2x128x64x48, .f32⟩
  | 65 => ⟨S2x128x64x48, .f32⟩
  | 66 => ⟨S2x128x64x96, .f32⟩
  | 67 => ⟨S2x128x64x96, .f32⟩
  | 68 => ⟨S2x128x64x96, .f32⟩
  | 69 => ⟨S2x128x64x96, .f32⟩
  | 70 => ⟨S2x128x64x96, .bf16⟩
  | 71 => ⟨S2x128x8x96, .f32⟩
  | 72 => ⟨S2x128x8x96, .f32⟩
  | 73 => ⟨S2x128x8x48, .f32⟩
  | 74 => ⟨S2x128x8x48, .f32⟩
  | 75 => ⟨S2x128x8x48, .f32⟩
  | 76 => ⟨S2x128x8x96, .f32⟩
  | 77 => ⟨S2x128x8x96, .f32⟩
  | 78 => ⟨S2x128x8x96, .f32⟩
  | 79 => ⟨S2x128x8x96, .f32⟩
  | 80 => ⟨S2x128x8x96, .bf16⟩
  | 81 => ⟨S2x128x8x96, .bf16⟩
  | 82 => ⟨S2x128x8x8x96, .bf16⟩
  | 83 => ⟨S2x8x128x128x8, .f32⟩
  | 84 => ⟨S2x8x8x128x128, .f32⟩
  | 85 => ⟨S_, .f32⟩
  | 86 => ⟨S2x8x8x128x128, .f32⟩
  | 87 => ⟨S2x8x8x128x128, .f32⟩
  | 88 => ⟨S128, .i32⟩
  | 89 => ⟨S1x128, .i32⟩
  | 90 => ⟨S128x1, .i32⟩
  | 91 => ⟨S128x128, .i32⟩
  | 92 => ⟨S128x128, .i32⟩
  | 93 => ⟨S128x128, .i1⟩
  | 94 => ⟨S_, .f32⟩
  | 95 => ⟨S_, .f32⟩
  | 96 => ⟨S2x8x8x128x128, .i1⟩
  | 97 => ⟨S2x8x8x128x128, .f32⟩
  | 98 => ⟨S2x8x8x128x128, .f32⟩
  | 99 => ⟨S_, .f32⟩
  | 100 => ⟨S2x8x8x128, .f32⟩
  | 101 => ⟨S_, .f32⟩
  | 102 => ⟨S2x8x8x128, .f32⟩
  | 103 => ⟨S2x8x8x128, .f32⟩
  | 104 => ⟨S2x8x8x128x1, .f32⟩
  | 105 => ⟨S2x8x8x128x128, .f32⟩
  | 106 => ⟨S2x8x8x128x128, .f32⟩
  | 107 => ⟨S2x8x8x128x128, .f32⟩
  | 108 => ⟨S_, .f32⟩
  | 109 => ⟨S2x8x8x128, .f32⟩
  | 110 => ⟨S2x8x8x128x1, .f32⟩
  | 111 => ⟨S2x8x8x128x128, .f32⟩
  | 112 => ⟨S2x8x8x128x128, .f32⟩
  | 113 => ⟨S2x8x8x128x128, .bf16⟩
  | 114 => ⟨S2x8x96x8x128, .f32⟩
  | 115 => ⟨S2x128x8x8x96, .f32⟩
  | 116 => ⟨S2x128x6144, .f32⟩
  | 117 => ⟨S2x128x6144, .f32⟩
  | 118 => ⟨S_, .f32⟩
  | 119 => ⟨S2x128, .f32⟩
  | 120 => ⟨S_, .f32⟩
  | 121 => ⟨S2x128, .f32⟩
  | 122 => ⟨S2x128, .f32⟩
  | 123 => ⟨S_, .f32⟩
  | 124 => ⟨S2x128, .f32⟩
  | 125 => ⟨S2x128, .f32⟩
  | 126 => ⟨S2x128, .f32⟩
  | 127 => ⟨S2x128x1, .f32⟩
  | _ => ⟨S2x128x6144, .bf16⟩

abbrev hbmTy0_2 (i : Nat) : BufTy := match i % 128 with
  | 0 => ⟨S2x128x6144, .f32⟩
  | 1 => ⟨S2x128x6144, .f32⟩
  | 2 => ⟨S1x1x6144, .f32⟩
  | 3 => ⟨S2x128x6144, .f32⟩
  | 4 => ⟨S2x128x6144, .f32⟩
  | 5 => ⟨S2x128x6144, .f32⟩
  | 6 => ⟨S_, .f32⟩
  | 7 => ⟨S2x128, .f32⟩
  | 8 => ⟨S_, .f32⟩
  | 9 => ⟨S2x128, .f32⟩
  | 10 => ⟨S2x128, .i1⟩
  | 11 => ⟨S_, .f32⟩
  | 12 => ⟨S2x128, .f32⟩
  | 13 => ⟨S2x128, .f32⟩
  | 14 => ⟨S_, .f32⟩
  | 15 => ⟨S_, .f32⟩
  | 16 => ⟨S2x128, .f32⟩
  | 17 => ⟨S2x128, .f32⟩
  | 18 => ⟨S2x128x1, .f32⟩
  | 19 => ⟨S2x128x6144, .f32⟩
  | 20 => ⟨S2x128x6144, .f32⟩
  | 21 => ⟨S2x128x6144, .f32⟩
  | 22 => ⟨S_, .i32⟩
  | 23 => ⟨S_, .i32⟩
  | 24 => ⟨S_, .f32⟩
  | 25 => ⟨S2x128x6144, .f32⟩
  | 26 => ⟨S2x128x6144, .f32⟩
  | 27 => ⟨S_, .f32⟩
  | 28 => ⟨S2x128x6144, .f32⟩
  | 29 => ⟨S2x128x6144, .f32⟩
  | 30 => ⟨S2x128x6144, .i32⟩
  | 31 => ⟨S2x128x6144, .i8⟩
  | 32 => ⟨S2x128x6144, .i32⟩
  | 33 => ⟨S2x128x6144, .f32⟩
  | 34 => ⟨S2x128x6144, .bf16⟩
  | 35 => ⟨S256x1536x4, .bf16⟩
  | 36 => ⟨S4x256x1536, .bf16⟩
  | 37 => ⟨S4, .i32⟩
  | 38 => ⟨S_, .i32⟩
  | 39 => ⟨S4, .i32⟩
  | 40 => ⟨S4, .i32⟩
  | 41 => ⟨S4x1x1, .i32⟩
  | 42 => ⟨S1536x6144, .i32⟩
  | 43 => ⟨S1x1536x6144, .i32⟩
  | 44 => ⟨S4x1536x6144, .i32⟩
  | 45 => ⟨S4x1536x6144, .i32⟩
  | 46 => ⟨S4x1536x6144, .i32⟩
  | 47 => ⟨S_, .i32⟩
  | 48 => ⟨S4x1536x6144, .i32⟩
  | 49 => ⟨S4x1536x6144, .i32⟩
  | 50 => ⟨S_, .i32⟩
  | 51 => ⟨S4x1536x6144, .i32⟩
  | 52 => ⟨S4x1536x6144, .i32⟩
  | 53 => ⟨S4x1536x6144, .f32⟩
  | 54 => ⟨S4x1536x6144, .bf16⟩
  | 55 => ⟨S256x6144, .f32⟩
  | 56 => ⟨S2x128x6144, .f32⟩
  | 57 => ⟨S2x128x1, .f32⟩
  | 58 => ⟨S2x128x6144, .f32⟩
  | 59 => ⟨S2x128x6144, .f32⟩
  | 60 => ⟨S2x128x6144, .f32⟩
  | 61 => ⟨S2x128x6144, .f32⟩
  | 62 => ⟨S2x128x6144, .f32⟩
  | 63 => ⟨S2x128x6144, .f32⟩
  | 64 => ⟨S_, .f32⟩
  | 65 => ⟨S2x128, .f32⟩
  | 66 => ⟨S_, .f32⟩
  | 67 => ⟨S2x128, .f32⟩
  | 68 => ⟨S2x128, .f32⟩
  | 69 => ⟨S_, .f32⟩
  | 70 => ⟨S2x128, .f32⟩
  | 71 => ⟨S2x128, .f32⟩
  | 72 => ⟨S2x128, .f32⟩
  | 73 => ⟨S2x128x1, .f32⟩
  | 74 => ⟨S2x128x6144, .f32⟩
  | 75 => ⟨S2x128x6144, .f32⟩
  | 76 => ⟨S1x1x6144, .f32⟩
  | 77 => ⟨S2x128x6144, .f32⟩
  | 78 => ⟨S2x128x6144, .f32⟩
  | 79 => ⟨S2x128x6144, .f32⟩
  | 80 => ⟨S_, .f32⟩
  | 81 => ⟨S2x128, .f32⟩
  | 82 => ⟨S_, .f32⟩
  | 83 => ⟨S2x128, .f32⟩
  | 84 => ⟨S2x128, .i1⟩
  | 85 => ⟨S_, .f32⟩
  | 86 => ⟨S2x128, .f32⟩
  | 87 => ⟨S2x128, .f32⟩
  | 88 => ⟨S_, .f32⟩
  | 89 => ⟨S_, .f32⟩
  | 90 => ⟨S2x128, .f32⟩
  | 91 => ⟨S2x128, .f32⟩
  | 92 => ⟨S2x128x1, .f32⟩
  | 93 => ⟨S2x128x6144, .f32⟩
  | 94 => ⟨S2x128x6144, .f32⟩
  | 95 => ⟨S2x128x6144, .f32⟩
  | 96 => ⟨S_, .i32⟩
  | 97 => ⟨S_, .i32⟩
  | 98 => ⟨S_, .f32⟩
  | 99 => ⟨S2x128x6144, .f32⟩
  | 100 => ⟨S2x128x6144, .f32⟩
  | 101 => ⟨S_, .f32⟩
  | 102 => ⟨S2x128x6144, .f32⟩
  | 103 => ⟨S2x128x6144, .f32⟩
  | 104 => ⟨S2x128x6144, .i32⟩
  | 105 => ⟨S2x128x6144, .i8⟩
  | 106 => ⟨S2x128x6144, .i32⟩
  | 107 => ⟨S2x128x6144, .f32⟩
  | 108 => ⟨S2x128x6144, .bf16⟩
  | 109 => ⟨S256x1536x4, .bf16⟩
  | 110 => ⟨S4x256x1536, .bf16⟩
  | 111 => ⟨S4, .i32⟩
  | 112 => ⟨S_, .i32⟩
  | 113 => ⟨S4, .i32⟩
  | 114 => ⟨S4, .i32⟩
  | 115 => ⟨S4x1x1, .i32⟩
  | 116 => ⟨S1536x16384, .i32⟩
  | 117 => ⟨S1x1536x16384, .i32⟩
  | 118 => ⟨S4x1536x16384, .i32⟩
  | 119 => ⟨S4x1536x16384, .i32⟩
  | 120 => ⟨S4x1536x16384, .i32⟩
  | 121 => ⟨S_, .i32⟩
  | 122 => ⟨S4x1536x16384, .i32⟩
  | 123 => ⟨S4x1536x16384, .i32⟩
  | 124 => ⟨S_, .i32⟩
  | 125 => ⟨S4x1536x16384, .i32⟩
  | 126 => ⟨S4x1536x16384, .i32⟩
  | 127 => ⟨S4x1536x16384, .f32⟩
  | _ => ⟨S2x128x6144, .bf16⟩

abbrev hbmTy0_3 (i : Nat) : BufTy := match i % 128 with
  | 0 => ⟨S4x1536x16384, .bf16⟩
  | 1 => ⟨S256x16384, .f32⟩
  | 2 => ⟨S2x128x16384, .f32⟩
  | 3 => ⟨S2x128x1, .f32⟩
  | 4 => ⟨S2x128x16384, .f32⟩
  | 5 => ⟨S2x128x16384, .f32⟩
  | 6 => ⟨S2x128x16384, .f32⟩
  | 7 => ⟨S2x128x16384, .f32⟩
  | 8 => ⟨S2x128x6144, .i32⟩
  | 9 => ⟨S2x128x6144, .f32⟩
  | 10 => ⟨S2x128x6144, .bf16⟩
  | 11 => ⟨S256x1536x4, .bf16⟩
  | 12 => ⟨S4x256x1536, .bf16⟩
  | 13 => ⟨S4, .i32⟩
  | 14 => ⟨S_, .i32⟩
  | 15 => ⟨S4, .i32⟩
  | 16 => ⟨S4, .i32⟩
  | 17 => ⟨S4x1x1, .i32⟩
  | 18 => ⟨S1536x16384, .i32⟩
  | 19 => ⟨S1x1536x16384, .i32⟩
  | 20 => ⟨S4x1536x16384, .i32⟩
  | 21 => ⟨S4x1536x16384, .i32⟩
  | 22 => ⟨S4x1536x16384, .i32⟩
  | 23 => ⟨S_, .i32⟩
  | 24 => ⟨S4x1536x16384, .i32⟩
  | 25 => ⟨S4x1536x16384, .i32⟩
  | 26 => ⟨S_, .i32⟩
  | 27 => ⟨S4x1536x16384, .i32⟩
  | 28 => ⟨S4x1536x16384, .i32⟩
  | 29 => ⟨S4x1536x16384, .f32⟩
  | 30 => ⟨S4x1536x16384, .bf16⟩
  | 31 => ⟨S256x16384, .f32⟩
  | 32 => ⟨S2x128x16384, .f32⟩
  | 33 => ⟨S2x128x1, .f32⟩
  | 34 => ⟨S2x128x16384, .f32⟩
  | 35 => ⟨S2x128x16384, .f32⟩
  | 36 => ⟨S2x128x16384, .f32⟩
  | 37 => ⟨S2x128x16384, .f32⟩
  | 38 => ⟨S_, .f32⟩
  | 39 => ⟨S2x128x16384, .f32⟩
  | 40 => ⟨S2x128x16384, .f32⟩
  | 41 => ⟨S2x128x16384, .f32⟩
  | 42 => ⟨S2x128x16384, .f32⟩
  | 43 => ⟨S2x128x16384, .f32⟩
  | 44 => ⟨S_, .f32⟩
  | 45 => ⟨S2x128, .f32⟩
  | 46 => ⟨S_, .f32⟩
  | 47 => ⟨S2x128, .f32⟩
  | 48 => ⟨S2x128, .f32⟩
  | 49 => ⟨S_, .f32⟩
  | 50 => ⟨S2x128, .f32⟩
  | 51 => ⟨S2x128, .f32⟩
  | 52 => ⟨S2x128, .f32⟩
  | 53 => ⟨S2x128x1, .f32⟩
  | 54 => ⟨S2x128x16384, .f32⟩
  | 55 => ⟨S2x128x16384, .f32⟩
  | 56 => ⟨S1x1x16384, .f32⟩
  | 57 => ⟨S2x128x16384, .f32⟩
  | 58 => ⟨S2x128x16384, .f32⟩
  | 59 => ⟨S2x128x16384, .f32⟩
  | 60 => ⟨S_, .f32⟩
  | 61 => ⟨S2x128, .f32⟩
  | 62 => ⟨S_, .f32⟩
  | 63 => ⟨S2x128, .f32⟩
  | 64 => ⟨S2x128, .i1⟩
  | 65 => ⟨S_, .f32⟩
  | 66 => ⟨S2x128, .f32⟩
  | 67 => ⟨S2x128, .f32⟩
  | 68 => ⟨S_, .f32⟩
  | 69 => ⟨S_, .f32⟩
  | 70 => ⟨S2x128, .f32⟩
  | 71 => ⟨S2x128, .f32⟩
  | 72 => ⟨S2x128x1, .f32⟩
  | 73 => ⟨S2x128x16384, .f32⟩
  | 74 => ⟨S2x128x16384, .f32⟩
  | 75 => ⟨S2x128x16384, .f32⟩
  | 76 => ⟨S_, .i32⟩
  | 77 => ⟨S_, .i32⟩
  | 78 => ⟨S_, .f32⟩
  | 79 => ⟨S2x128x16384, .f32⟩
  | 80 => ⟨S2x128x16384, .f32⟩
  | 81 => ⟨S_, .f32⟩
  | 82 => ⟨S2x128x16384, .f32⟩
  | 83 => ⟨S2x128x16384, .f32⟩
  | 84 => ⟨S2x128x16384, .i32⟩
  | 85 => ⟨S2x128x16384, .i8⟩
  | 86 => ⟨S2x128x16384, .i32⟩
  | 87 => ⟨S2x128x16384, .f32⟩
  | 88 => ⟨S2x128x16384, .bf16⟩
  | 89 => ⟨S256x4096x4, .bf16⟩
  | 90 => ⟨S4x256x4096, .bf16⟩
  | 91 => ⟨S4, .i32⟩
  | 92 => ⟨S_, .i32⟩
  | 93 => ⟨S4, .i32⟩
  | 94 => ⟨S4, .i32⟩
  | 95 => ⟨S4x1x1, .i32⟩
  | 96 => ⟨S4096x6144, .i32⟩
  | 97 => ⟨S1x4096x6144, .i32⟩
  | 98 => ⟨S4x4096x6144, .i32⟩
  | 99 => ⟨S4x4096x6144, .i32⟩
  | 100 => ⟨S4x4096x6144, .i32⟩
  | 101 => ⟨S_, .i32⟩
  | 102 => ⟨S4x4096x6144, .i32⟩
  | 103 => ⟨S4x4096x6144, .i32⟩
  | 104 => ⟨S_, .i32⟩
  | 105 => ⟨S4x4096x6144, .i32⟩
  | 106 => ⟨S4x4096x6144, .i32⟩
  | 107 => ⟨S4x4096x6144, .f32⟩
  | 108 => ⟨S4x4096x6144, .bf16⟩
  | 109 => ⟨S256x6144, .f32⟩
  | 110 => ⟨S2x128x6144, .f32⟩
  | 111 => ⟨S2x128x1, .f32⟩
  | 112 => ⟨S2x128x6144, .f32⟩
  | 113 => ⟨S2x128x6144, .f32⟩
  | 114 => ⟨S2x128x6144, .f32⟩
  | 115 => ⟨S2x128x6144, .f32⟩
  | 116 => ⟨S2x128x6144, .f32⟩
  | 117 => ⟨S2x128x6144, .bf16⟩
  | _ => ⟨S2x128x6144, .bf16⟩

abbrev hbmTy (i : Nat) : BufTy := match i / 128 with
  | 0 => hbmTy0_0 i
  | 1 => hbmTy0_1 i
  | 2 => hbmTy0_2 i
  | 3 => hbmTy0_3 i
  | _ => ⟨S2x128x6144, .bf16⟩

abbrev bufTy : (tb : Table) → Fin (tcTables nBuf tb) → BufTy
  | .hbm, ⟨i, _⟩ => hbmTy i
  | _, _ => ⟨S2x128x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_cst : Ref sig .tc := ⟨.hbm, 22, rfl⟩
abbrev main_v2 : Ref sig .tc := ⟨.hbm, 23, rfl⟩
abbrev main_cst_0 : Ref sig .tc := ⟨.hbm, 24, rfl⟩
abbrev main_v3 : Ref sig .tc := ⟨.hbm, 25, rfl⟩
abbrev main_v4 : Ref sig .tc := ⟨.hbm, 26, rfl⟩
abbrev main_cst_1 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_cst_3 : Ref sig .tc := ⟨.hbm, 40, rfl⟩
abbrev main_v16 : Ref sig .tc := ⟨.hbm, 41, rfl⟩
abbrev main_v17 : Ref sig .tc := ⟨.hbm, 42, rfl⟩
abbrev main_cst_4 : Ref sig .tc := ⟨.hbm, 43, rfl⟩
abbrev main_v18 : Ref sig .tc := ⟨.hbm, 44, rfl⟩
abbrev main_v19 : Ref sig .tc := ⟨.hbm, 45, rfl⟩
abbrev main_cst_5 : Ref sig .tc := ⟨.hbm, 46, rfl⟩
abbrev main_call0_v0 : Ref sig .tc := ⟨.hbm, 47, rfl⟩
abbrev main_call0_v1 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_c : Ref sig .tc := ⟨.hbm, 54, rfl⟩
abbrev main_c_6 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_c_7 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_c_8 : Ref sig .tc := ⟨.hbm, 79, rfl⟩
abbrev main_v42 : Ref sig .tc := ⟨.hbm, 80, rfl⟩
abbrev main_v43 : Ref sig .tc := ⟨.hbm, 81, rfl⟩
abbrev main_c_9 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_c_10 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_c_11 : Ref sig .tc := ⟨.hbm, 110, rfl⟩
abbrev main_v70 : Ref sig .tc := ⟨.hbm, 111, rfl⟩
abbrev main_v71 : Ref sig .tc := ⟨.hbm, 112, rfl⟩
abbrev main_c_12 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_c_13 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_c_14 : Ref sig .tc := ⟨.hbm, 141, rfl⟩
abbrev main_v98 : Ref sig .tc := ⟨.hbm, 142, rfl⟩
abbrev main_v99 : Ref sig .tc := ⟨.hbm, 143, rfl⟩
abbrev main_c_15 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_cst_16 : Ref sig .tc := ⟨.hbm, 158, rfl⟩
abbrev main_v113 : Ref sig .tc := ⟨.hbm, 159, rfl⟩
abbrev main_v114 : Ref sig .tc := ⟨.hbm, 160, rfl⟩
abbrev main_cst_17 : Ref sig .tc := ⟨.hbm, 161, rfl⟩
abbrev main_v115 : Ref sig .tc := ⟨.hbm, 162, rfl⟩
abbrev main_v116 : Ref sig .tc := ⟨.hbm, 163, rfl⟩
abbrev main_cst_18 : Ref sig .tc := ⟨.hbm, 164, rfl⟩
abbrev main_v117 : Ref sig .tc := ⟨.hbm, 165, rfl⟩
abbrev main_v118 : Ref sig .tc := ⟨.hbm, 166, rfl⟩
abbrev main_cst_19 : Ref sig .tc := ⟨.hbm, 167, rfl⟩
abbrev main_v119 : Ref sig .tc := ⟨.hbm, 168, rfl⟩
abbrev main_v120 : Ref sig .tc := ⟨.hbm, 169, rfl⟩
abbrev main_cst_20 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_cst_21 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_cst_22 : Ref sig .tc := ⟨.hbm, 222, rfl⟩
abbrev main_call3_v0 : Ref sig .tc := ⟨.hbm, 223, rfl⟩
abbrev main_call3_v1 : Ref sig .tc := ⟨.hbm, 224, rfl⟩
abbrev main_call3_v2 : Ref sig .tc := ⟨.hbm, 225, rfl⟩
abbrev main_v171 : Ref sig .tc := ⟨.hbm, 226, rfl⟩
abbrev main_cst_23 : Ref sig .tc := ⟨.hbm, 227, rfl⟩
abbrev main_v172 : Ref sig .tc := ⟨.hbm, 228, rfl⟩
abbrev main_cst_24 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_cst_25 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_cst_26 : Ref sig .tc := ⟨.hbm, 246, rfl⟩
abbrev main_v188 : Ref sig .tc := ⟨.hbm, 247, rfl⟩
abbrev main_cst_27 : Ref sig .tc := ⟨.hbm, 248, rfl⟩
abbrev main_v189 : Ref sig .tc := ⟨.hbm, 249, rfl⟩
abbrev main_v190 : Ref sig .tc := ⟨.hbm, 250, rfl⟩
abbrev main_cst_28 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_cst_29 : Ref sig .tc := ⟨.hbm, 262, rfl⟩
abbrev main_v201 : Ref sig .tc := ⟨.hbm, 263, rfl⟩
abbrev main_cst_30 : Ref sig .tc := ⟨.hbm, 264, rfl⟩
abbrev main_v202 : Ref sig .tc := ⟨.hbm, 265, rfl⟩
abbrev main_v203 : Ref sig .tc := ⟨.hbm, 266, rfl⟩
abbrev main_cst_31 : Ref sig .tc := ⟨.hbm, 267, rfl⟩
abbrev main_v204 : Ref sig .tc := ⟨.hbm, 268, rfl⟩
abbrev main_v205 : Ref sig .tc := ⟨.hbm, 269, rfl⟩
abbrev main_cst_32 : Ref sig .tc := ⟨.hbm, 270, rfl⟩
abbrev main_call4_v0 : Ref sig .tc := ⟨.hbm, 271, rfl⟩
abbrev main_call4_v1 : Ref sig .tc := ⟨.hbm, 272, rfl⟩
abbrev main_v206 : Ref sig .tc := ⟨.hbm, 273, rfl⟩
abbrev main_v207 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩
abbrev main_c_33 : Ref sig .tc := ⟨.hbm, 278, rfl⟩
abbrev main_c_34 : Ref sig .tc := ⟨.hbm, 279, rfl⟩
abbrev main_call6_v0 : Ref sig .tc := ⟨.hbm, 280, rfl⟩
abbrev main_call6_v1 : Ref sig .tc := ⟨.hbm, 281, rfl⟩
abbrev main_call6_v2 : Ref sig .tc := ⟨.hbm, 282, rfl⟩
abbrev main_call6_v3 : Ref sig .tc := ⟨.hbm, 283, rfl⟩
abbrev main_call6_v4 : Ref sig .tc := ⟨.hbm, 284, rfl⟩
abbrev main_v211 : Ref sig .tc := ⟨.hbm, 285, rfl⟩
abbrev main_v212 : Ref sig .tc := ⟨.hbm, 286, rfl⟩
abbrev main_v213 : Ref sig .tc := ⟨.hbm, 287, rfl⟩
abbrev main_v214 : Ref sig .tc := ⟨.hbm, 288, rfl⟩
abbrev main_v215 : Ref sig .tc := ⟨.hbm, 289, rfl⟩
abbrev main_v216 : Ref sig .tc := ⟨.hbm, 290, rfl⟩
abbrev main_v217 : Ref sig .tc := ⟨.hbm, 291, rfl⟩
abbrev main_v218 : Ref sig .tc := ⟨.hbm, 292, rfl⟩
abbrev main_v219 : Ref sig .tc := ⟨.hbm, 293, rfl⟩
abbrev main_c_35 : Ref sig .tc := ⟨.hbm, 294, rfl⟩
abbrev main_v220 : Ref sig .tc := ⟨.hbm, 295, rfl⟩
abbrev main_v221 : Ref sig .tc := ⟨.hbm, 296, rfl⟩
abbrev main_v222 : Ref sig .tc := ⟨.hbm, 297, rfl⟩
abbrev main_v223 : Ref sig .tc := ⟨.hbm, 298, rfl⟩
abbrev main_v224 : Ref sig .tc := ⟨.hbm, 299, rfl⟩
abbrev main_v225 : Ref sig .tc := ⟨.hbm, 300, rfl⟩
abbrev main_v226 : Ref sig .tc := ⟨.hbm, 301, rfl⟩
abbrev main_v227 : Ref sig .tc := ⟨.hbm, 302, rfl⟩
abbrev main_c_36 : Ref sig .tc := ⟨.hbm, 303, rfl⟩
abbrev main_v228 : Ref sig .tc := ⟨.hbm, 304, rfl⟩
abbrev main_v229 : Ref sig .tc := ⟨.hbm, 305, rfl⟩
abbrev main_c_37 : Ref sig .tc := ⟨.hbm, 306, rfl⟩
abbrev main_v230 : Ref sig .tc := ⟨.hbm, 307, rfl⟩
abbrev main_v231 : Ref sig .tc := ⟨.hbm, 308, rfl⟩
abbrev main_v232 : Ref sig .tc := ⟨.hbm, 309, rfl⟩
abbrev main_v233 : Ref sig .tc := ⟨.hbm, 310, rfl⟩
abbrev main_v234 : Ref sig .tc := ⟨.hbm, 311, rfl⟩
abbrev main_v235 : Ref sig .tc := ⟨.hbm, 312, rfl⟩
abbrev main_v236 : Ref sig .tc := ⟨.hbm, 313, rfl⟩
abbrev main_v237 : Ref sig .tc := ⟨.hbm, 314, rfl⟩
abbrev main_v238 : Ref sig .tc := ⟨.hbm, 315, rfl⟩
abbrev main_v239 : Ref sig .tc := ⟨.hbm, 316, rfl⟩
abbrev main_v240 : Ref sig .tc := ⟨.hbm, 317, rfl⟩
abbrev main_v241 : Ref sig .tc := ⟨.hbm, 318, rfl⟩
abbrev main_v242 : Ref sig .tc := ⟨.hbm, 319, rfl⟩
abbrev main_cst_38 : Ref sig .tc := ⟨.hbm, 320, rfl⟩
abbrev main_v243 : Ref sig .tc := ⟨.hbm, 321, rfl⟩
abbrev main_cst_39 : Ref sig .tc := ⟨.hbm, 322, rfl⟩
abbrev main_v244 : Ref sig .tc := ⟨.hbm, 323, rfl⟩
abbrev main_v245 : Ref sig .tc := ⟨.hbm, 324, rfl⟩
abbrev main_cst_40 : Ref sig .tc := ⟨.hbm, 325, rfl⟩
abbrev main_v246 : Ref sig .tc := ⟨.hbm, 326, rfl⟩
abbrev main_v247 : Ref sig .tc := ⟨.hbm, 327, rfl⟩
abbrev main_v248 : Ref sig .tc := ⟨.hbm, 328, rfl⟩
abbrev main_v249 : Ref sig .tc := ⟨.hbm, 329, rfl⟩
abbrev main_v250 : Ref sig .tc := ⟨.hbm, 330, rfl⟩
abbrev main_v251 : Ref sig .tc := ⟨.hbm, 331, rfl⟩
abbrev main_v252 : Ref sig .tc := ⟨.hbm, 332, rfl⟩
abbrev main_v253 : Ref sig .tc := ⟨.hbm, 333, rfl⟩
abbrev main_v254 : Ref sig .tc := ⟨.hbm, 334, rfl⟩
abbrev main_v255 : Ref sig .tc := ⟨.hbm, 335, rfl⟩
abbrev main_cst_41 : Ref sig .tc := ⟨.hbm, 336, rfl⟩
abbrev main_v256 : Ref sig .tc := ⟨.hbm, 337, rfl⟩
abbrev main_cst_42 : Ref sig .tc := ⟨.hbm, 338, rfl⟩
abbrev main_v257 : Ref sig .tc := ⟨.hbm, 339, rfl⟩
abbrev main_v258 : Ref sig .tc := ⟨.hbm, 340, rfl⟩
abbrev main_cst_43 : Ref sig .tc := ⟨.hbm, 341, rfl⟩
abbrev main_v259 : Ref sig .tc := ⟨.hbm, 342, rfl⟩
abbrev main_v260 : Ref sig .tc := ⟨.hbm, 343, rfl⟩
abbrev main_cst_44 : Ref sig .tc := ⟨.hbm, 344, rfl⟩
abbrev main_call7_v0 : Ref sig .tc := ⟨.hbm, 345, rfl⟩
abbrev main_call7_v1 : Ref sig .tc := ⟨.hbm, 346, rfl⟩
abbrev main_v261 : Ref sig .tc := ⟨.hbm, 347, rfl⟩
abbrev main_v262 : Ref sig .tc := ⟨.hbm, 348, rfl⟩
abbrev main_v263 : Ref sig .tc := ⟨.hbm, 349, rfl⟩
abbrev main_v264 : Ref sig .tc := ⟨.hbm, 350, rfl⟩
abbrev main_v265 : Ref sig .tc := ⟨.hbm, 351, rfl⟩
abbrev main_c_45 : Ref sig .tc := ⟨.hbm, 352, rfl⟩
abbrev main_c_46 : Ref sig .tc := ⟨.hbm, 353, rfl⟩
abbrev main_call9_v0 : Ref sig .tc := ⟨.hbm, 354, rfl⟩
abbrev main_call9_v1 : Ref sig .tc := ⟨.hbm, 355, rfl⟩
abbrev main_call9_v2 : Ref sig .tc := ⟨.hbm, 356, rfl⟩
abbrev main_call9_v3 : Ref sig .tc := ⟨.hbm, 357, rfl⟩
abbrev main_call9_v4 : Ref sig .tc := ⟨.hbm, 358, rfl⟩
abbrev main_v266 : Ref sig .tc := ⟨.hbm, 359, rfl⟩
abbrev main_v267 : Ref sig .tc := ⟨.hbm, 360, rfl⟩
abbrev main_v268 : Ref sig .tc := ⟨.hbm, 361, rfl⟩
abbrev main_v269 : Ref sig .tc := ⟨.hbm, 362, rfl⟩
abbrev main_v270 : Ref sig .tc := ⟨.hbm, 363, rfl⟩
abbrev main_v271 : Ref sig .tc := ⟨.hbm, 364, rfl⟩
abbrev main_v272 : Ref sig .tc := ⟨.hbm, 365, rfl⟩
abbrev main_v273 : Ref sig .tc := ⟨.hbm, 366, rfl⟩
abbrev main_v274 : Ref sig .tc := ⟨.hbm, 367, rfl⟩
abbrev main_c_47 : Ref sig .tc := ⟨.hbm, 368, rfl⟩
abbrev main_v275 : Ref sig .tc := ⟨.hbm, 369, rfl⟩
abbrev main_v276 : Ref sig .tc := ⟨.hbm, 370, rfl⟩
abbrev main_v277 : Ref sig .tc := ⟨.hbm, 371, rfl⟩
abbrev main_v278 : Ref sig .tc := ⟨.hbm, 372, rfl⟩
abbrev main_v279 : Ref sig .tc := ⟨.hbm, 373, rfl⟩
abbrev main_v280 : Ref sig .tc := ⟨.hbm, 374, rfl⟩
abbrev main_v281 : Ref sig .tc := ⟨.hbm, 375, rfl⟩
abbrev main_v282 : Ref sig .tc := ⟨.hbm, 376, rfl⟩
abbrev main_c_48 : Ref sig .tc := ⟨.hbm, 377, rfl⟩
abbrev main_v283 : Ref sig .tc := ⟨.hbm, 378, rfl⟩
abbrev main_v284 : Ref sig .tc := ⟨.hbm, 379, rfl⟩
abbrev main_c_49 : Ref sig .tc := ⟨.hbm, 380, rfl⟩
abbrev main_v285 : Ref sig .tc := ⟨.hbm, 381, rfl⟩
abbrev main_v286 : Ref sig .tc := ⟨.hbm, 382, rfl⟩
abbrev main_v287 : Ref sig .tc := ⟨.hbm, 383, rfl⟩
abbrev main_v288 : Ref sig .tc := ⟨.hbm, 384, rfl⟩
abbrev main_v289 : Ref sig .tc := ⟨.hbm, 385, rfl⟩
abbrev main_v290 : Ref sig .tc := ⟨.hbm, 386, rfl⟩
abbrev main_v291 : Ref sig .tc := ⟨.hbm, 387, rfl⟩
abbrev main_v292 : Ref sig .tc := ⟨.hbm, 388, rfl⟩
abbrev main_v293 : Ref sig .tc := ⟨.hbm, 389, rfl⟩
abbrev main_v294 : Ref sig .tc := ⟨.hbm, 390, rfl⟩
abbrev main_v295 : Ref sig .tc := ⟨.hbm, 391, rfl⟩
abbrev main_v296 : Ref sig .tc := ⟨.hbm, 392, rfl⟩
abbrev main_v297 : Ref sig .tc := ⟨.hbm, 393, rfl⟩
abbrev main_v298 : Ref sig .tc := ⟨.hbm, 394, rfl⟩
abbrev main_v299 : Ref sig .tc := ⟨.hbm, 395, rfl⟩
abbrev main_v300 : Ref sig .tc := ⟨.hbm, 396, rfl⟩
abbrev main_v301 : Ref sig .tc := ⟨.hbm, 397, rfl⟩
abbrev main_c_50 : Ref sig .tc := ⟨.hbm, 398, rfl⟩
abbrev main_v302 : Ref sig .tc := ⟨.hbm, 399, rfl⟩
abbrev main_v303 : Ref sig .tc := ⟨.hbm, 400, rfl⟩
abbrev main_v304 : Ref sig .tc := ⟨.hbm, 401, rfl⟩
abbrev main_v305 : Ref sig .tc := ⟨.hbm, 402, rfl⟩
abbrev main_v306 : Ref sig .tc := ⟨.hbm, 403, rfl⟩
abbrev main_v307 : Ref sig .tc := ⟨.hbm, 404, rfl⟩
abbrev main_v308 : Ref sig .tc := ⟨.hbm, 405, rfl⟩
abbrev main_v309 : Ref sig .tc := ⟨.hbm, 406, rfl⟩
abbrev main_c_51 : Ref sig .tc := ⟨.hbm, 407, rfl⟩
abbrev main_v310 : Ref sig .tc := ⟨.hbm, 408, rfl⟩
abbrev main_v311 : Ref sig .tc := ⟨.hbm, 409, rfl⟩
abbrev main_c_52 : Ref sig .tc := ⟨.hbm, 410, rfl⟩
abbrev main_v312 : Ref sig .tc := ⟨.hbm, 411, rfl⟩
abbrev main_v313 : Ref sig .tc := ⟨.hbm, 412, rfl⟩
abbrev main_v314 : Ref sig .tc := ⟨.hbm, 413, rfl⟩
abbrev main_v315 : Ref sig .tc := ⟨.hbm, 414, rfl⟩
abbrev main_v316 : Ref sig .tc := ⟨.hbm, 415, rfl⟩
abbrev main_v317 : Ref sig .tc := ⟨.hbm, 416, rfl⟩
abbrev main_v318 : Ref sig .tc := ⟨.hbm, 417, rfl⟩
abbrev main_v319 : Ref sig .tc := ⟨.hbm, 418, rfl⟩
abbrev main_v320 : Ref sig .tc := ⟨.hbm, 419, rfl⟩
abbrev main_v321 : Ref sig .tc := ⟨.hbm, 420, rfl⟩
abbrev main_v322 : Ref sig .tc := ⟨.hbm, 421, rfl⟩
abbrev main_call10_cst : Ref sig .tc := ⟨.hbm, 422, rfl⟩
abbrev main_call10_v0 : Ref sig .tc := ⟨.hbm, 423, rfl⟩
abbrev main_v323 : Ref sig .tc := ⟨.hbm, 424, rfl⟩
abbrev main_v324 : Ref sig .tc := ⟨.hbm, 425, rfl⟩
abbrev main_v325 : Ref sig .tc := ⟨.hbm, 426, rfl⟩
abbrev main_v326 : Ref sig .tc := ⟨.hbm, 427, rfl⟩
abbrev main_cst_53 : Ref sig .tc := ⟨.hbm, 428, rfl⟩
abbrev main_v327 : Ref sig .tc := ⟨.hbm, 429, rfl⟩
abbrev main_cst_54 : Ref sig .tc := ⟨.hbm, 430, rfl⟩
abbrev main_v328 : Ref sig .tc := ⟨.hbm, 431, rfl⟩
abbrev main_v329 : Ref sig .tc := ⟨.hbm, 432, rfl⟩
abbrev main_cst_55 : Ref sig .tc := ⟨.hbm, 433, rfl⟩
abbrev main_v330 : Ref sig .tc := ⟨.hbm, 434, rfl⟩
abbrev main_v331 : Ref sig .tc := ⟨.hbm, 435, rfl⟩
abbrev main_v332 : Ref sig .tc := ⟨.hbm, 436, rfl⟩
abbrev main_v333 : Ref sig .tc := ⟨.hbm, 437, rfl⟩
abbrev main_v334 : Ref sig .tc := ⟨.hbm, 438, rfl⟩
abbrev main_v335 : Ref sig .tc := ⟨.hbm, 439, rfl⟩
abbrev main_v336 : Ref sig .tc := ⟨.hbm, 440, rfl⟩
abbrev main_v337 : Ref sig .tc := ⟨.hbm, 441, rfl⟩
abbrev main_v338 : Ref sig .tc := ⟨.hbm, 442, rfl⟩
abbrev main_v339 : Ref sig .tc := ⟨.hbm, 443, rfl⟩
abbrev main_cst_56 : Ref sig .tc := ⟨.hbm, 444, rfl⟩
abbrev main_v340 : Ref sig .tc := ⟨.hbm, 445, rfl⟩
abbrev main_cst_57 : Ref sig .tc := ⟨.hbm, 446, rfl⟩
abbrev main_v341 : Ref sig .tc := ⟨.hbm, 447, rfl⟩
abbrev main_v342 : Ref sig .tc := ⟨.hbm, 448, rfl⟩
abbrev main_cst_58 : Ref sig .tc := ⟨.hbm, 449, rfl⟩
abbrev main_v343 : Ref sig .tc := ⟨.hbm, 450, rfl⟩
abbrev main_v344 : Ref sig .tc := ⟨.hbm, 451, rfl⟩
abbrev main_cst_59 : Ref sig .tc := ⟨.hbm, 452, rfl⟩
abbrev main_call11_v0 : Ref sig .tc := ⟨.hbm, 453, rfl⟩
abbrev main_call11_v1 : Ref sig .tc := ⟨.hbm, 454, rfl⟩
abbrev main_v345 : Ref sig .tc := ⟨.hbm, 455, rfl⟩
abbrev main_v346 : Ref sig .tc := ⟨.hbm, 456, rfl⟩
abbrev main_v347 : Ref sig .tc := ⟨.hbm, 457, rfl⟩
abbrev main_v348 : Ref sig .tc := ⟨.hbm, 458, rfl⟩
abbrev main_v349 : Ref sig .tc := ⟨.hbm, 459, rfl⟩
abbrev main_c_60 : Ref sig .tc := ⟨.hbm, 460, rfl⟩
abbrev main_c_61 : Ref sig .tc := ⟨.hbm, 461, rfl⟩
abbrev main_call13_v0 : Ref sig .tc := ⟨.hbm, 462, rfl⟩
abbrev main_call13_v1 : Ref sig .tc := ⟨.hbm, 463, rfl⟩
abbrev main_call13_v2 : Ref sig .tc := ⟨.hbm, 464, rfl⟩
abbrev main_call13_v3 : Ref sig .tc := ⟨.hbm, 465, rfl⟩
abbrev main_call13_v4 : Ref sig .tc := ⟨.hbm, 466, rfl⟩
abbrev main_v350 : Ref sig .tc := ⟨.hbm, 467, rfl⟩
abbrev main_v351 : Ref sig .tc := ⟨.hbm, 468, rfl⟩
abbrev main_v352 : Ref sig .tc := ⟨.hbm, 469, rfl⟩
abbrev main_v353 : Ref sig .tc := ⟨.hbm, 470, rfl⟩
abbrev main_v354 : Ref sig .tc := ⟨.hbm, 471, rfl⟩
abbrev main_v355 : Ref sig .tc := ⟨.hbm, 472, rfl⟩
abbrev main_v356 : Ref sig .tc := ⟨.hbm, 473, rfl⟩
abbrev main_v357 : Ref sig .tc := ⟨.hbm, 474, rfl⟩
abbrev main_v358 : Ref sig .tc := ⟨.hbm, 475, rfl⟩
abbrev main_c_62 : Ref sig .tc := ⟨.hbm, 476, rfl⟩
abbrev main_v359 : Ref sig .tc := ⟨.hbm, 477, rfl⟩
abbrev main_v360 : Ref sig .tc := ⟨.hbm, 478, rfl⟩
abbrev main_v361 : Ref sig .tc := ⟨.hbm, 479, rfl⟩
abbrev main_v362 : Ref sig .tc := ⟨.hbm, 480, rfl⟩
abbrev main_v363 : Ref sig .tc := ⟨.hbm, 481, rfl⟩
abbrev main_v364 : Ref sig .tc := ⟨.hbm, 482, rfl⟩
abbrev main_v365 : Ref sig .tc := ⟨.hbm, 483, rfl⟩
abbrev main_v366 : Ref sig .tc := ⟨.hbm, 484, rfl⟩
abbrev main_c_63 : Ref sig .tc := ⟨.hbm, 485, rfl⟩
abbrev main_v367 : Ref sig .tc := ⟨.hbm, 486, rfl⟩
abbrev main_v368 : Ref sig .tc := ⟨.hbm, 487, rfl⟩
abbrev main_c_64 : Ref sig .tc := ⟨.hbm, 488, rfl⟩
abbrev main_v369 : Ref sig .tc := ⟨.hbm, 489, rfl⟩
abbrev main_v370 : Ref sig .tc := ⟨.hbm, 490, rfl⟩
abbrev main_v371 : Ref sig .tc := ⟨.hbm, 491, rfl⟩
abbrev main_v372 : Ref sig .tc := ⟨.hbm, 492, rfl⟩
abbrev main_v373 : Ref sig .tc := ⟨.hbm, 493, rfl⟩
abbrev main_v374 : Ref sig .tc := ⟨.hbm, 494, rfl⟩
abbrev main_v375 : Ref sig .tc := ⟨.hbm, 495, rfl⟩
abbrev main_v376 : Ref sig .tc := ⟨.hbm, 496, rfl⟩
abbrev main_v377 : Ref sig .tc := ⟨.hbm, 497, rfl⟩
abbrev main_v378 : Ref sig .tc := ⟨.hbm, 498, rfl⟩
abbrev main_v379 : Ref sig .tc := ⟨.hbm, 499, rfl⟩
abbrev main_v380 : Ref sig .tc := ⟨.hbm, 500, rfl⟩
abbrev main_v381 : Ref sig .tc := ⟨.hbm, 501, rfl⟩

abbrev nD : Nat := 1
abbrev τ : Topo := Topo.v7x

variable {F : FTy → Type} [FloatOps F]
-- ==== Proof.Spec.lean ====
/- The mathematics of one block, row by row, in the extended reals: the root-mean-square norm, the
   absmax scale of a row, the rounded and clipped code, and the product of a row of codes with a
   column of packed two-bit weights. Both programs are read as these functions. -/
module

public import Idealize.ShloMosaic.PureOps.Ideal
public import Idealize.ShloMosaic.PureOps.Ideal.Laws
public import Mathlib.Tactic.IntervalCases

@[expose] public section

noncomputable section

namespace Cert.Tern

open Idealize.ShloMosaic

/-- The reciprocal root mean square of a row of `n` entries. -/
def rstd {K : ℕ} (n : EReal) (x : Fin K → EReal) : EReal :=
  Ideal.rsqrt (Ideal.div (∑ k, x k * x k) n + Ideal.ofBits .f32 0x3727C5AC#32)

/-- The normed row times its gain. -/
def nrm {K : ℕ} (n : EReal) (x g : Fin K → EReal) (k : Fin K) : EReal := x k * rstd n x * g k

/-- The largest magnitude of the normed row. -/
def amax {K : ℕ} (n : EReal) (x g : Fin K → EReal) : EReal :=
  (Finset.univ : Finset (Fin K)).fold max (Ideal.ofBits .f32 0xFF800000#32) fun k =>
    FloatOps.absf (F := Ideal) (φ := .f32) (nrm n x g k)

open Classical in
/-- The scale of the row: the largest magnitude over 127, or 1 on a row of zeros. -/
def scl {K : ℕ} (n : EReal) (x g : Fin K → EReal) : EReal :=
  if amax n x g = 0 then 1 else Ideal.div (amax n x g) (Ideal.ofBits .f32 0x42FE0000#32)

/-- A number rounded to the nearest integer, ties to even, and clipped to ±127. -/
def clip (v : EReal) : EReal :=
  min (Ideal.ofBits .f32 0x42FE0000#32) (max (Ideal.ofBits .f32 0xC2FE0000#32) (Ideal.liftRound Ideal.roundHalfEven v))

/-- The quantised number of one entry, before it becomes an 8-bit code. -/
def qv {K : ℕ} (n : EReal) (x g : Fin K → EReal) (k : Fin K) : EReal := clip (Ideal.div (nrm n x g k) (scl n x g))

/-- The 8-bit code of one entry. -/
def code {K : ℕ} (n : EReal) (x g : Fin K → EReal) (k : Fin K) : BitVec 8 := Ideal.fptosi 8 (qv n x g k)

theorem ofBits_127 : Ideal.ofBits .f32 0x42FE0000#32 = ((127 : ℝ) : EReal) := by
  simp [Ideal.ofBits, Ideal.ieee, -EReal.coe_mul]; norm_num

theorem ofBits_neg127 : Ideal.ofBits .f32 0xC2FE0000#32 = ((-127 : ℝ) : EReal) := by
  simp [Ideal.ofBits, Ideal.ieee, -EReal.coe_mul]; norm_num

theorem ofBits_512 : Ideal.ofBits .f32 0x44000000#32 = ((512 : ℝ) : EReal) := by
  simp [Ideal.ofBits, Ideal.ieee, -EReal.coe_mul]; norm_num

/-- The clipped number is an integer of magnitude at most 127. -/
theorem clip_int (v : EReal) : ∃ z : ℤ, -127 ≤ z ∧ z ≤ 127 ∧ clip v = ((z : ℝ) : EReal) := by
  rw [clip, ofBits_127, ofBits_neg127]
  induction v with
  | bot => exact ⟨-127, by norm_num, by norm_num, by
      simp only [Ideal.liftRound_bot]; rw [max_eq_left bot_le, min_eq_right (by exact_mod_cast (by norm_num : (-127:ℝ) ≤ 127))]; norm_num⟩
  | top => exact ⟨127, by norm_num, by norm_num, by
      simp only [Ideal.liftRound_top]; rw [max_eq_right le_top, min_eq_left le_top]; norm_num⟩
  | coe r =>
    refine ⟨min 127 (max (-127) (Ideal.roundHalfEven r)), ?_, ?_, ?_⟩
    · exact le_min (by norm_num) (le_max_left _ _)
    · exact min_le_left _ _
    · rw [Ideal.liftRound_coe, ← EReal.coe_strictMono.monotone.map_max, ← EReal.coe_strictMono.monotone.map_min]
      push_cast
      rfl

/-- A small integer, cut to `w` bits, is that integer. -/
theorem fptosi_coe (w : ℕ) (hw : 8 ≤ w) (z : ℤ) (h0 : -127 ≤ z) (h1 : z ≤ 127) :
    Ideal.fptosi w ((z : ℝ) : EReal) = BitVec.ofInt w z := by
  have hp : (128 : ℤ) ≤ ((2 ^ (w - 1) : ℕ) : ℤ) := by
    have : 2 ^ 7 ≤ 2 ^ (w - 1) := Nat.pow_le_pow_right (by norm_num) (by omega)
    exact_mod_cast this
  rw [Ideal.fptosi, Ideal.toIntClamped_coe]
  have e : (if (0 : ℝ) ≤ (z : ℝ) then ⌊(z : ℝ)⌋ else ⌈(z : ℝ)⌉) = z := by split <;> simp
  rw [e, min_eq_right (by omega), max_eq_right (by omega)]

theorem toInt_ofInt8 (z : ℤ) (h0 : -127 ≤ z) (h1 : z ≤ 127) : (BitVec.ofInt 8 z).toInt = z := by
  rw [BitVec.toInt_ofInt, Int.bmod_eq_of_le_mul_two] <;> norm_num <;> omega

/-- The code read as an integer is the clipped number. -/
theorem coe_toInt_clip (v : EReal) : (((Ideal.fptosi 8 (clip v)).toInt : ℝ) : EReal) = clip v := by
  obtain ⟨z, h0, h1, e⟩ := clip_int v
  rw [e, fptosi_coe 8 le_rfl z h0 h1, toInt_ofInt8 z h0 h1]

/-- The code through a 32-bit integer is the code. -/
theorem trunc_fptosi_clip (v : EReal) : (Ideal.fptosi 32 (clip v)).setWidth 8 = Ideal.fptosi 8 (clip v) := by
  obtain ⟨z, h0, h1, e⟩ := clip_int v
  rw [e, fptosi_coe 8 le_rfl z h0 h1, fptosi_coe 32 (by norm_num) z h0 h1]
  have : -127 ≤ z ∧ z ≤ 127 := ⟨h0, h1⟩
  interval_cases z <;> rfl

theorem coe_toInt_code {K : ℕ} (n : EReal) (x g : Fin K → EReal) (k : Fin K) :
    (((code n x g k).toInt : ℝ) : EReal) = qv n x g k := coe_toInt_clip _

/-- Field `f` of a packed byte, two bits each from the lowest. -/
def fld (b : BitVec 8) (f : ℕ) : ℕ := b.toNat / 4 ^ f % 4

/-- The product of a row of codes with a column of packed weights: byte `r` holds the weights of entries
    `4r … 4r + 3`, a field's value less one. -/
def dotCol {N K4 : ℕ} (h : N = 4 * K4) (c : Fin N → BitVec 8) (w : Fin K4 → BitVec 8) : ℝ :=
  ∑ f : Fin 4, ∑ r : Fin K4, ((c ⟨4 * r.val + f.val, by omega⟩).toInt : ℝ) * ((fld (w r) f.val : ℝ) - 1)

theorem coe_sum {ι : Type*} (s : Finset ι) (f : ι → ℝ) : (((∑ i ∈ s, f i : ℝ)) : EReal) = ∑ i ∈ s, (f i : EReal) := by
  classical
  induction s using Finset.induction_on with
  | empty => simp
  | insert a s ha ih => rw [Finset.sum_insert ha, Finset.sum_insert ha, EReal.coe_add, ih]

/-- Where the field-major order keeps entry `p`: within its group of 128, field by field. -/
def src (p : ℕ) : ℕ := p / 128 * 128 + 4 * (p % 32) + p % 128 / 32

theorem src_lt {N C p : ℕ} (hN : N = 128 * C) (hp : p < N) : src p < N := by unfold src; omega

/-- Field-major positions are pairs of a field and a byte row. -/
def posEquiv {N K4 C : ℕ} (hN : N = 128 * C) (hK : K4 = 32 * C) : Fin N ≃ Fin 4 × Fin K4 where
  toFun p := (⟨p.val % 128 / 32, by omega⟩, ⟨p.val / 128 * 32 + p.val % 32, by have := p.isLt; omega⟩)
  invFun q := ⟨q.2.val / 32 * 128 + q.1.val * 32 + q.2.val % 32, by have := q.1.isLt; have := q.2.isLt; omega⟩
  left_inv p := by apply Fin.ext; show _ = p.val; simp only; omega
  right_inv q := by
    have := q.1.isLt
    apply Prod.ext <;> apply Fin.ext <;> simp only <;> omega

/-- Entries are pairs of a field and a byte row, four entries a byte. -/
def entryEquiv {N K4 : ℕ} (h : N = 4 * K4) : Fin N ≃ Fin 4 × Fin K4 where
  toFun p := (⟨p.val % 4, by omega⟩, ⟨p.val / 4, by have := p.isLt; omega⟩)
  invFun q := ⟨4 * q.2.val + q.1.val, by have := q.1.isLt; have := q.2.isLt; omega⟩
  left_inv p := by apply Fin.ext; show _ = p.val; simp only; omega
  right_inv q := by
    have := q.1.isLt
    apply Prod.ext <;> apply Fin.ext <;> simp only <;> omega

/-- The field-major product at weights `field / 512`, scaled by 512 less the sum of the codes, is the product. -/
theorem fieldMajor {N K4 C : ℕ} (hN : N = 128 * C) (hK : K4 = 32 * C) (h4 : N = 4 * K4) (c : Fin N → BitVec 8)
    (w : Fin K4 → BitVec 8) (l wide t : Fin N → EReal)
    (hl : ∀ p, l p = (((c ⟨src p.val, src_lt hN p.isLt⟩).toInt : ℝ) : EReal))
    (hw : ∀ p, wide p = (((fld (w ⟨p.val / 128 * 32 + p.val % 32, by have := p.isLt; omega⟩) (p.val % 128 / 32) : ℝ) / 512 : ℝ) : EReal))
    (ht : ∀ i, t i = (((c i).toInt : ℝ) : EReal)) :
    (∑ p, l p * wide p) * ((512 : ℝ) : EReal) - ∑ i, t i = ((dotCol h4 c w : ℝ) : EReal) := by
  simp only [hl, hw, ht, ← EReal.coe_mul, ← coe_sum, ← EReal.coe_sub]
  congr 1
  rw [← Equiv.sum_comp (posEquiv hN hK).symm, ← Equiv.sum_comp (entryEquiv h4).symm, dotCol, Fintype.sum_prod_type,
    Fintype.sum_prod_type, Finset.sum_mul, ← Finset.sum_sub_distrib]
  refine Finset.sum_congr rfl fun f _ => ?_
  rw [Finset.sum_mul, ← Finset.sum_sub_distrib]
  refine Finset.sum_congr rfl fun r _ => ?_
  have hf := f.isLt
  have e1 : (⟨src ((posEquiv hN hK).symm (f, r)).val, src_lt hN ((posEquiv hN hK).symm (f, r)).isLt⟩ : Fin N)
      = ⟨4 * r.val + f.val, by omega⟩ := by
    apply Fin.ext
    simp only [posEquiv, Equiv.coe_fn_symm_mk, src]
    omega
  have e2 : ((posEquiv hN hK).symm (f, r)).val % 128 / 32 = f.val := by
    simp only [posEquiv, Equiv.coe_fn_symm_mk]; omega
  have e3 : ∀ h, (⟨((posEquiv hN hK).symm (f, r)).val / 128 * 32 + ((posEquiv hN hK).symm (f, r)).val % 32, h⟩ : Fin K4) = r := by
    intro h
    apply Fin.ext
    simp only [posEquiv, Equiv.coe_fn_symm_mk]; omega
  have e4 : (entryEquiv h4).symm (f, r) = ⟨4 * r.val + f.val, by omega⟩ := rfl
  rw [e1, e2, e3, e4]
  ring

end Cert.Tern

end
-- ==== Proof.Rows.lean ====
module

public import proofs.«01_k».proof.Proof.Spec

/-! The quantiser of a row depends on the row and the gain entry by entry. -/

@[expose] public section
noncomputable section
namespace Cert.Tern
open Idealize.ShloMosaic

variable {K : ℕ} {n n' : EReal} {x x' g g' : Fin K → EReal}

theorem rstd_congr (hn : n = n') (hx : ∀ k, x k = x' k) : rstd n x = rstd n' x' := by rw [hn, funext hx]

theorem scl_congr (hn : n = n') (hx : ∀ k, x k = x' k) (hg : ∀ k, g k = g' k) : scl n x g = scl n' x' g' := by
  rw [hn, funext hx, funext hg]

theorem code_congr (hn : n = n') (hx : ∀ k, x k = x' k) (hg : ∀ k, g k = g' k) (k : Fin K) : code n x g k = code n' x' g' k := by
  rw [hn, funext hx, funext hg]

end Cert.Tern
end
-- ==== Proof.Attn.lean ====
module

public import proofs.«01_k».proof.Proof.Spec

/-! Rotation and attention, one entry at a time. -/

@[expose] public section
noncomputable section
namespace Cert.Tern
open Idealize.ShloMosaic

/-- The column half a head away in the same head of 96. -/
abbrev half (j : ℕ) : ℕ := j / 96 * 96 + (j % 96 + 48) % 96

theorem half_lt {D H j : ℕ} (hD : D = 96 * H) (h : j < D) : half j < D := by
  unfold half
  omega

/-- A row of heads turned by an angle's cosine and sine, at one column. -/
def rope {D H : ℕ} (hD : D = 96 * H) (x : Fin D → EReal) (c s : EReal) (j : Fin D) : EReal :=
  x j * c + (if j.val % 96 < 48 then - x ⟨half j.val, half_lt hD j.isLt⟩ else x ⟨half j.val, half_lt hD j.isLt⟩) * s

/-- A masked score. -/
def score (s : Fin 128) (q : Fin 96 → EReal) (k : Fin 128 → Fin 96 → EReal) (t : Fin 128) : EReal :=
  if t.val ≤ s.val then (∑ e, q e * k t e) * Ideal.ofBits FTy.f32 0x3DD105EC#32 else Ideal.ofBits FTy.f32 0xFF800000#32

/-- The exponential of a row's entry less the row's greatest. -/
def expo (z : Fin 128 → EReal) (t : Fin 128) : EReal :=
  Ideal.exp (z t - Finset.fold max (Ideal.ofBits FTy.f32 0xFF800000#32) z Finset.univ)

/-- Weighted values. -/
def mix (e : Fin 128 → EReal) (v : Fin 128 → EReal) : EReal := ∑ t, Ideal.div (e t) (∑ t, e t) * v t

/-- Attention of one query row of one head. -/
def attn (s : Fin 128) (q : Fin 96 → EReal) (k : Fin 128 → Fin 96 → EReal) (v : Fin 128 → EReal) : EReal :=
  mix (expo (score s q k)) v

/-- The rotation angle of position `p + s` at frequency `k`. -/
def angle (p : BitVec 32) (s k : ℕ) : EReal :=
  (FloatOps.sitofp (F := Ideal) FTy.f32 (IntOp.addi p (BitVec.ofNat 32 s)) : EReal) *
    Ideal.div 1 (Ideal.pow (Ideal.ofBits FTy.f32 0x48F42400#32)
      (Ideal.div (Ideal.ofBits FTy.f32 0x40000000#32 * (FloatOps.sitofp (F := Ideal) FTy.f32 (BitVec.ofNat 32 k) : EReal)) (Ideal.ofBits FTy.f32 0x42C00000#32)))

theorem attn_congr {s s' : Fin 128} {q q' : Fin 96 → EReal} {k k' : Fin 128 → Fin 96 → EReal} {v v' : Fin 128 → EReal} (hs : s = s')
    (hq : ∀ e, q e = q' e) (hk : ∀ t e, k t e = k' t e) (hv : ∀ t, v t = v' t) : attn s q k v = attn s' q' k' v' := by
  rw [hs, funext hq, funext fun t => funext (hk t), funext hv]

theorem rope_congr {D H D' H' : ℕ} (hD : D = 96 * H) (hD' : D' = 96 * H') {x : Fin D → EReal} {x' : Fin D' → EReal} {c c' s s' : EReal}
    {j : Fin D} {j' : Fin D'} (hj : j.val % 96 = j'.val % 96) (hx : ∀ (d : ℕ) (h : j.val / 96 * 96 + d < D) (h' : j'.val / 96 * 96 + d < D'), d < 96 → x ⟨_, h⟩ = x' ⟨_, h'⟩)
    (hc : c = c') (hs : s = s') : rope hD x c s j = rope hD' x' c' s' j' := by
  have hjl := j.isLt
  have hjl' := j'.isLt
  have key : ∀ (d : ℕ) (_ : d < 96) (a : Fin D) (a' : Fin D') (_ : a.val = j.val / 96 * 96 + d) (_ : a'.val = j'.val / 96 * 96 + d), x a = x' a' := by
    intro d hd a a' ha ha'
    obtain ⟨a, h⟩ := a
    obtain ⟨a', h'⟩ := a'
    subst ha ha'
    exact hx d h h' hd
  have e1 : x j = x' j' := key (j.val % 96) (by omega) j j' (by omega) (by omega)
  have e2 : x ⟨half j.val, half_lt hD j.isLt⟩ = x' ⟨half j'.val, half_lt hD' j'.isLt⟩ :=
    key ((j.val % 96 + 48) % 96) (by omega) _ _ rfl (by show half j'.val = _; unfold half; rw [hj])
  unfold rope
  rw [e1, e2, hj, hc, hs]

end Cert.Tern
end
-- ==== Proof.KHost.lean ====
module

public import proofs.«01_k».proof.Proof.Gen.KernelIdeal.Launch
public import proofs.«01_k».proof.Proof.Attn
public import Idealize.ShloMosaic.Lib.StableHlo.Run
public import Idealize.ShloMosaic.Lib.StableHlo.RunRead
public import Idealize.ShloMosaic.Lib.Pointwise

/-! What the host operations between the kernel calls write, entry by entry. -/

@[expose] public section
set_option maxRecDepth 65536
noncomputable section
namespace Cert.KernelIdeal.Gen
open Idealize.ShloMosaic Idealize.ShloMosaic.TcCoe Idealize.ShloMosaic.StableHlo

variable (V : Valuation τ sig (Elt Ideal))

/-- The sequence of a flat row. -/
def hi (i : Fin 256) : Fin 2 := ⟨i.val / 128, by omega⟩

/-- The place of a flat row in its sequence. -/
def lo (i : Fin 256) : Fin 128 := ⟨i.val % 128, by omega⟩

/-- The flat row of a place in a sequence. -/
def row (b : Fin 2) (t : Fin 128) : Fin 256 := ⟨b.val * 128 + t.val, by omega⟩

theorem hi_row (b : Fin 2) (t : Fin 128) : hi (row b t) = b := Fin.ext (by simp only [hi, row]; omega)

theorem lo_row (b : Fin 2) (t : Fin 128) : lo (row b t) = t := Fin.ext (by simp only [lo, row]; omega)

theorem h0_v0 (i : Fin 256) (j : Fin 6144) :
    after hostOps0 V (Proc.devRef .tc main_v0) (ix2 i j) = V (Proc.devRef .tc main_arg0) (ix3 (hi i) (lo i) j) := by
  simp only [hostOps0]
  after_results_simp
  pointwise [hi, lo]

theorem h4_v36 (i : Fin 256) (j : Fin 768) :
    after hostOps4 V (Proc.devRef .tc main_v36) (ix2 i j)
      = Ideal.cos (Tern.angle (V (Proc.devRef .tc main_arg1) (ix1 (hi i))) (lo i).val (j.val % 48)) := by
  simp only [hostOps4]
  after_reads_simp
  pointwise [Tern.angle, hi, lo]

theorem h4_v37 (i : Fin 256) (j : Fin 768) :
    after hostOps4 V (Proc.devRef .tc main_v37) (ix2 i j)
      = Ideal.sin (Tern.angle (V (Proc.devRef .tc main_arg1) (ix1 (hi i))) (lo i).val (j.val % 48)) := by
  simp only [hostOps4]
  after_reads_simp
  pointwise [Tern.angle, hi, lo]

theorem h0_v1 (j : Fin 6144) :
    after hostOps0 V (Proc.devRef .tc main_v1) (ix2 0 j) = V (Proc.devRef .tc main_arg2) (ix1 j) := by
  simp only [hostOps0]
  after_results_simp
  pointwise []

theorem h5_v39 (j : Fin 6144) :
    after hostOps5 V (Proc.devRef .tc main_v39) (ix2 0 j) = V (Proc.devRef .tc main_arg9) (ix1 j) := by
  simp only [hostOps5]
  after_results_simp
  pointwise []

theorem h7_v43 (j : Fin 6144) :
    after hostOps7 V (Proc.devRef .tc main_v43) (ix2 0 j) = V (Proc.devRef .tc main_arg12) (ix1 j) := by
  simp only [hostOps7]
  after_results_simp
  pointwise []

theorem h9_v48 (j : Fin 16384) :
    after hostOps9 V (Proc.devRef .tc main_v48) (ix2 0 j) = V (Proc.devRef .tc main_arg17) (ix1 j) := by
  simp only [hostOps9]
  after_results_simp
  pointwise []

theorem h1_v3 :
    after hostOps1 V (Proc.devRef .tc main_v3) (ix2 0 0) = V (Proc.devRef .tc main_arg4) ix0 := by
  simp only [hostOps1]
  after_results_simp
  pointwise []

theorem h2_v5 :
    after hostOps2 V (Proc.devRef .tc main_v5) (ix2 0 0) = V (Proc.devRef .tc main_arg6) ix0 := by
  simp only [hostOps2]
  after_results_simp
  pointwise []

theorem h3_v7 :
    after hostOps3 V (Proc.devRef .tc main_v7) (ix2 0 0) = V (Proc.devRef .tc main_arg8) ix0 := by
  simp only [hostOps3]
  after_results_simp
  pointwise []

theorem h6_v41 :
    after hostOps6 V (Proc.devRef .tc main_v41) (ix2 0 0) = V (Proc.devRef .tc main_arg11) ix0 := by
  simp only [hostOps6]
  after_results_simp
  pointwise []

theorem h8_v45 :
    after hostOps8 V (Proc.devRef .tc main_v45) (ix2 0 0) = V (Proc.devRef .tc main_arg14) ix0 := by
  simp only [hostOps8]
  after_results_simp
  pointwise []

theorem h8_v46 :
    after hostOps8 V (Proc.devRef .tc main_v46) (ix2 0 0) = V (Proc.devRef .tc main_arg16) ix0 := by
  simp only [hostOps8]
  after_results_simp
  pointwise []

theorem h10_v50 :
    after hostOps10 V (Proc.devRef .tc main_v50) (ix2 0 0) = V (Proc.devRef .tc main_arg19) ix0 := by
  simp only [hostOps10]
  after_results_simp
  pointwise []

theorem h11_v52 (b : Fin 2) (t : Fin 128) (j : Fin 6144) :
    after hostOps11 V (Proc.devRef .tc main_v52) (ix3 b t j) = V (Proc.devRef .tc main_v51) (ix2 (row b t) j) := by
  simp only [hostOps11]
  after_results_simp
  pointwise [row]

theorem h11_v57 (b : Fin 2) (t : Fin 128) (j : Fin 6144) :
    after hostOps11 V (Proc.devRef .tc main_v57) (ix3 b t j) = V (Proc.devRef .tc main_v2_0) (ix2 (row b t) j) := by
  simp only [hostOps11]
  after_results_simp
  pointwise [row]

theorem h11_v59 (b : Fin 2) (t : Fin 128) (j : Fin 6144) :
    after hostOps11 V (Proc.devRef .tc main_v59) (ix3 b t j) = V (Proc.devRef .tc main_v40_0) (ix2 (row b t) j) := by
  simp only [hostOps11]
  after_results_simp
  pointwise [row]

theorem h11_v61 (b : Fin 2) (t : Fin 128) (j : Fin 6144) :
    after hostOps11 V (Proc.devRef .tc main_v61) (ix3 b t j) = V (Proc.devRef .tc main_v44_0) (ix2 (row b t) j) := by
  simp only [hostOps11]
  after_results_simp
  pointwise [row]

theorem h11_v63 (b : Fin 2) (t : Fin 128) (j : Fin 16384) :
    after hostOps11 V (Proc.devRef .tc main_v63) (ix3 b t j) = V (Proc.devRef .tc main_v49_0) (ix2 (row b t) j) := by
  simp only [hostOps11]
  after_results_simp
  pointwise [row]

theorem h11_v55 (b : Fin 2) (t : Fin 128) :
    after hostOps11 V (Proc.devRef .tc main_v55) (ix2 b t) = V (Proc.devRef .tc main_v40_2) (ix2 (row b t) 0) := by
  simp only [hostOps11]
  after_results_simp
  pointwise [row]

theorem h11_v56 (b : Fin 2) (t : Fin 128) :
    after hostOps11 V (Proc.devRef .tc main_v56) (ix2 b t) = V (Proc.devRef .tc main_v49_2) (ix2 (row b t) 0) := by
  simp only [hostOps11]
  after_results_simp
  pointwise [row]

theorem h11_v58 (b : Fin 2) (t : Fin 128) :
    after hostOps11 V (Proc.devRef .tc main_v58) (ix2 b t) = V (Proc.devRef .tc main_v2_1) (ix2 (row b t) 0) := by
  simp only [hostOps11]
  after_results_simp
  pointwise [row]

theorem h11_v60 (b : Fin 2) (t : Fin 128) :
    after hostOps11 V (Proc.devRef .tc main_v60) (ix2 b t) = V (Proc.devRef .tc main_v40_1) (ix2 (row b t) 0) := by
  simp only [hostOps11]
  after_results_simp
  pointwise [row]

theorem h11_v62 (b : Fin 2) (t : Fin 128) :
    after hostOps11 V (Proc.devRef .tc main_v62) (ix2 b t) = V (Proc.devRef .tc main_v44_1) (ix2 (row b t) 0) := by
  simp only [hostOps11]
  after_results_simp
  pointwise [row]

theorem h11_v64 (b : Fin 2) (t : Fin 128) :
    after hostOps11 V (Proc.devRef .tc main_v64) (ix2 b t) = V (Proc.devRef .tc main_v49_1) (ix2 (row b t) 0) := by
  simp only [hostOps11]
  after_results_simp
  pointwise [row]

theorem h11_v53 (b : Fin 2) (t : Fin 128) (h : Fin 64) (e : Fin 96) :
    after hostOps11 V (Proc.devRef .tc main_v53) (ix4 b t h e)
      = V (Proc.devRef .tc main_v38_0) (ix2 (row b t) ⟨h.val * 96 + e.val, by omega⟩) := by
  simp only [hostOps11]
  after_results_simp
  pointwise [row]

theorem h11_v54 (b : Fin 2) (t : Fin 128) (h : Fin 8) (e : Fin 96) :
    after hostOps11 V (Proc.devRef .tc main_v54) (ix4 b t h e)
      = V (Proc.devRef .tc main_v38_1) (ix2 (row b t) ⟨h.val * 96 + e.val, by omega⟩) := by
  simp only [hostOps11]
  after_results_simp
  pointwise [row]

end Cert.KernelIdeal.Gen
end
-- ==== Proof.RefQuant.lean ====
module

public import proofs.«01_k».proof.Proof.Gen.ReferenceIdeal.Read
public import proofs.«01_k».proof.Proof.Spec
public import Idealize.ShloMosaic.Lib.Pointwise

/-! The reference's norm and quantiser on rows of 6144 entries. -/

@[expose] public section
noncomputable section
namespace Cert.ReferenceIdeal.RefValue
open Cert.ReferenceIdeal Cert.ReferenceIdeal.Gen Cert.ReferenceIdeal.Read Idealize.ShloMosaic Idealize.ShloMosaic.StableHlo

variable {F : FTy → Type} [FloatOps F]

/-- The number of entries of a row, as the reference writes it. -/
abbrev n6 : EReal := Ideal.ofBits FTy.f32 0x45C00000#32

theorem sitofp_127 : FloatOps.sitofp (F := Ideal) FTy.f32 127#32 = Ideal.ofBits .f32 0x42FE0000#32 := by
  rw [Tern.ofBits_127]
  show (((127#32 : BitVec 32).toInt : ℝ) : EReal) = _
  rw [show (127#32 : BitVec 32).toInt = 127 from by decide]
  norm_num

theorem sitofp_neg127 : FloatOps.sitofp (F := Ideal) FTy.f32 4294967169#32 = Ideal.ofBits .f32 0xC2FE0000#32 := by
  rw [Tern.ofBits_neg127]
  show (((4294967169#32 : BitVec 32).toInt : ℝ) : EReal) = _
  rw [show (4294967169#32 : BitVec 32).toInt = -127 from by decide]
  norm_num

/-- The reciprocal root mean squares of the rows. -/
def gR6144 (y : (⟨S2x128x6144, .f32⟩ : BufTy).Contents (Elt F)) : (⟨S2x128, .f32⟩ : BufTy).Contents (Elt F) :=
  Host.rsqrt (addf (Host.divf (Host.reduceAdd (mulf y y) (constant S_ .f32 0x00000000#32) reducesTo_S2x128x6144_S2x128_d2 h_S_)
    (broadcastInDim S2x128 ![] bcast_S_S2x128 (constant S_ .f32 0x45C00000#32))) (broadcastInDim S2x128 ![] bcast_S_S2x128 (constant S_ .f32 0x3727C5AC#32)))

/-- The normed rows times their gains. -/
def gN6144 (y : (⟨S2x128x6144, .f32⟩ : BufTy).Contents (Elt F)) (r : (⟨S2x128, .f32⟩ : BufTy).Contents (Elt F)) (g : (⟨S6144, .f32⟩ : BufTy).Contents (Elt F)) : (⟨S2x128x6144, .f32⟩ : BufTy).Contents (Elt F) :=
  mulf (mulf y (broadcastInDim S2x128x6144 ![0, 1, 2] bcast_S2x128x1_S2x128x6144_0_1_2 (broadcastInDim S2x128x1 ![0, 1] bcast_S2x128_S2x128x1_0_1 r)))
    (broadcastInDim S2x128x6144 ![0, 1, 2] bcast_S1x1x6144_S2x128x6144_0_1_2 (broadcastInDim S1x1x6144 ![2] bcast_S6144_S1x1x6144_2 g))

/-- The rows' largest magnitudes. -/
def gA6144 (z : (⟨S2x128x6144, .f32⟩ : BufTy).Contents (Elt F)) : (⟨S2x128, .f32⟩ : BufTy).Contents (Elt F) :=
  Host.reduce FloatOps.maximumf (Host.absf z) (constant S_ .f32 0xFF800000#32) reducesTo_S2x128x6144_S2x128_d2 h_S_

/-- The codes of normed rows under their scales. -/
def gC6144 (z : (⟨S2x128x6144, .f32⟩ : BufTy).Contents (Elt F)) (s : (⟨S2x128, .f32⟩ : BufTy).Contents (Elt F)) : (⟨S2x128x6144, .i8⟩ : BufTy).Contents (Elt F) :=
  trunci 8 (fptosi 32 (minimumf (broadcastInDim S2x128x6144 ![] bcast_S_S2x128x6144 (sitofp .f32 (constantI S_ 32 127#32)))
    (maximumf (broadcastInDim S2x128x6144 ![] bcast_S_S2x128x6144 (sitofp .f32 (constantI S_ 32 4294967169#32)))
      (Host.roundeven (Host.divf z (broadcastInDim S2x128x6144 ![0, 1, 2] bcast_S2x128x1_S2x128x6144_0_1_2 (broadcastInDim S2x128x1 ![0, 1] bcast_S2x128_S2x128x1_0_1 s))))))) natLt_8_32

/-- The rows' scales from their largest magnitudes. -/
def gS (a : (⟨S2x128, .f32⟩ : BufTy).Contents (Elt F)) : (⟨S2x128, .f32⟩ : BufTy).Contents (Elt F) :=
  select (cmpf .oeq a (broadcastInDim S2x128 ![] bcast_S_S2x128 (constant S_ .f32 0x00000000#32)))
    (broadcastInDim S2x128 ![] bcast_S_S2x128 (id (constant S_ .f32 0x3F800000#32)))
    (Host.divf a (broadcastInDim S2x128 ![] bcast_S_S2x128 (constant S_ .f32 0x42FE0000#32)))

open Classical in
theorem gS_apply (a : Vec Ideal S2x128 .f32) (b : Fin 2) (s : Fin 128) :
    gS (F := Ideal) a (ix2 b s) = if a (ix2 b s) = 0 then 1 else Ideal.div (a (ix2 b s)) (Ideal.ofBits FTy.f32 0x42FE0000#32) := by
  pointwise [gS, id]

theorem gR6144_apply (y : Vec Ideal S2x128x6144 .f32) (b : Fin 2) (s : Fin 128) : gR6144 (F := Ideal) y (ix2 b s) = Tern.rstd n6 (fun k => y (ix3 b s k)) := by
  pointwise [gR6144]
  rfl

theorem gN6144_apply (y : Vec Ideal S2x128x6144 .f32) (r : Vec Ideal S2x128 .f32) (g : Vec Ideal S6144 .f32) (b : Fin 2) (s : Fin 128) (k : Fin 6144) :
    gN6144 (F := Ideal) y r g (ix3 b s k) = y (ix3 b s k) * r (ix2 b s) * g (ix1 k) := by
  pointwise [gN6144]

theorem gA6144_apply (z : Vec Ideal S2x128x6144 .f32) (b : Fin 2) (s : Fin 128) : gA6144 (F := Ideal) z (ix2 b s)
    = (Finset.univ : Finset (Fin 6144)).fold max (Ideal.ofBits .f32 0xFF800000#32) (fun k => FloatOps.absf (F := Ideal) (φ := .f32) (z (ix3 b s k))) := by
  pointwise [gA6144]

theorem gC6144_apply (z : Vec Ideal S2x128x6144 .f32) (s : Vec Ideal S2x128 .f32) (b : Fin 2) (t : Fin 128) (k : Fin 6144) :
    gC6144 (F := Ideal) z s (ix3 b t k) = Ideal.fptosi 8 (Tern.clip (Ideal.div (z (ix3 b t k)) (s (ix2 b t)))) := by
  pointwise [gC6144]
  rw [sitofp_127, sitofp_neg127]
  exact Tern.trunc_fptosi_clip _

/-- The scales of rows. -/
def gScale6144 (y : (⟨S2x128x6144, .f32⟩ : BufTy).Contents (Elt F)) (g : (⟨S6144, .f32⟩ : BufTy).Contents (Elt F)) : (⟨S2x128, .f32⟩ : BufTy).Contents (Elt F) := gS (gA6144 (gN6144 y (gR6144 y) g))

/-- The codes of rows. -/
def gCode6144 (y : (⟨S2x128x6144, .f32⟩ : BufTy).Contents (Elt F)) (g : (⟨S6144, .f32⟩ : BufTy).Contents (Elt F)) : (⟨S2x128x6144, .i8⟩ : BufTy).Contents (Elt F) := gC6144 (gN6144 y (gR6144 y) g) (gScale6144 y g)

theorem gNorm6144_apply (y : Vec Ideal S2x128x6144 .f32) (g : Vec Ideal S6144 .f32) (b : Fin 2) (s : Fin 128) (k : Fin 6144) :
    gN6144 (F := Ideal) y (gR6144 y) g (ix3 b s k) = Tern.nrm n6 (fun k => y (ix3 b s k)) (fun k => g (ix1 k)) k := by
  rw [gN6144_apply, gR6144_apply]
  rfl

theorem gScale6144_apply (y : Vec Ideal S2x128x6144 .f32) (g : Vec Ideal S6144 .f32) (b : Fin 2) (s : Fin 128) :
    gScale6144 (F := Ideal) y g (ix2 b s) = Tern.scl n6 (fun k => y (ix3 b s k)) (fun k => g (ix1 k)) := by
  rw [gScale6144, gS_apply, gA6144_apply]
  simp only [gNorm6144_apply]
  rfl

theorem gCode6144_apply (y : Vec Ideal S2x128x6144 .f32) (g : Vec Ideal S6144 .f32) (b : Fin 2) (s : Fin 128) (k : Fin 6144) :
    gCode6144 (F := Ideal) y g (ix3 b s k) = Tern.code n6 (fun k => y (ix3 b s k)) (fun k => g (ix1 k)) k := by
  rw [gCode6144, gC6144_apply, gNorm6144_apply, gScale6144_apply]
  rfl

theorem in_rstd (x0 : (⟨S2x128x6144, .bf16⟩ : BufTy).Contents (Elt Ideal)) : val_main_v7 (F := Ideal) x0 = gR6144 (F := Ideal) (val_main_v0 (F := Ideal) x0) := rfl

theorem in_scl (x0 : (⟨S2x128x6144, .bf16⟩ : BufTy).Contents (Elt Ideal)) (x2 : (⟨S6144, .f32⟩ : BufTy).Contents (Elt Ideal)) : val_main_v20 (F := Ideal) x0 x2 = gScale6144 (F := Ideal) (val_main_v0 (F := Ideal) x0) x2 := rfl

theorem in_code (x0 : (⟨S2x128x6144, .bf16⟩ : BufTy).Contents (Elt Ideal)) (x2 : (⟨S6144, .f32⟩ : BufTy).Contents (Elt Ideal)) : val_main_v27 (F := Ideal) x0 x2 = gCode6144 (F := Ideal) (val_main_v0 (F := Ideal) x0) x2 := rfl

theorem attn_rstd (x0 : (⟨S2x128x6144, .bf16⟩ : BufTy).Contents (Elt Ideal)) (x1 : (⟨S2, .i32⟩ : BufTy).Contents (Elt Ideal)) (x2 : (⟨S6144, .f32⟩ : BufTy).Contents (Elt Ideal)) (x3 : (⟨S1536x6144, .i8⟩ : BufTy).Contents (Elt Ideal)) (x4 : (⟨S_, .f32⟩ : BufTy).Contents (Elt Ideal)) (x5 : (⟨S1536x768, .i8⟩ : BufTy).Contents (Elt Ideal)) (x6 : (⟨S_, .f32⟩ : BufTy).Contents (Elt Ideal)) (x7 : (⟨S1536x768, .i8⟩ : BufTy).Contents (Elt Ideal)) (x8 : (⟨S_, .f32⟩ : BufTy).Contents (Elt Ideal)) : val_main_v193 (F := Ideal) x0 x1 x2 x3 x4 x5 x6 x7 x8 = gR6144 (F := Ideal) (val_main_v186 (F := Ideal) x0 x1 x2 x3 x4 x5 x6 x7 x8) := rfl

theorem attn_scl (x0 : (⟨S2x128x6144, .bf16⟩ : BufTy).Contents (Elt Ideal)) (x1 : (⟨S2, .i32⟩ : BufTy).Contents (Elt Ideal)) (x2 : (⟨S6144, .f32⟩ : BufTy).Contents (Elt Ideal)) (x3 : (⟨S1536x6144, .i8⟩ : BufTy).Contents (Elt Ideal)) (x4 : (⟨S_, .f32⟩ : BufTy).Contents (Elt Ideal)) (x5 : (⟨S1536x768, .i8⟩ : BufTy).Contents (Elt Ideal)) (x6 : (⟨S_, .f32⟩ : BufTy).Contents (Elt Ideal)) (x7 : (⟨S1536x768, .i8⟩ : BufTy).Contents (Elt Ideal)) (x8 : (⟨S_, .f32⟩ : BufTy).Contents (Elt Ideal)) (x9 : (⟨S6144, .f32⟩ : BufTy).Contents (Elt Ideal)) : val_main_v206 (F := Ideal) x0 x1 x2 x3 x4 x5 x6 x7 x8 x9 = gScale6144 (F := Ideal) (val_main_v186 (F := Ideal) x0 x1 x2 x3 x4 x5 x6 x7 x8) x9 := rfl

theorem attn_code (x0 : (⟨S2x128x6144, .bf16⟩ : BufTy).Contents (Elt Ideal)) (x1 : (⟨S2, .i32⟩ : BufTy).Contents (Elt Ideal)) (x2 : (⟨S6144, .f32⟩ : BufTy).Contents (Elt Ideal)) (x3 : (⟨S1536x6144, .i8⟩ : BufTy).Contents (Elt Ideal)) (x4 : (⟨S_, .f32⟩ : BufTy).Contents (Elt Ideal)) (x5 : (⟨S1536x768, .i8⟩ : BufTy).Contents (Elt Ideal)) (x6 : (⟨S_, .f32⟩ : BufTy).Contents (Elt Ideal)) (x7 : (⟨S1536x768, .i8⟩ : BufTy).Contents (Elt Ideal)) (x8 : (⟨S_, .f32⟩ : BufTy).Contents (Elt Ideal)) (x9 : (⟨S6144, .f32⟩ : BufTy).Contents (Elt Ideal)) : val_main_v213 (F := Ideal) x0 x1 x2 x3 x4 x5 x6 x7 x8 x9 = gCode6144 (F := Ideal) (val_main_v186 (F := Ideal) x0 x1 x2 x3 x4 x5 x6 x7 x8) x9 := rfl

theorem ffn_rstd (x0 : (⟨S2x128x6144, .bf16⟩ : BufTy).Contents (Elt Ideal)) (x1 : (⟨S2, .i32⟩ : BufTy).Contents (Elt Ideal)) (x2 : (⟨S6144, .f32⟩ : BufTy).Contents (Elt Ideal)) (x3 : (⟨S1536x6144, .i8⟩ : BufTy).Contents (Elt Ideal)) (x4 : (⟨S_, .f32⟩ : BufTy).Contents (Elt Ideal)) (x5 : (⟨S1536x768, .i8⟩ : BufTy).Contents (Elt Ideal)) (x6 : (⟨S_, .f32⟩ : BufTy).Contents (Elt Ideal)) (x7 : (⟨S1536x768, .i8⟩ : BufTy).Contents (Elt Ideal)) (x8 : (⟨S_, .f32⟩ : BufTy).Contents (Elt Ideal)) (x9 : (⟨S6144, .f32⟩ : BufTy).Contents (Elt Ideal)) (x10 : (⟨S1536x6144, .i8⟩ : BufTy).Contents (Elt Ideal)) (x11 : (⟨S_, .f32⟩ : BufTy).Contents (Elt Ideal)) : val_main_v248 (F := Ideal) x0 x1 x2 x3 x4 x5 x6 x7 x8 x9 x10 x11 = gR6144 (F := Ideal) (val_main_v241 (F := Ideal) x0 x1 x2 x3 x4 x5 x6 x7 x8 x9 x10 x11) := rfl

theorem ffn_scl (x0 : (⟨S2x128x6144, .bf16⟩ : BufTy).Contents (Elt Ideal)) (x1 : (⟨S2, .i32⟩ : BufTy).Contents (Elt Ideal)) (x2 : (⟨S6144, .f32⟩ : BufTy).Contents (Elt Ideal)) (x3 : (⟨S1536x6144, .i8⟩ : BufTy).Contents (Elt Ideal)) (x4 : (⟨S_, .f32⟩ : BufTy).Contents (Elt Ideal)) (x5 : (⟨S1536x768, .i8⟩ : BufTy).Contents (Elt Ideal)) (x6 : (⟨S_, .f32⟩ : BufTy).Contents (Elt Ideal)) (x7 : (⟨S1536x768, .i8⟩ : BufTy).Contents (Elt Ideal)) (x8 : (⟨S_, .f32⟩ : BufTy).Contents (Elt Ideal)) (x9 : (⟨S6144, .f32⟩ : BufTy).Contents (Elt Ideal)) (x10 : (⟨S1536x6144, .i8⟩ : BufTy).Contents (Elt Ideal)) (x11 : (⟨S_, .f32⟩ : BufTy).Contents (Elt Ideal)) (x12 : (⟨S6144, .f32⟩ : BufTy).Contents (Elt Ideal)) : val_main_v261 (F := Ideal) x0 x1 x2 x3 x4 x5 x6 x7 x8 x9 x10 x11 x12 = gScale6144 (F := Ideal) (val_main_v241 (F := Ideal) x0 x1 x2 x3 x4 x5 x6 x7 x8 x9 x10 x11) x12 := rfl

theorem ffn_code (x0 : (⟨S2x128x6144, .bf16⟩ : BufTy).Contents (Elt Ideal)) (x1 : (⟨S2, .i32⟩ : BufTy).Contents (Elt Ideal)) (x2 : (⟨S6144, .f32⟩ : BufTy).Contents (Elt Ideal)) (x3 : (⟨S1536x6144, .i8⟩ : BufTy).Contents (Elt Ideal)) (x4 : (⟨S_, .f32⟩ : BufTy).Contents (Elt Ideal)) (x5 : (⟨S1536x768, .i8⟩ : BufTy).Contents (Elt Ideal)) (x6 : (⟨S_, .f32⟩ : BufTy).Contents (Elt Ideal)) (x7 : (⟨S1536x768, .i8⟩ : BufTy).Contents (Elt Ideal)) (x8 : (⟨S_, .f32⟩ : BufTy).Contents (Elt Ideal)) (x9 : (⟨S6144, .f32⟩ : BufTy).Contents (Elt Ideal)) (x10 : (⟨S1536x6144, .i8⟩ : BufTy).Contents (Elt Ideal)) (x11 : (⟨S_, .f32⟩ : BufTy).Contents (Elt Ideal)) (x12 : (⟨S6144, .f32⟩ : BufTy).Contents (Elt Ideal)) : val_main_v268 (F := Ideal) x0 x1 x2 x3 x4 x5 x6 x7 x8 x9 x10 x11 x12 = gCode6144 (F := Ideal) (val_main_v241 (F := Ideal) x0 x1 x2 x3 x4 x5 x6 x7 x8 x9 x10 x11) x12 := rfl

end Cert.ReferenceIdeal.RefValue
end
-- ==== Proof.RefQuantW.lean ====
module

public import proofs.«01_k».proof.Proof.Gen.ReferenceIdeal.Read
public import proofs.«01_k».proof.Proof.RefQuant
public import Idealize.ShloMosaic.Lib.Pointwise

/-! The reference's norm and quantiser on rows of 16384 entries. -/

@[expose] public section
noncomputable section
namespace Cert.ReferenceIdeal.RefValue
open Cert.ReferenceIdeal Cert.ReferenceIdeal.Gen Cert.ReferenceIdeal.Read Idealize.ShloMosaic Idealize.ShloMosaic.StableHlo

variable {F : FTy → Type} [FloatOps F]

/-- The number of entries of a row, as the reference writes it. -/
abbrev n14 : EReal := Ideal.ofBits FTy.f32 0x46800000#32

/-- The reciprocal root mean squares of the rows. -/
def gR16384 (y : (⟨S2x128x16384, .f32⟩ : BufTy).Contents (Elt F)) : (⟨S2x128, .f32⟩ : BufTy).Contents (Elt F) :=
  Host.rsqrt (addf (Host.divf (Host.reduceAdd (mulf y y) (constant S_ .f32 0x00000000#32) reducesTo_S2x128x16384_S2x128_d2 h_S_)
    (broadcastInDim S2x128 ![] bcast_S_S2x128 (constant S_ .f32 0x46800000#32))) (broadcastInDim S2x128 ![] bcast_S_S2x128 (constant S_ .f32 0x3727C5AC#32)))

/-- The normed rows times their gains. -/
def gN16384 (y : (⟨S2x128x16384, .f32⟩ : BufTy).Contents (Elt F)) (r : (⟨S2x128, .f32⟩ : BufTy).Contents (Elt F)) (g : (⟨S16384, .f32⟩ : BufTy).Contents (Elt F)) : (⟨S2x128x16384, .f32⟩ : BufTy).Contents (Elt F) :=
  mulf (mulf y (broadcastInDim S2x128x16384 ![0, 1, 2] bcast_S2x128x1_S2x128x16384_0_1_2 (broadcastInDim S2x128x1 ![0, 1] bcast_S2x128_S2x128x1_0_1 r)))
    (broadcastInDim S2x128x16384 ![0, 1, 2] bcast_S1x1x16384_S2x128x16384_0_1_2 (broadcastInDim S1x1x16384 ![2] bcast_S16384_S1x1x16384_2 g))

/-- The rows' largest magnitudes. -/
def gA16384 (z : (⟨S2x128x16384, .f32⟩ : BufTy).Contents (Elt F)) : (⟨S2x128, .f32⟩ : BufTy).Contents (Elt F) :=
  Host.reduce FloatOps.maximumf (Host.absf z) (constant S_ .f32 0xFF800000#32) reducesTo_S2x128x16384_S2x128_d2 h_S_

/-- The codes of normed rows under their scales. -/
def gC16384 (z : (⟨S2x128x16384, .f32⟩ : BufTy).Contents (Elt F)) (s : (⟨S2x128, .f32⟩ : BufTy).Contents (Elt F)) : (⟨S2x128x16384, .i8⟩ : BufTy).Contents (Elt F) :=
  trunci 8 (fptosi 32 (minimumf (broadcastInDim S2x128x16384 ![] bcast_S_S2x128x16384 (sitofp .f32 (constantI S_ 32 127#32)))
    (maximumf (broadcastInDim S2x128x16384 ![] bcast_S_S2x128x16384 (sitofp .f32 (constantI S_ 32 4294967169#32)))
      (Host.roundeven (Host.divf z (broadcastInDim S2x128x16384 ![0, 1, 2] bcast_S2x128x1_S2x128x16384_0_1_2 (broadcastInDim S2x128x1 ![0, 1] bcast_S2x128_S2x128x1_0_1 s))))))) natLt_8_32

theorem gR16384_apply (y : Vec Ideal S2x128x16384 .f32) (b : Fin 2) (s : Fin 128) : gR16384 (F := Ideal) y (ix2 b s) = Tern.rstd n14 (fun k => y (ix3 b s k)) := by
  pointwise [gR16384]
  rfl

theorem gN16384_apply (y : Vec Ideal S2x128x16384 .f32) (r : Vec Ideal S2x128 .f32) (g : Vec Ideal S16384 .f32) (b : Fin 2) (s : Fin 128) (k : Fin 16384) :
    gN16384 (F := Ideal) y r g (ix3 b s k) = y (ix3 b s k) * r (ix2 b s) * g (ix1 k) := by
  pointwise [gN16384]

theorem gA16384_apply (z : Vec Ideal S2x128x16384 .f32) (b : Fin 2) (s : Fin 128) : gA16384 (F := Ideal) z (ix2 b s)
    = (Finset.univ : Finset (Fin 16384)).fold max (Ideal.ofBits .f32 0xFF800000#32) (fun k => FloatOps.absf (F := Ideal) (φ := .f32) (z (ix3 b s k))) := by
  pointwise [gA16384]

theorem gC16384_apply (z : Vec Ideal S2x128x16384 .f32) (s : Vec Ideal S2x128 .f32) (b : Fin 2) (t : Fin 128) (k : Fin 16384) :
    gC16384 (F := Ideal) z s (ix3 b t k) = Ideal.fptosi 8 (Tern.clip (Ideal.div (z (ix3 b t k)) (s (ix2 b t)))) := by
  pointwise [gC16384]
  rw [sitofp_127, sitofp_neg127]
  exact Tern.trunc_fptosi_clip _

/-- The scales of rows. -/
def gScale16384 (y : (⟨S2x128x16384, .f32⟩ : BufTy).Contents (Elt F)) (g : (⟨S16384, .f32⟩ : BufTy).Contents (Elt F)) : (⟨S2x128, .f32⟩ : BufTy).Contents (Elt F) := gS (gA16384 (gN16384 y (gR16384 y) g))

/-- The codes of rows. -/
def gCode16384 (y : (⟨S2x128x16384, .f32⟩ : BufTy).Contents (Elt F)) (g : (⟨S16384, .f32⟩ : BufTy).Contents (Elt F)) : (⟨S2x128x16384, .i8⟩ : BufTy).Contents (Elt F) := gC16384 (gN16384 y (gR16384 y) g) (gScale16384 y g)

theorem gNorm16384_apply (y : Vec Ideal S2x128x16384 .f32) (g : Vec Ideal S16384 .f32) (b : Fin 2) (s : Fin 128) (k : Fin 16384) :
    gN16384 (F := Ideal) y (gR16384 y) g (ix3 b s k) = Tern.nrm n14 (fun k => y (ix3 b s k)) (fun k => g (ix1 k)) k := by
  rw [gN16384_apply, gR16384_apply]
  rfl

theorem gScale16384_apply (y : Vec Ideal S2x128x16384 .f32) (g : Vec Ideal S16384 .f32) (b : Fin 2) (s : Fin 128) :
    gScale16384 (F := Ideal) y g (ix2 b s) = Tern.scl n14 (fun k => y (ix3 b s k)) (fun k => g (ix1 k)) := by
  rw [gScale16384, gS_apply, gA16384_apply]
  simp only [gNorm16384_apply]
  rfl

theorem gCode16384_apply (y : Vec Ideal S2x128x16384 .f32) (g : Vec Ideal S16384 .f32) (b : Fin 2) (s : Fin 128) (k : Fin 16384) :
    gCode16384 (F := Ideal) y g (ix3 b s k) = Tern.code n14 (fun k => y (ix3 b s k)) (fun k => g (ix1 k)) k := by
  rw [gCode16384, gC16384_apply, gNorm16384_apply, gScale16384_apply]
  rfl

theorem down_rstd (x0 : (⟨S2x128x6144, .bf16⟩ : BufTy).Contents (Elt Ideal)) (x1 : (⟨S2, .i32⟩ : BufTy).Contents (Elt Ideal)) (x2 : (⟨S6144, .f32⟩ : BufTy).Contents (Elt Ideal)) (x3 : (⟨S1536x6144, .i8⟩ : BufTy).Contents (Elt Ideal)) (x4 : (⟨S_, .f32⟩ : BufTy).Contents (Elt Ideal)) (x5 : (⟨S1536x768, .i8⟩ : BufTy).Contents (Elt Ideal)) (x6 : (⟨S_, .f32⟩ : BufTy).Contents (Elt Ideal)) (x7 : (⟨S1536x768, .i8⟩ : BufTy).Contents (Elt Ideal)) (x8 : (⟨S_, .f32⟩ : BufTy).Contents (Elt Ideal)) (x9 : (⟨S6144, .f32⟩ : BufTy).Contents (Elt Ideal)) (x10 : (⟨S1536x6144, .i8⟩ : BufTy).Contents (Elt Ideal)) (x11 : (⟨S_, .f32⟩ : BufTy).Contents (Elt Ideal)) (x12 : (⟨S6144, .f32⟩ : BufTy).Contents (Elt Ideal)) (x13 : (⟨S1536x16384, .i8⟩ : BufTy).Contents (Elt Ideal)) (x14 : (⟨S_, .f32⟩ : BufTy).Contents (Elt Ideal)) (x15 : (⟨S1536x16384, .i8⟩ : BufTy).Contents (Elt Ideal)) (x16 : (⟨S_, .f32⟩ : BufTy).Contents (Elt Ideal)) : val_main_v332 (F := Ideal) x0 x1 x2 x3 x4 x5 x6 x7 x8 x9 x10 x11 x12 x13 x14 x15 x16 = gR16384 (F := Ideal) (val_main_v325 (F := Ideal) x0 x1 x2 x3 x4 x5 x6 x7 x8 x9 x10 x11 x12 x13 x14 x15 x16) := rfl

theorem down_scl (x0 : (⟨S2x128x6144, .bf16⟩ : BufTy).Contents (Elt Ideal)) (x1 : (⟨S2, .i32⟩ : BufTy).Contents (Elt Ideal)) (x2 : (⟨S6144, .f32⟩ : BufTy).Contents (Elt Ideal)) (x3 : (⟨S1536x6144, .i8⟩ : BufTy).Contents (Elt Ideal)) (x4 : (⟨S_, .f32⟩ : BufTy).Contents (Elt Ideal)) (x5 : (⟨S1536x768, .i8⟩ : BufTy).Contents (Elt Ideal)) (x6 : (⟨S_, .f32⟩ : BufTy).Contents (Elt Ideal)) (x7 : (⟨S1536x768, .i8⟩ : BufTy).Contents (Elt Ideal)) (x8 : (⟨S_, .f32⟩ : BufTy).Contents (Elt Ideal)) (x9 : (⟨S6144, .f32⟩ : BufTy).Contents (Elt Ideal)) (x10 : (⟨S1536x6144, .i8⟩ : BufTy).Contents (Elt Ideal)) (x11 : (⟨S_, .f32⟩ : BufTy).Contents (Elt Ideal)) (x12 : (⟨S6144, .f32⟩ : BufTy).Contents (Elt Ideal)) (x13 : (⟨S1536x16384, .i8⟩ : BufTy).Contents (Elt Ideal)) (x14 : (⟨S_, .f32⟩ : BufTy).Contents (Elt Ideal)) (x15 : (⟨S1536x16384, .i8⟩ : BufTy).Contents (Elt Ideal)) (x16 : (⟨S_, .f32⟩ : BufTy).Contents (Elt Ideal)) (x17 : (⟨S16384, .f32⟩ : BufTy).Contents (Elt Ideal)) : val_main_v345 (F := Ideal) x0 x1 x2 x3 x4 x5 x6 x7 x8 x9 x10 x11 x12 x13 x14 x15 x16 x17 = gScale16384 (F := Ideal) (val_main_v325 (F := Ideal) x0 x1 x2 x3 x4 x5 x6 x7 x8 x9 x10 x11 x12 x13 x14 x15 x16) x17 := rfl

theorem down_code (x0 : (⟨S2x128x6144, .bf16⟩ : BufTy).Contents (Elt Ideal)) (x1 : (⟨S2, .i32⟩ : BufTy).Contents (Elt Ideal)) (x2 : (⟨S6144, .f32⟩ : BufTy).Contents (Elt Ideal)) (x3 : (⟨S1536x6144, .i8⟩ : BufTy).Contents (Elt Ideal)) (x4 : (⟨S_, .f32⟩ : BufTy).Contents (Elt Ideal)) (x5 : (⟨S1536x768, .i8⟩ : BufTy).Contents (Elt Ideal)) (x6 : (⟨S_, .f32⟩ : BufTy).Contents (Elt Ideal)) (x7 : (⟨S1536x768, .i8⟩ : BufTy).Contents (Elt Ideal)) (x8 : (⟨S_, .f32⟩ : BufTy).Contents (Elt Ideal)) (x9 : (⟨S6144, .f32⟩ : BufTy).Contents (Elt Ideal)) (x10 : (⟨S1536x6144, .i8⟩ : BufTy).Contents (Elt Ideal)) (x11 : (⟨S_, .f32⟩ : BufTy).Contents (Elt Ideal)) (x12 : (⟨S6144, .f32⟩ : BufTy).Contents (Elt Ideal)) (x13 : (⟨S1536x16384, .i8⟩ : BufTy).Contents (Elt Ideal)) (x14 : (⟨S_, .f32⟩ : BufTy).Contents (Elt Ideal)) (x15 : (⟨S1536x16384, .i8⟩ : BufTy).Contents (Elt Ideal)) (x16 : (⟨S_, .f32⟩ : BufTy).Contents (Elt Ideal)) (x17 : (⟨S16384, .f32⟩ : BufTy).Contents (Elt Ideal)) : val_main_v352 (F := Ideal) x0 x1 x2 x3 x4 x5 x6 x7 x8 x9 x10 x11 x12 x13 x14 x15 x16 x17 = gCode16384 (F := Ideal) (val_main_v325 (F := Ideal) x0 x1 x2 x3 x4 x5 x6 x7 x8 x9 x10 x11 x12 x13 x14 x15 x16) x17 := rfl

end Cert.ReferenceIdeal.RefValue
end
-- ==== Proof.RefDot.lean ====
module

public import proofs.«01_k».proof.Proof.Gen.ReferenceIdeal.Read
public import proofs.«01_k».proof.Proof.Spec
public import Idealize.ShloMosaic.Lib.Pointwise

/-! The reference's products of codes with packed two-bit weights. -/

@[expose] public section
noncomputable section
namespace Cert.ReferenceIdeal.RefValue
open Cert.ReferenceIdeal Cert.ReferenceIdeal.Gen Cert.ReferenceIdeal.Read Idealize.ShloMosaic Idealize.ShloMosaic.StableHlo

variable {F : FTy → Type} [FloatOps F]

/-- A field of a packed byte, less one, as the reference takes it. -/
theorem field_sub_one (w : BitVec 8) (f : Fin 4) :
    (IntOp.subi (IntOp.andi (IntOp.shrsi ArithUnit.host (BitVec.setWidth 32 w) (IntOp.muli 2#32 (BitVec.ofNat 32 f.val))) 3#32) 1#32).toInt
      = (Tern.fld w f.val : ℤ) - 1 := by
  revert w
  fin_cases f <;> decide +kernel

/-- The codes by field and byte row. -/
def gL6144 (c : (⟨S2x128x6144, .i8⟩ : BufTy).Contents (Elt F)) : (⟨S4x256x1536, .bf16⟩ : BufTy).Contents (Elt F) :=
  transpose S4x256x1536 [2, 0, 1] (shapeCast S256x1536x4 (truncf .bf16 (sitofp .f32 (extsi 32 c natLt_8_32)) bitsLt_bf16_f32) shapeCasts_S2x128x6144_S256x1536x4) transposes_S256x1536x4_S4x256x1536_2_0_1

theorem gL6144_apply (c : Vec Ideal S2x128x6144 .i8) (f : Fin 4) (b : Fin 2) (t : Fin 128) (r : Fin 1536) :
    gL6144 (F := Ideal) c (ix3 f ⟨b.val * 128 + t.val, by omega⟩ r) = (((c (ix3 b t ⟨4 * r.val + f.val, by omega⟩)).toInt : ℝ) : EReal) := by
  pointwise [gL6144]
  have e : (⟨r.val * 4 + f.val, by omega⟩ : Fin 6144) = ⟨4 * r.val + f.val, by omega⟩ := Fin.ext (by simp only; omega)
  rw [e]
  show (((BitVec.signExtend 32 (c _)).toInt : ℝ) : EReal) = _
  rw [BitVec.toInt_signExtend_of_le (by norm_num)]

/-- The codes by field and byte row. -/
def gL16384 (c : (⟨S2x128x16384, .i8⟩ : BufTy).Contents (Elt F)) : (⟨S4x256x4096, .bf16⟩ : BufTy).Contents (Elt F) :=
  transpose S4x256x4096 [2, 0, 1] (shapeCast S256x4096x4 (truncf .bf16 (sitofp .f32 (extsi 32 c natLt_8_32)) bitsLt_bf16_f32) shapeCasts_S2x128x16384_S256x4096x4) transposes_S256x4096x4_S4x256x4096_2_0_1

theorem gL16384_apply (c : Vec Ideal S2x128x16384 .i8) (f : Fin 4) (b : Fin 2) (t : Fin 128) (r : Fin 4096) :
    gL16384 (F := Ideal) c (ix3 f ⟨b.val * 128 + t.val, by omega⟩ r) = (((c (ix3 b t ⟨4 * r.val + f.val, by omega⟩)).toInt : ℝ) : EReal) := by
  pointwise [gL16384]
  have e : (⟨r.val * 4 + f.val, by omega⟩ : Fin 16384) = ⟨4 * r.val + f.val, by omega⟩ := Fin.ext (by simp only; omega)
  rw [e]
  show (((BitVec.signExtend 32 (c _)).toInt : ℝ) : EReal) = _
  rw [BitVec.toInt_signExtend_of_le (by norm_num)]

/-- The weights by field and byte row. -/
def gW1536x6144 (w : (⟨S1536x6144, .i8⟩ : BufTy).Contents (Elt F)) : (⟨S4x1536x6144, .bf16⟩ : BufTy).Contents (Elt F) :=
  truncf .bf16 (sitofp .f32 (subi (andi (Host.shrsi (broadcastInDim S4x1536x6144 ![0, 1, 2] bcast_S1x1536x6144_S4x1536x6144_0_1_2 (broadcastInDim S1x1536x6144 ![1, 2] bcast_S1536x6144_S1x1536x6144_1_2 (extui 32 w natLt_8_32))) (broadcastInDim S4x1536x6144 ![0, 1, 2] bcast_S4x1x1_S4x1536x6144_0_1_2 (broadcastInDim S4x1x1 ![0] bcast_S4_S4x1x1_0 (muli (broadcastInDim S4 ![] bcast_S_S4 (constantI S_ 32 2#32)) (iotaInDim S4 32 0))))) (broadcastInDim S4x1536x6144 ![] bcast_S_S4x1536x6144 (constantI S_ 32 3#32))) (broadcastInDim S4x1536x6144 ![] bcast_S_S4x1536x6144 (constantI S_ 32 1#32)))) bitsLt_bf16_f32

theorem gW1536x6144_apply (w : Vec Ideal S1536x6144 .i8) (f : Fin 4) (r : Fin 1536) (j : Fin 6144) :
    gW1536x6144 (F := Ideal) w (ix3 f r j) = (((Tern.fld (w (ix2 r j)) f.val : ℝ) - 1 : ℝ) : EReal) := by
  pointwise [gW1536x6144]
  show ((BitVec.toInt _ : ℝ) : EReal) = _
  rw [field_sub_one]
  push_cast
  rfl

/-- The weights by field and byte row. -/
def gW1536x768 (w : (⟨S1536x768, .i8⟩ : BufTy).Contents (Elt F)) : (⟨S4x1536x768, .bf16⟩ : BufTy).Contents (Elt F) :=
  truncf .bf16 (sitofp .f32 (subi (andi (Host.shrsi (broadcastInDim S4x1536x768 ![0, 1, 2] bcast_S1x1536x768_S4x1536x768_0_1_2 (broadcastInDim S1x1536x768 ![1, 2] bcast_S1536x768_S1x1536x768_1_2 (extui 32 w natLt_8_32))) (broadcastInDim S4x1536x768 ![0, 1, 2] bcast_S4x1x1_S4x1536x768_0_1_2 (broadcastInDim S4x1x1 ![0] bcast_S4_S4x1x1_0 (muli (broadcastInDim S4 ![] bcast_S_S4 (constantI S_ 32 2#32)) (iotaInDim S4 32 0))))) (broadcastInDim S4x1536x768 ![] bcast_S_S4x1536x768 (constantI S_ 32 3#32))) (broadcastInDim S4x1536x768 ![] bcast_S_S4x1536x768 (constantI S_ 32 1#32)))) bitsLt_bf16_f32

theorem gW1536x768_apply (w : Vec Ideal S1536x768 .i8) (f : Fin 4) (r : Fin 1536) (j : Fin 768) :
    gW1536x768 (F := Ideal) w (ix3 f r j) = (((Tern.fld (w (ix2 r j)) f.val : ℝ) - 1 : ℝ) : EReal) := by
  pointwise [gW1536x768]
  show ((BitVec.toInt _ : ℝ) : EReal) = _
  rw [field_sub_one]
  push_cast
  rfl

/-- The weights by field and byte row. -/
def gW1536x16384 (w : (⟨S1536x16384, .i8⟩ : BufTy).Contents (Elt F)) : (⟨S4x1536x16384, .bf16⟩ : BufTy).Contents (Elt F) :=
  truncf .bf16 (sitofp .f32 (subi (andi (Host.shrsi (broadcastInDim S4x1536x16384 ![0, 1, 2] bcast_S1x1536x16384_S4x1536x16384_0_1_2 (broadcastInDim S1x1536x16384 ![1, 2] bcast_S1536x16384_S1x1536x16384_1_2 (extui 32 w natLt_8_32))) (broadcastInDim S4x1536x16384 ![0, 1, 2] bcast_S4x1x1_S4x1536x16384_0_1_2 (broadcastInDim S4x1x1 ![0] bcast_S4_S4x1x1_0 (muli (broadcastInDim S4 ![] bcast_S_S4 (constantI S_ 32 2#32)) (iotaInDim S4 32 0))))) (broadcastInDim S4x1536x16384 ![] bcast_S_S4x1536x16384 (constantI S_ 32 3#32))) (broadcastInDim S4x1536x16384 ![] bcast_S_S4x1536x16384 (constantI S_ 32 1#32)))) bitsLt_bf16_f32

theorem gW1536x16384_apply (w : Vec Ideal S1536x16384 .i8) (f : Fin 4) (r : Fin 1536) (j : Fin 16384) :
    gW1536x16384 (F := Ideal) w (ix3 f r j) = (((Tern.fld (w (ix2 r j)) f.val : ℝ) - 1 : ℝ) : EReal) := by
  pointwise [gW1536x16384]
  show ((BitVec.toInt _ : ℝ) : EReal) = _
  rw [field_sub_one]
  push_cast
  rfl

/-- The weights by field and byte row. -/
def gW4096x6144 (w : (⟨S4096x6144, .i8⟩ : BufTy).Contents (Elt F)) : (⟨S4x4096x6144, .bf16⟩ : BufTy).Contents (Elt F) :=
  truncf .bf16 (sitofp .f32 (subi (andi (Host.shrsi (broadcastInDim S4x4096x6144 ![0, 1, 2] bcast_S1x4096x6144_S4x4096x6144_0_1_2 (broadcastInDim S1x4096x6144 ![1, 2] bcast_S4096x6144_S1x4096x6144_1_2 (extui 32 w natLt_8_32))) (broadcastInDim S4x4096x6144 ![0, 1, 2] bcast_S4x1x1_S4x4096x6144_0_1_2 (broadcastInDim S4x1x1 ![0] bcast_S4_S4x1x1_0 (muli (broadcastInDim S4 ![] bcast_S_S4 (constantI S_ 32 2#32)) (iotaInDim S4 32 0))))) (broadcastInDim S4x4096x6144 ![] bcast_S_S4x4096x6144 (constantI S_ 32 3#32))) (broadcastInDim S4x4096x6144 ![] bcast_S_S4x4096x6144 (constantI S_ 32 1#32)))) bitsLt_bf16_f32

theorem gW4096x6144_apply (w : Vec Ideal S4096x6144 .i8) (f : Fin 4) (r : Fin 4096) (j : Fin 6144) :
    gW4096x6144 (F := Ideal) w (ix3 f r j) = (((Tern.fld (w (ix2 r j)) f.val : ℝ) - 1 : ℝ) : EReal) := by
  pointwise [gW4096x6144]
  show ((BitVec.toInt _ : ℝ) : EReal) = _
  rw [field_sub_one]
  push_cast
  rfl

/-- The product of codes with weights, by the rows' scales and the weights'. -/
def gM6144x6144 (c : (⟨S2x128x6144, .i8⟩ : BufTy).Contents (Elt F)) (w : (⟨S1536x6144, .i8⟩ : BufTy).Contents (Elt F)) (a : (⟨S2x128, .f32⟩ : BufTy).Contents (Elt F)) (s : (⟨S_, .f32⟩ : BufTy).Contents (Elt F)) :
    (⟨S2x128x6144, .f32⟩ : BufTy).Contents (Elt F) :=
  mulf (mulf (shapeCast S2x128x6144 (Host.dotGeneral dot_S4x256x1536_S4x1536x6144_S256x6144_02_01_1_2_n_n none (gL6144 c) (gW1536x6144 w)) shapeCasts_S256x6144_S2x128x6144) (broadcastInDim S2x128x6144 ![0, 1, 2] bcast_S2x128x1_S2x128x6144_0_1_2 (broadcastInDim S2x128x1 ![0, 1] bcast_S2x128_S2x128x1_0_1 a))) (broadcastInDim S2x128x6144 ![] bcast_S_S2x128x6144 s)

theorem gM6144x6144_apply (c : Vec Ideal S2x128x6144 .i8) (w : Vec Ideal S1536x6144 .i8) (a : Vec Ideal S2x128 .f32) (s : Vec Ideal S_ .f32)
    (b : Fin 2) (t : Fin 128) (j : Fin 6144) : gM6144x6144 (F := Ideal) c w a s (ix3 b t j)
      = ((Tern.dotCol (N := 6144) (K4 := 1536) rfl (fun k => c (ix3 b t k)) (fun r => w (ix2 r j)) : ℝ) : EReal) * a (ix2 b t) * s ix0 := by
  pointwise [gM6144x6144]
  simp only [gL6144_apply, gW1536x6144_apply, ← EReal.coe_mul, ← Tern.coe_sum]
  rfl

/-- The product of codes with weights, by the rows' scales and the weights'. -/
def gM6144x768 (c : (⟨S2x128x6144, .i8⟩ : BufTy).Contents (Elt F)) (w : (⟨S1536x768, .i8⟩ : BufTy).Contents (Elt F)) (a : (⟨S2x128, .f32⟩ : BufTy).Contents (Elt F)) (s : (⟨S_, .f32⟩ : BufTy).Contents (Elt F)) :
    (⟨S2x128x768, .f32⟩ : BufTy).Contents (Elt F) :=
  mulf (mulf (shapeCast S2x128x768 (Host.dotGeneral dot_S4x256x1536_S4x1536x768_S256x768_02_01_1_2_n_n none (gL6144 c) (gW1536x768 w)) shapeCasts_S256x768_S2x128x768) (broadcastInDim S2x128x768 ![0, 1, 2] bcast_S2x128x1_S2x128x768_0_1_2 (broadcastInDim S2x128x1 ![0, 1] bcast_S2x128_S2x128x1_0_1 a))) (broadcastInDim S2x128x768 ![] bcast_S_S2x128x768 s)

theorem gM6144x768_apply (c : Vec Ideal S2x128x6144 .i8) (w : Vec Ideal S1536x768 .i8) (a : Vec Ideal S2x128 .f32) (s : Vec Ideal S_ .f32)
    (b : Fin 2) (t : Fin 128) (j : Fin 768) : gM6144x768 (F := Ideal) c w a s (ix3 b t j)
      = ((Tern.dotCol (N := 6144) (K4 := 1536) rfl (fun k => c (ix3 b t k)) (fun r => w (ix2 r j)) : ℝ) : EReal) * a (ix2 b t) * s ix0 := by
  pointwise [gM6144x768]
  simp only [gL6144_apply, gW1536x768_apply, ← EReal.coe_mul, ← Tern.coe_sum]
  rfl

/-- The product of codes with weights, by the rows' scales and the weights'. -/
def gM6144x16384 (c : (⟨S2x128x6144, .i8⟩ : BufTy).Contents (Elt F)) (w : (⟨S1536x16384, .i8⟩ : BufTy).Contents (Elt F)) (a : (⟨S2x128, .f32⟩ : BufTy).Contents (Elt F)) (s : (⟨S_, .f32⟩ : BufTy).Contents (Elt F)) :
    (⟨S2x128x16384, .f32⟩ : BufTy).Contents (Elt F) :=
  mulf (mulf (shapeCast S2x128x16384 (Host.dotGeneral dot_S4x256x1536_S4x1536x16384_S256x16384_02_01_1_2_n_n none (gL6144 c) (gW1536x16384 w)) shapeCasts_S256x16384_S2x128x16384) (broadcastInDim S2x128x16384 ![0, 1, 2] bcast_S2x128x1_S2x128x16384_0_1_2 (broadcastInDim S2x128x1 ![0, 1] bcast_S2x128_S2x128x1_0_1 a))) (broadcastInDim S2x128x16384 ![] bcast_S_S2x128x16384 s)

theorem gM6144x16384_apply (c : Vec Ideal S2x128x6144 .i8) (w : Vec Ideal S1536x16384 .i8) (a : Vec Ideal S2x128 .f32) (s : Vec Ideal S_ .f32)
    (b : Fin 2) (t : Fin 128) (j : Fin 16384) : gM6144x16384 (F := Ideal) c w a s (ix3 b t j)
      = ((Tern.dotCol (N := 6144) (K4 := 1536) rfl (fun k => c (ix3 b t k)) (fun r => w (ix2 r j)) : ℝ) : EReal) * a (ix2 b t) * s ix0 := by
  pointwise [gM6144x16384]
  simp only [gL6144_apply, gW1536x16384_apply, ← EReal.coe_mul, ← Tern.coe_sum]
  rfl

/-- The product of codes with weights, by the rows' scales and the weights'. -/
def gM16384x6144 (c : (⟨S2x128x16384, .i8⟩ : BufTy).Contents (Elt F)) (w : (⟨S4096x6144, .i8⟩ : BufTy).Contents (Elt F)) (a : (⟨S2x128, .f32⟩ : BufTy).Contents (Elt F)) (s : (⟨S_, .f32⟩ : BufTy).Contents (Elt F)) :
    (⟨S2x128x6144, .f32⟩ : BufTy).Contents (Elt F) :=
  mulf (mulf (shapeCast S2x128x6144 (Host.dotGeneral dot_S4x256x4096_S4x4096x6144_S256x6144_02_01_1_2_n_n none (gL16384 c) (gW4096x6144 w)) shapeCasts_S256x6144_S2x128x6144) (broadcastInDim S2x128x6144 ![0, 1, 2] bcast_S2x128x1_S2x128x6144_0_1_2 (broadcastInDim S2x128x1 ![0, 1] bcast_S2x128_S2x128x1_0_1 a))) (broadcastInDim S2x128x6144 ![] bcast_S_S2x128x6144 s)

theorem gM16384x6144_apply (c : Vec Ideal S2x128x16384 .i8) (w : Vec Ideal S4096x6144 .i8) (a : Vec Ideal S2x128 .f32) (s : Vec Ideal S_ .f32)
    (b : Fin 2) (t : Fin 128) (j : Fin 6144) : gM16384x6144 (F := Ideal) c w a s (ix3 b t j)
      = ((Tern.dotCol (N := 16384) (K4 := 4096) rfl (fun k => c (ix3 b t k)) (fun r => w (ix2 r j)) : ℝ) : EReal) * a (ix2 b t) * s ix0 := by
  pointwise [gM16384x6144]
  simp only [gL16384_apply, gW4096x6144_apply, ← EReal.coe_mul, ← Tern.coe_sum]
  rfl

theorem q_eq (x0 : (⟨S2x128x6144, .bf16⟩ : BufTy).Contents (Elt Ideal)) (x2 : (⟨S6144, .f32⟩ : BufTy).Contents (Elt Ideal)) (x3 : (⟨S1536x6144, .i8⟩ : BufTy).Contents (Elt Ideal)) (x4 : (⟨S_, .f32⟩ : BufTy).Contents (Elt Ideal)) :
    val_main_v54 (F := Ideal) x0 x2 x3 x4 = gM6144x6144 (F := Ideal) (val_main_v27 (F := Ideal) x0 x2) x3 (val_main_v20 (F := Ideal) x0 x2) x4 := rfl

theorem k_eq (x0 : (⟨S2x128x6144, .bf16⟩ : BufTy).Contents (Elt Ideal)) (x2 : (⟨S6144, .f32⟩ : BufTy).Contents (Elt Ideal)) (x5 : (⟨S1536x768, .i8⟩ : BufTy).Contents (Elt Ideal)) (x6 : (⟨S_, .f32⟩ : BufTy).Contents (Elt Ideal)) :
    val_main_v82 (F := Ideal) x0 x2 x5 x6 = gM6144x768 (F := Ideal) (val_main_v27 (F := Ideal) x0 x2) x5 (val_main_v20 (F := Ideal) x0 x2) x6 := rfl

theorem v_eq (x0 : (⟨S2x128x6144, .bf16⟩ : BufTy).Contents (Elt Ideal)) (x2 : (⟨S6144, .f32⟩ : BufTy).Contents (Elt Ideal)) (x7 : (⟨S1536x768, .i8⟩ : BufTy).Contents (Elt Ideal)) (x8 : (⟨S_, .f32⟩ : BufTy).Contents (Elt Ideal)) :
    val_main_v110 (F := Ideal) x0 x2 x7 x8 = gM6144x768 (F := Ideal) (val_main_v27 (F := Ideal) x0 x2) x7 (val_main_v20 (F := Ideal) x0 x2) x8 := rfl

theorem o_eq (x0 : (⟨S2x128x6144, .bf16⟩ : BufTy).Contents (Elt Ideal)) (x1 : (⟨S2, .i32⟩ : BufTy).Contents (Elt Ideal)) (x2 : (⟨S6144, .f32⟩ : BufTy).Contents (Elt Ideal)) (x3 : (⟨S1536x6144, .i8⟩ : BufTy).Contents (Elt Ideal)) (x4 : (⟨S_, .f32⟩ : BufTy).Contents (Elt Ideal)) (x5 : (⟨S1536x768, .i8⟩ : BufTy).Contents (Elt Ideal)) (x6 : (⟨S_, .f32⟩ : BufTy).Contents (Elt Ideal)) (x7 : (⟨S1536x768, .i8⟩ : BufTy).Contents (Elt Ideal)) (x8 : (⟨S_, .f32⟩ : BufTy).Contents (Elt Ideal)) (x9 : (⟨S6144, .f32⟩ : BufTy).Contents (Elt Ideal)) (x10 : (⟨S1536x6144, .i8⟩ : BufTy).Contents (Elt Ideal)) (x11 : (⟨S_, .f32⟩ : BufTy).Contents (Elt Ideal)) :
    val_main_v240 (F := Ideal) x0 x1 x2 x3 x4 x5 x6 x7 x8 x9 x10 x11 = gM6144x6144 (F := Ideal) (val_main_v213 (F := Ideal) x0 x1 x2 x3 x4 x5 x6 x7 x8 x9) x10 (val_main_v206 (F := Ideal) x0 x1 x2 x3 x4 x5 x6 x7 x8 x9) x11 := rfl

theorem gate_eq (x0 : (⟨S2x128x6144, .bf16⟩ : BufTy).Contents (Elt Ideal)) (x1 : (⟨S2, .i32⟩ : BufTy).Contents (Elt Ideal)) (x2 : (⟨S6144, .f32⟩ : BufTy).Contents (Elt Ideal)) (x3 : (⟨S1536x6144, .i8⟩ : BufTy).Contents (Elt Ideal)) (x4 : (⟨S_, .f32⟩ : BufTy).Contents (Elt Ideal)) (x5 : (⟨S1536x768, .i8⟩ : BufTy).Contents (Elt Ideal)) (x6 : (⟨S_, .f32⟩ : BufTy).Contents (Elt Ideal)) (x7 : (⟨S1536x768, .i8⟩ : BufTy).Contents (Elt Ideal)) (x8 : (⟨S_, .f32⟩ : BufTy).Contents (Elt Ideal)) (x9 : (⟨S6144, .f32⟩ : BufTy).Contents (Elt Ideal)) (x10 : (⟨S1536x6144, .i8⟩ : BufTy).Contents (Elt Ideal)) (x11 : (⟨S_, .f32⟩ : BufTy).Contents (Elt Ideal)) (x12 : (⟨S6144, .f32⟩ : BufTy).Contents (Elt Ideal)) (x13 : (⟨S1536x16384, .i8⟩ : BufTy).Contents (Elt Ideal)) (x14 : (⟨S_, .f32⟩ : BufTy).Contents (Elt Ideal)) :
    val_main_v295 (F := Ideal) x0 x1 x2 x3 x4 x5 x6 x7 x8 x9 x10 x11 x12 x13 x14 = gM6144x16384 (F := Ideal) (val_main_v268 (F := Ideal) x0 x1 x2 x3 x4 x5 x6 x7 x8 x9 x10 x11 x12) x13 (val_main_v261 (F := Ideal) x0 x1 x2 x3 x4 x5 x6 x7 x8 x9 x10 x11 x12) x14 := rfl

theorem up_eq (x0 : (⟨S2x128x6144, .bf16⟩ : BufTy).Contents (Elt Ideal)) (x1 : (⟨S2, .i32⟩ : BufTy).Contents (Elt Ideal)) (x2 : (⟨S6144, .f32⟩ : BufTy).Contents (Elt Ideal)) (x3 : (⟨S1536x6144, .i8⟩ : BufTy).Contents (Elt Ideal)) (x4 : (⟨S_, .f32⟩ : BufTy).Contents (Elt Ideal)) (x5 : (⟨S1536x768, .i8⟩ : BufTy).Contents (Elt Ideal)) (x6 : (⟨S_, .f32⟩ : BufTy).Contents (Elt Ideal)) (x7 : (⟨S1536x768, .i8⟩ : BufTy).Contents (Elt Ideal)) (x8 : (⟨S_, .f32⟩ : BufTy).Contents (Elt Ideal)) (x9 : (⟨S6144, .f32⟩ : BufTy).Contents (Elt Ideal)) (x10 : (⟨S1536x6144, .i8⟩ : BufTy).Contents (Elt Ideal)) (x11 : (⟨S_, .f32⟩ : BufTy).Contents (Elt Ideal)) (x12 : (⟨S6144, .f32⟩ : BufTy).Contents (Elt Ideal)) (x15 : (⟨S1536x16384, .i8⟩ : BufTy).Contents (Elt Ideal)) (x16 : (⟨S_, .f32⟩ : BufTy).Contents (Elt Ideal)) :
    val_main_v322 (F := Ideal) x0 x1 x2 x3 x4 x5 x6 x7 x8 x9 x10 x11 x12 x15 x16 = gM6144x16384 (F := Ideal) (val_main_v268 (F := Ideal) x0 x1 x2 x3 x4 x5 x6 x7 x8 x9 x10 x11 x12) x15 (val_main_v261 (F := Ideal) x0 x1 x2 x3 x4 x5 x6 x7 x8 x9 x10 x11 x12) x16 := rfl

theorem out_eq (x0 : (⟨S2x128x6144, .bf16⟩ : BufTy).Contents (Elt Ideal)) (x1 : (⟨S2, .i32⟩ : BufTy).Contents (Elt Ideal)) (x2 : (⟨S6144, .f32⟩ : BufTy).Contents (Elt Ideal)) (x3 : (⟨S1536x6144, .i8⟩ : BufTy).Contents (Elt Ideal)) (x4 : (⟨S_, .f32⟩ : BufTy).Contents (Elt Ideal)) (x5 : (⟨S1536x768, .i8⟩ : BufTy).Contents (Elt Ideal)) (x6 : (⟨S_, .f32⟩ : BufTy).Contents (Elt Ideal)) (x7 : (⟨S1536x768, .i8⟩ : BufTy).Contents (Elt Ideal)) (x8 : (⟨S_, .f32⟩ : BufTy).Contents (Elt Ideal)) (x9 : (⟨S6144, .f32⟩ : BufTy).Contents (Elt Ideal)) (x10 : (⟨S1536x6144, .i8⟩ : BufTy).Contents (Elt Ideal)) (x11 : (⟨S_, .f32⟩ : BufTy).Contents (Elt Ideal)) (x12 : (⟨S6144, .f32⟩ : BufTy).Contents (Elt Ideal)) (x13 : (⟨S1536x16384, .i8⟩ : BufTy).Contents (Elt Ideal)) (x14 : (⟨S_, .f32⟩ : BufTy).Contents (Elt Ideal)) (x15 : (⟨S1536x16384, .i8⟩ : BufTy).Contents (Elt Ideal)) (x16 : (⟨S_, .f32⟩ : BufTy).Contents (Elt Ideal)) (x17 : (⟨S16384, .f32⟩ : BufTy).Contents (Elt Ideal)) (x18 : (⟨S4096x6144, .i8⟩ : BufTy).Contents (Elt Ideal)) (x19 : (⟨S_, .f32⟩ : BufTy).Contents (Elt Ideal)) :
    val_main_v379 (F := Ideal) x0 x1 x2 x3 x4 x5 x6 x7 x8 x9 x10 x11 x12 x13 x14 x15 x16 x17 x18 x19 = gM16384x6144 (F := Ideal) (val_main_v352 (F := Ideal) x0 x1 x2 x3 x4 x5 x6 x7 x8 x9 x10 x11 x12 x13 x14 x15 x16 x17) x18 (val_main_v345 (F := Ideal) x0 x1 x2 x3 x4 x5 x6 x7 x8 x9 x10 x11 x12 x13 x14 x15 x16 x17) x19 := rfl

end Cert.ReferenceIdeal.RefValue
end
-- ==== Proof.RefAttn.lean ====
module

public import proofs.«01_k».proof.Proof.Gen.ReferenceIdeal.Read
public import proofs.«01_k».proof.Proof.Attn
public import Idealize.ShloMosaic.Lib.Pointwise

/-! The reference's rotation and attention. -/

@[expose] public section
noncomputable section
namespace Cert.ReferenceIdeal.RefValue
open Cert.ReferenceIdeal Cert.ReferenceIdeal.Gen Cert.ReferenceIdeal.Read Idealize.ShloMosaic Idealize.ShloMosaic.StableHlo

variable {F : FTy → Type} [FloatOps F]

/-- The angle of each row and frequency. -/
def gAng (x1 : (⟨S2, .i32⟩ : BufTy).Contents (Elt F)) : (⟨S2x128x48, .f32⟩ : BufTy).Contents (Elt F) :=
  mulf (broadcastInDim S2x128x48 ![0, 1, 2] bcast_S2x128x1_S2x128x48_0_1_2 (broadcastInDim S2x128x1 ![0, 1] bcast_S2x128_S2x128x1_0_1 (sitofp .f32 (addi (broadcastInDim S2x128 ![0, 1] bcast_S2x1_S2x128_0_1 (broadcastInDim S2x1 ![0] bcast_S2_S2x1_0 (x1))) (broadcastInDim S2x128 ![0, 1] bcast_S1x128_S2x128_0_1 (broadcastInDim S1x128 ![1] bcast_S128_S1x128_1 (iotaInDim S128 32 0))))))) (broadcastInDim S2x128x48 ![0, 1, 2] bcast_S1x1x48_S2x128x48_0_1_2 (broadcastInDim S1x1x48 ![2] bcast_S48_S1x1x48_2 (Host.divf (broadcastInDim S48 ![] bcast_S_S48 (constant S_ .f32 0x3F800000#32)) (Host.powf (broadcastInDim S48 ![] bcast_S_S48 (constant S_ .f32 0x48F42400#32)) (Host.divf (addf (broadcastInDim S48 ![] bcast_S_S48 (constant S_ .f32 0x00000000#32)) (mulf (broadcastInDim S48 ![] bcast_S_S48 (constant S_ .f32 0x40000000#32)) (sitofp .f32 (iotaInDim S48 32 0)))) (broadcastInDim S48 ![] bcast_S_S48 (constant S_ .f32 0x42C00000#32)))))))

/-- A row of angles, both halves of a head, by its cosines. -/
def gCos (g : (⟨S2x128x48, .f32⟩ : BufTy).Contents (Elt F)) : (⟨S2x128x1x96, .f32⟩ : BufTy).Contents (Elt F) :=
  Host.cos (broadcastInDim S2x128x1x96 ![0, 1, 3] bcast_S2x128x96_S2x128x1x96_0_1_3 (concatenate S2x128x96 2 [⟨S2x128x48, g⟩, ⟨S2x128x48, g⟩] concatenates_S2x128x48_S2x128x48_S2x128x96_d2))

/-- A row of angles, both halves of a head, by its sines. -/
def gSin (g : (⟨S2x128x48, .f32⟩ : BufTy).Contents (Elt F)) : (⟨S2x128x1x96, .f32⟩ : BufTy).Contents (Elt F) :=
  Host.sin (broadcastInDim S2x128x1x96 ![0, 1, 3] bcast_S2x128x96_S2x128x1x96_0_1_3 (concatenate S2x128x96 2 [⟨S2x128x48, g⟩, ⟨S2x128x48, g⟩] concatenates_S2x128x48_S2x128x48_S2x128x96_d2))

/-- The queries turned. -/
def gRopeQ (x : (⟨S2x128x6144, .f32⟩ : BufTy).Contents (Elt F)) (c s : (⟨S2x128x1x96, .f32⟩ : BufTy).Contents (Elt F)) : (⟨S2x128x64x96, .bf16⟩ : BufTy).Contents (Elt F) :=
  truncf .bf16 (addf (mulf (shapeCast S2x128x64x96 x shapeCasts_S2x128x6144_S2x128x64x96) (broadcastInDim S2x128x64x96 ![0, 1, 2, 3] bcast_S2x128x1x96_S2x128x64x96_0_1_2_3 c)) (mulf (concatenate S2x128x64x96 3 [⟨S2x128x64x48, (Host.negf (extractStridedSlice S2x128x64x48 ![0, 0, 0, 48] (shapeCast S2x128x64x96 x shapeCasts_S2x128x6144_S2x128x64x96) slices_S2x128x64x96_S2x128x64x48_0_0_0_48))⟩, ⟨S2x128x64x48, (extractStridedSlice S2x128x64x48 ![0, 0, 0, 0] (shapeCast S2x128x64x96 x shapeCasts_S2x128x6144_S2x128x64x96) slices_S2x128x64x96_S2x128x64x48_0_0_0_0)⟩] concatenates_S2x128x64x48_S2x128x64x48_S2x128x64x96_d3) (broadcastInDim S2x128x64x96 ![0, 1, 2, 3] bcast_S2x128x1x96_S2x128x64x96_0_1_2_3 s))) bitsLt_bf16_f32

/-- The keys turned. -/
def gRopeK (x : (⟨S2x128x768, .f32⟩ : BufTy).Contents (Elt F)) (c s : (⟨S2x128x1x96, .f32⟩ : BufTy).Contents (Elt F)) : (⟨S2x128x8x96, .bf16⟩ : BufTy).Contents (Elt F) :=
  truncf .bf16 (addf (mulf (shapeCast S2x128x8x96 x shapeCasts_S2x128x768_S2x128x8x96) (broadcastInDim S2x128x8x96 ![0, 1, 2, 3] bcast_S2x128x1x96_S2x128x8x96_0_1_2_3 c)) (mulf (concatenate S2x128x8x96 3 [⟨S2x128x8x48, (Host.negf (extractStridedSlice S2x128x8x48 ![0, 0, 0, 48] (shapeCast S2x128x8x96 x shapeCasts_S2x128x768_S2x128x8x96) slices_S2x128x8x96_S2x128x8x48_0_0_0_48))⟩, ⟨S2x128x8x48, (extractStridedSlice S2x128x8x48 ![0, 0, 0, 0] (shapeCast S2x128x8x96 x shapeCasts_S2x128x768_S2x128x8x96) slices_S2x128x8x96_S2x128x8x48_0_0_0_0)⟩] concatenates_S2x128x8x48_S2x128x8x48_S2x128x8x96_d3) (broadcastInDim S2x128x8x96 ![0, 1, 2, 3] bcast_S2x128x1x96_S2x128x8x96_0_1_2_3 s))) bitsLt_bf16_f32

/-- The masked scores. -/
def gScore (q : (⟨S2x128x64x96, .bf16⟩ : BufTy).Contents (Elt F)) (k : (⟨S2x128x8x96, .bf16⟩ : BufTy).Contents (Elt F)) : (⟨S2x8x8x128x128, .f32⟩ : BufTy).Contents (Elt F) :=
  select (broadcastInDim S2x8x8x128x128 ![3, 4] bcast_S128x128_S2x8x8x128x128_3_4 (cmpi .sle (broadcastInDim S128x128 ![0, 1] bcast_S1x128_S128x128_0_1 (broadcastInDim S1x128 ![1] bcast_S128_S1x128_1 (iotaInDim S128 32 0))) (broadcastInDim S128x128 ![0, 1] bcast_S128x1_S128x128_0_1 (broadcastInDim S128x1 ![0] bcast_S128_S128x1_0 (iotaInDim S128 32 0))))) (mulf (transpose S2x8x8x128x128 [0, 1, 4, 3, 2] (Host.dotGeneral dot_S2x128x8x96_S2x128x8x8x96_S2x8x128x128x8_3_4_1_13_02_02 none k (shapeCast S2x128x8x8x96 q shapeCasts_S2x128x64x96_S2x128x8x8x96)) transposes_S2x8x128x128x8_S2x8x8x128x128_0_1_4_3_2) (broadcastInDim S2x8x8x128x128 ![] bcast_S_S2x8x8x128x128 (constant S_ .f32 0x3DD105EC#32))) (broadcastInDim S2x8x8x128x128 ![] bcast_S_S2x8x8x128x128 (id (constant S_ .f32 0xFF800000#32)))

/-- The exponentials of the scores less each row's greatest. -/
def gExp (z : (⟨S2x8x8x128x128, .f32⟩ : BufTy).Contents (Elt F)) : (⟨S2x8x8x128x128, .f32⟩ : BufTy).Contents (Elt F) :=
  Host.exp (subf z (broadcastInDim S2x8x8x128x128 ![0, 1, 2, 3, 4] bcast_S2x8x8x128x1_S2x8x8x128x128_0_1_2_3_4 (broadcastInDim S2x8x8x128x1 ![0, 1, 2, 3] bcast_S2x8x8x128_S2x8x8x128x1_0_1_2_3 (maximumf (broadcastInDim S2x8x8x128 ![] bcast_S_S2x8x8x128 (constant S_ .f32 0xFF800000#32)) (Host.reduce FloatOps.maximumf z (constant S_ .f32 0xFF800000#32) reducesTo_S2x8x8x128x128_S2x8x8x128_d4 h_S_)))))

/-- The values weighted. -/
def gMix (e : (⟨S2x8x8x128x128, .f32⟩ : BufTy).Contents (Elt F)) (v : (⟨S2x128x768, .f32⟩ : BufTy).Contents (Elt F)) : (⟨S2x128x6144, .f32⟩ : BufTy).Contents (Elt F) :=
  shapeCast S2x128x6144 (transpose S2x128x8x8x96 [0, 4, 1, 3, 2] (Host.dotGeneral dot_S2x128x8x96_S2x8x8x128x128_S2x8x96x8x128_1_4_3_23_02_01 none (truncf .bf16 (shapeCast S2x128x8x96 v shapeCasts_S2x128x768_S2x128x8x96) bitsLt_bf16_f32) (truncf .bf16 (Host.divf e (broadcastInDim S2x8x8x128x128 ![0, 1, 2, 3, 4] bcast_S2x8x8x128x1_S2x8x8x128x128_0_1_2_3_4 (broadcastInDim S2x8x8x128x1 ![0, 1, 2, 3] bcast_S2x8x8x128_S2x8x8x128x1_0_1_2_3 (Host.reduceAdd e (constant S_ .f32 0x00000000#32) reducesTo_S2x8x8x128x128_S2x8x8x128_d4 h_S_)))) bitsLt_bf16_f32)) transposes_S2x8x96x8x128_S2x128x8x8x96_0_4_1_3_2) shapeCasts_S2x128x8x8x96_S2x128x6144

theorem gAng_apply (x1 : Vec Ideal S2 .i32) (b : Fin 2) (s : Fin 128) (k : Fin 48) :
    gAng (F := Ideal) x1 (ix3 b s k) = Tern.angle (x1 (ix1 b)) s.val k.val := by
  pointwise [gAng, id]
  rfl

theorem gCos_apply (g : Vec Ideal S2x128x48 .f32) (b : Fin 2) (s : Fin 128) (e : Fin 96) :
    gCos (F := Ideal) g (ix4 b s 0 e) = Ideal.cos (g (ix3 b s ⟨e.val % 48, by omega⟩)) := by
  pointwise [gCos, id]
  have he := e.isLt
  congr 1
  split
  · exact congrArg (fun k => g (ix3 b s k)) (Fin.ext (by show e.val = e.val % 48; omega))
  · exact congrArg (fun k => g (ix3 b s k)) (Fin.ext (by show e.val - 48 = e.val % 48; omega))

theorem gSin_apply (g : Vec Ideal S2x128x48 .f32) (b : Fin 2) (s : Fin 128) (e : Fin 96) :
    gSin (F := Ideal) g (ix4 b s 0 e) = Ideal.sin (g (ix3 b s ⟨e.val % 48, by omega⟩)) := by
  pointwise [gSin, id]
  have he := e.isLt
  congr 1
  split
  · exact congrArg (fun k => g (ix3 b s k)) (Fin.ext (by show e.val = e.val % 48; omega))
  · exact congrArg (fun k => g (ix3 b s k)) (Fin.ext (by show e.val - 48 = e.val % 48; omega))

theorem gRopeQ_apply (x : Vec Ideal S2x128x6144 .f32) (c s : Vec Ideal S2x128x1x96 .f32) (b : Fin 2) (t : Fin 128) (h : Fin 64) (e : Fin 96) :
    gRopeQ (F := Ideal) x c s (ix4 b t h e)
      = Tern.rope (D := 6144) (H := 64) rfl (fun j => x (ix3 b t j)) (c (ix4 b t 0 e)) (s (ix4 b t 0 e)) ⟨h.val * 96 + e.val, by omega⟩ := by
  pointwise [gRopeQ, id]
  have he := e.isLt
  unfold Tern.rope
  have e0 : (h.val * 96 + e.val) % 96 = e.val := by omega
  simp only [e0]
  congr 2
  by_cases h1 : e.val < 48
  · rw [dif_pos h1, if_pos h1]
    exact congrArg (fun k => - x (ix3 b t k)) (Fin.ext (by show h.val * 96 + (48 + e.val) = Tern.half (h.val * 96 + e.val); unfold Tern.half; omega))
  · rw [dif_neg h1, if_neg h1]
    exact congrArg (fun k => x (ix3 b t k)) (Fin.ext (by show h.val * 96 + (e.val - 48) = Tern.half (h.val * 96 + e.val); unfold Tern.half; omega))

theorem gRopeK_apply (x : Vec Ideal S2x128x768 .f32) (c s : Vec Ideal S2x128x1x96 .f32) (b : Fin 2) (t : Fin 128) (h : Fin 8) (e : Fin 96) :
    gRopeK (F := Ideal) x c s (ix4 b t h e)
      = Tern.rope (D := 768) (H := 8) rfl (fun j => x (ix3 b t j)) (c (ix4 b t 0 e)) (s (ix4 b t 0 e)) ⟨h.val * 96 + e.val, by omega⟩ := by
  pointwise [gRopeK, id]
  have he := e.isLt
  unfold Tern.rope
  have e0 : (h.val * 96 + e.val) % 96 = e.val := by omega
  simp only [e0]
  congr 2
  by_cases h1 : e.val < 48
  · rw [dif_pos h1, if_pos h1]
    exact congrArg (fun k => - x (ix3 b t k)) (Fin.ext (by show h.val * 96 + (48 + e.val) = Tern.half (h.val * 96 + e.val); unfold Tern.half; omega))
  · rw [dif_neg h1, if_neg h1]
    exact congrArg (fun k => x (ix3 b t k)) (Fin.ext (by show h.val * 96 + (e.val - 48) = Tern.half (h.val * 96 + e.val); unfold Tern.half; omega))

theorem sle_le : ∀ s t : Fin 128, IntOp.cmpi .sle (BitVec.ofNat 32 t.val) (BitVec.ofNat 32 s.val) = if t.val ≤ s.val then 1#1 else 0#1 := by
  decide +kernel

theorem gScore_apply (q : Vec Ideal S2x128x64x96 .bf16) (k : Vec Ideal S2x128x8x96 .bf16) (b : Fin 2) (h g : Fin 8) (s t : Fin 128) :
    gScore (F := Ideal) q k (ix5 b h g s t)
      = Tern.score s (fun e => q (ix4 b s ⟨h.val * 8 + g.val, by omega⟩ e)) (fun t e => k (ix4 b t h e)) t := by
  pointwise [gScore, id]
  rw [sle_le]
  unfold Tern.score
  by_cases h1 : t.val ≤ s.val
  · rw [if_pos h1, if_pos h1]
    simp only [mul_comm (q _)]
    rfl
  · rw [if_neg h1, if_neg h1]
    rfl

theorem gExp_apply (z : Vec Ideal S2x8x8x128x128 .f32) (b : Fin 2) (h g : Fin 8) (s t : Fin 128) :
    gExp (F := Ideal) z (ix5 b h g s t) = Tern.expo (fun t => z (ix5 b h g s t)) t := by
  pointwise [gExp, id]
  unfold Tern.expo
  congr 2
  exact max_eq_right (Finset.le_fold_max _ |>.mpr (Or.inl le_rfl))

theorem gMix_apply (z : Vec Ideal S2x8x8x128x128 .f32) (v : Vec Ideal S2x128x768 .f32) (b : Fin 2) (s : Fin 128) (j : Fin 6144) :
    gMix (F := Ideal) z v (ix3 b s j)
      = Tern.mix (fun t => z (ix5 b ⟨j.val / 768, by omega⟩ ⟨j.val / 96 % 8, by omega⟩ s t))
        (fun t => v (ix3 b t ⟨j.val / 768 * 96 + j.val % 96, by omega⟩)) := by
  pointwise [gMix, id]
  unfold Tern.mix
  simp only [mul_comm (v _)]

theorem gAttn_apply (q : Vec Ideal S2x128x64x96 .bf16) (k : Vec Ideal S2x128x8x96 .bf16) (v : Vec Ideal S2x128x768 .f32) (b : Fin 2) (s : Fin 128) (j : Fin 6144) :
    gMix (F := Ideal) (gExp (gScore q k)) v (ix3 b s j)
      = Tern.attn s (fun e => q (ix4 b s ⟨j.val / 96, by omega⟩ e)) (fun t e => k (ix4 b t ⟨j.val / 768, by omega⟩ e))
        (fun t => v (ix3 b t ⟨j.val / 768 * 96 + j.val % 96, by omega⟩)) := by
  rw [gMix_apply]
  simp only [gExp_apply, gScore_apply]
  have e : (⟨j.val / 768 * 8 + j.val / 96 % 8, by omega⟩ : Fin 64) = ⟨j.val / 96, by omega⟩ := Fin.ext (by simp only; omega)
  simp only [e]
  rfl

theorem qrot_eq (x0 : (⟨S2x128x6144, .bf16⟩ : BufTy).Contents (Elt Ideal)) (x1 : (⟨S2, .i32⟩ : BufTy).Contents (Elt Ideal)) (x2 : (⟨S6144, .f32⟩ : BufTy).Contents (Elt Ideal)) (x3 : (⟨S1536x6144, .i8⟩ : BufTy).Contents (Elt Ideal)) (x4 : (⟨S_, .f32⟩ : BufTy).Contents (Elt Ideal)) : val_main_v148 (F := Ideal) x0 x1 x2 x3 x4 = gRopeQ (F := Ideal) (val_main_v54 (F := Ideal) x0 x2 x3 x4) (gCos (gAng x1)) (gSin (gAng x1)) := rfl

theorem krot_eq (x0 : (⟨S2x128x6144, .bf16⟩ : BufTy).Contents (Elt Ideal)) (x1 : (⟨S2, .i32⟩ : BufTy).Contents (Elt Ideal)) (x2 : (⟨S6144, .f32⟩ : BufTy).Contents (Elt Ideal)) (x5 : (⟨S1536x768, .i8⟩ : BufTy).Contents (Elt Ideal)) (x6 : (⟨S_, .f32⟩ : BufTy).Contents (Elt Ideal)) : val_main_v158 (F := Ideal) x0 x1 x2 x5 x6 = gRopeK (F := Ideal) (val_main_v82 (F := Ideal) x0 x2 x5 x6) (gCos (gAng x1)) (gSin (gAng x1)) := rfl

theorem attn_eq (x0 : (⟨S2x128x6144, .bf16⟩ : BufTy).Contents (Elt Ideal)) (x1 : (⟨S2, .i32⟩ : BufTy).Contents (Elt Ideal)) (x2 : (⟨S6144, .f32⟩ : BufTy).Contents (Elt Ideal)) (x3 : (⟨S1536x6144, .i8⟩ : BufTy).Contents (Elt Ideal)) (x4 : (⟨S_, .f32⟩ : BufTy).Contents (Elt Ideal)) (x5 : (⟨S1536x768, .i8⟩ : BufTy).Contents (Elt Ideal)) (x6 : (⟨S_, .f32⟩ : BufTy).Contents (Elt Ideal)) (x7 : (⟨S1536x768, .i8⟩ : BufTy).Contents (Elt Ideal)) (x8 : (⟨S_, .f32⟩ : BufTy).Contents (Elt Ideal)) : val_main_v186 (F := Ideal) x0 x1 x2 x3 x4 x5 x6 x7 x8
    = gMix (F := Ideal) (gExp (gScore (val_main_v148 (F := Ideal) x0 x1 x2 x3 x4) (val_main_v158 (F := Ideal) x0 x1 x2 x5 x6))) (val_main_v110 (F := Ideal) x0 x2 x7 x8) := rfl

end Cert.ReferenceIdeal.RefValue
end
-- ==== Proof.Decode.lean ====
/- The two-bit fields of a packed byte as the kernels decode them: four bytes joined to a word, the word
   shifted and masked, the word split to bytes again and each byte read as an 8-bit float. The float is
   the field's number over 512. -/
module

public import proofs.«01_k».proof.Proof.Spec
public import Idealize.ShloMosaic.Lib.BitcastFour
public import Idealize.ShloMosaic.Lib.BitcastPair
public import Idealize.ShloMosaic.Lib.Pointwise
public import Idealize.ShloMosaic.Lib.ValueIdx

@[expose] public section

noncomputable section

namespace Cert.Tern

open Idealize.ShloMosaic

/-- Words split to bytes at rank 2: bit `q` of the byte at row `p` is bit `8 (p % 4) + q` of word row `p / 4`. -/
theorem bitcast_32_8_getLsbD_ix2 {R r n : ℕ} (x : (⟨2, ![r, n]⟩ : Shape).Idx → BitVec 32)
    (h : (⟨2, ![r, n]⟩ : Shape).Bitcasts 32 ⟨2, ![R, n]⟩ 8) (p : Fin R) (l : Fin n) (q : ℕ) (hq : q < 8) (a : Fin r)
    (ha : a.val = p.val / 4) :
    (bitcast ⟨2, ![R, n]⟩ 8 x h (ix2 p l)).getLsbD q = (x (ix2 a l)).getLsbD (8 * (p.val % 4) + q) := by
  rw [bitcast_getLsbD x h _ q hq (by decide)]
  have hrow : (⟨2, ![R, n]⟩ : Shape).row (ix2 p l) = p.val := rfl
  have e2 : ((⟨2, ![R, n]⟩ : Shape).row (ix2 p l) * 8 + q) % 32 = 8 * (p.val % 4) + q := by rw [hrow]; omega
  have e1 : ((⟨2, ![R, n]⟩ : Shape).row (ix2 p l) * 8 + q) / 32 = a.val := by rw [hrow]; omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

theorem shift_mask_fld (b : BitVec 8) (f : Fin 4) : (b >>> (2 * f.val)) &&& 3#8 = BitVec.ofNat 8 (fld b f.val) := by
  revert b f
  decide +kernel

theorem fld_lt (b : BitVec 8) (f : ℕ) : fld b f < 4 := Nat.mod_lt _ (by norm_num)

theorem e4m3fn_small (k : ℕ) (hk : k < 4) : Ideal.e4m3fn (BitVec.ofNat 8 k) = (((k : ℝ) / 512 : ℝ) : EReal) := by
  interval_cases k <;> (simp [Ideal.e4m3fn, -EReal.coe_mul]; try norm_num)

/-- The mask keeps the two low bits of each byte. -/
theorem mask_bit (m : Fin 4) (q : Fin 8) : (50529027#32).getLsbD (8 * m.val + q.val) = decide (q.val < 2) := by
  revert m q; decide +kernel

theorem decode_byte {T : ℕ} (x : (⟨2, ![32, T]⟩ : Shape).Idx → BitVec 8)
    (h : (⟨2, ![32, T]⟩ : Shape).Bitcasts 8 ⟨2, ![8, T]⟩ 32) (h' : (⟨2, ![8, T]⟩ : Shape).Bitcasts 32 ⟨2, ![32, T]⟩ 8)
    (f : Fin 4) (y z : (⟨2, ![8, T]⟩ : Shape).Idx → BitVec 32) (hy : ∀ j, y j = BitVec.ofNat 32 (2 * f.val))
    (hz : ∀ j, z j = 50529027#32) (p : Fin 32) (l : Fin T) :
    bitcast ⟨2, ![32, T]⟩ 8 (andi (shrui (bitcast ⟨2, ![8, T]⟩ 32 x h) y) z) h' (ix2 p l)
      = BitVec.ofNat 8 (fld (x (ix2 p l)) f.val) := by
  rw [← shift_mask_fld]
  apply BitVec.eq_of_getLsbD_eq
  intro q hq
  rw [bitcast_32_8_getLsbD_ix2 _ h' p l q hq ⟨p.val / 4, by have := p.isLt; omega⟩ rfl]
  have hf := f.isLt
  show ((IntOp.shrui .vector (bitcast ⟨2, ![8, T]⟩ 32 x h (ix2 _ l)) (y (ix2 _ l))) &&& (z (ix2 _ l))).getLsbD _ = _
  rw [hy, hz, BitVec.getLsbD_and, BitVec.getLsbD_and, mask_bit ⟨p.val % 4, by omega⟩ ⟨q, hq⟩]
  have h3 : (3#8).getLsbD q = decide (q < 2) := by
    interval_cases q <;> rfl
  rw [h3]
  by_cases h2 : q < 2
  · have hs : (IntOp.shrui .vector (bitcast ⟨2, ![8, T]⟩ 32 x h (ix2 (⟨p.val / 4, by have := p.isLt; omega⟩ : Fin 8) l)) (BitVec.ofNat 32 (2 * f.val)))
        = (bitcast ⟨2, ![8, T]⟩ 32 x h (ix2 (⟨p.val / 4, by have := p.isLt; omega⟩ : Fin 8) l)) >>> (2 * f.val) := by
      unfold IntOp.shrui
      have : (BitVec.ofNat 32 (2 * f.val)).toNat = 2 * f.val := by
        rw [BitVec.toNat_ofNat]; omega
      simp [this, BitVec.ushiftRight_eq']
      try omega
    rw [hs, BitVec.getLsbD_ushiftRight, BitVec.getLsbD_ushiftRight]
    have := bitcast_8_32_getLsbD_ix2 x h ⟨p.val / 4, by have := p.isLt; omega⟩ l (2 * f.val + (8 * (p.val % 4) + q)) (by omega) p
      (by show p.val = 4 * (p.val / 4) + _; omega)
    refine congrArg₂ _ ?_ rfl
    refine Eq.trans this ?_
    show (x (ix2 p l)).getLsbD _ = _
    congr 1
    omega
  · simp [h2]

/-- The decoded float: the field's number over 512. -/
theorem decode_apply {T : ℕ} (x : (⟨2, ![32, T]⟩ : Shape).Idx → BitVec 8)
    (h : (⟨2, ![32, T]⟩ : Shape).Bitcasts 8 ⟨2, ![8, T]⟩ 32) (h' : (⟨2, ![8, T]⟩ : Shape).Bitcasts 32 ⟨2, ![32, T]⟩ 8)
    (f : Fin 4) (y z : (⟨2, ![8, T]⟩ : Shape).Idx → BitVec 32) (hy : ∀ j, y j = BitVec.ofNat 32 (2 * f.val))
    (hz : ∀ j, z j = 50529027#32) (p : Fin 32) (l : Fin T) :
    (bitcastToFloat .fp8e4m3 (bitcast ⟨2, ![32, T]⟩ 8 (andi (shrui (bitcast ⟨2, ![8, T]⟩ 32 x h) y) z) h')
        : FVec Ideal ⟨2, ![32, T]⟩ .fp8e4m3) (ix2 p l)
      = (((fld (x (ix2 p l)) f.val : ℝ) / 512 : ℝ) : EReal) := by
  rw [← e4m3fn_small _ (fld_lt _ _), ← decode_byte x h h' f y z hy hz p l]
  rfl

/-- Four bytes joined to a word and split again. -/
theorem bytes_of_words {R r n : ℕ} (x : (⟨2, ![R, n]⟩ : Shape).Idx → BitVec 8) (y : (⟨2, ![r, n]⟩ : Shape).Idx → BitVec 32)
    (h : (⟨2, ![R, n]⟩ : Shape).Bitcasts 8 ⟨2, ![r, n]⟩ 32) (h' : (⟨2, ![r, n]⟩ : Shape).Bitcasts 32 ⟨2, ![R, n]⟩ 8)
    (p : Fin R) (l l' : Fin n) (hr : p.val / 4 < r)
    (hy : y (ix2 ⟨p.val / 4, hr⟩ l) = bitcast ⟨2, ![r, n]⟩ 32 x h (ix2 ⟨p.val / 4, hr⟩ l')) :
    bitcast ⟨2, ![R, n]⟩ 8 y h' (ix2 p l) = x (ix2 p l') := by
  apply BitVec.eq_of_getLsbD_eq
  intro q hq
  rw [bitcast_32_8_getLsbD_ix2 _ h' p l q hq ⟨p.val / 4, hr⟩ rfl, hy]
  refine Eq.trans (bitcast_8_32_getLsbD_ix2 x h ⟨p.val / 4, hr⟩ l' (8 * (p.val % 4) + q) (by omega) p
    (by show p.val = 4 * (p.val / 4) + _; omega)) ?_
  show (x (ix2 p l')).getLsbD _ = _
  congr 1
  omega

end Cert.Tern

end
-- ==== Proof.Wide.lean ====
/- The matmul's weight array: every 32 rows of packed bytes give four runs of 32 rows, one of each field.
   What the stores of those runs leave, and the sum over it. -/
module

public import proofs.«01_k».proof.Proof.Decode
public import Idealize.ShloMosaic.Lib.Pipeline.ValueKit
public import Idealize.ShloMosaic.Lib.Pipeline.ReadBack
public import Idealize.ShloMosaic.Lib.Pointwise

@[expose] public section

noncomputable section

namespace Cert.Tern

open Idealize.ShloMosaic

/-- Field `f` of 32 rows of packed bytes, each over 512. -/
def dec {T : ℕ} (hb : (⟨2, ![32, T]⟩ : Shape).Bitcasts 8 ⟨2, ![8, T]⟩ 32) (hb' : (⟨2, ![8, T]⟩ : Shape).Bitcasts 32 ⟨2, ![32, T]⟩ 8)
    (hs : (⟨2, ![32, T]⟩ : Shape).ShapeCasts ⟨2, ![32, T]⟩) (x : IVec ⟨2, ![32, T]⟩ 8) (f : ℕ) : FVec Ideal ⟨2, ![32, T]⟩ .fp8e4m3 :=
  shapeCast ⟨2, ![32, T]⟩ (bitcastToFloat .fp8e4m3 (bitcast ⟨2, ![32, T]⟩ 8 (andi (shrui (bitcast ⟨2, ![8, T]⟩ 32 x hb)
    (broadcast ⟨2, ![8, T]⟩ (BitVec.ofNat 32 (2 * f)))) (broadcast ⟨2, ![8, T]⟩ 50529027#32)) hb')) hs

theorem dec_apply {T : ℕ} (hb hb' hs) (x : IVec ⟨2, ![32, T]⟩ 8) (f : ℕ) (hf : f < 4) (p : Fin 32) (l : Fin T) :
    dec hb hb' hs x f (ix2 p l) = (((fld (x (ix2 p l)) f : ℝ) / 512 : ℝ) : EReal) := by
  unfold dec
  rw [shapeCast_self]
  exact decode_apply x hb hb' ⟨f, hf⟩ _ _ (fun _ => rfl) (fun _ => rfl) p l

/-- An entry of the weight array from the packed bytes' column. -/
def wideAt {N K4 C : ℕ} (hN : N = 128 * C) (hK : K4 = 32 * C) (w : Fin K4 → BitVec 8) (p : Fin N) : EReal :=
  (((fld (w ⟨p.val / 128 * 32 + p.val % 32, by have := p.isLt; omega⟩) (p.val % 128 / 32) : ℝ) / 512 : ℝ) : EReal)

/-- An entry of the kernel's product: the sum over the reordered codes `l` and the weight array, without the bias
    of the fields `t`, by the row's scale and the weights'. -/
def mm {N K4 C : ℕ} (hN : N = 128 * C) (hK : K4 = 32 * C) (l : Fin N → EReal) (w : Fin K4 → BitVec 8) (t a s : EReal) : EReal :=
  ((∑ p, l p * wideAt hN hK w p) * ((512 : ℝ) : EReal) - t) * a * s

theorem mm_eq {N K4 C : ℕ} (hN : N = 128 * C) (hK : K4 = 32 * C) (h4 : N = 4 * K4) (c : Fin N → BitVec 8) (l : Fin N → EReal)
    (w : Fin K4 → BitVec 8) (t a s : EReal) (hl : ∀ p, l p = (((c ⟨src p.val, src_lt hN p.isLt⟩).toInt : ℝ) : EReal))
    (ht : t = ∑ i, (((c i).toInt : ℝ) : EReal)) : mm hN hK l w t a s = ((dotCol h4 c w : ℝ) : EReal) * a * s := by
  unfold mm
  rw [ht, fieldMajor hN hK h4 c w l (wideAt hN hK w) _ hl (fun _ => rfl) (fun _ => rfl)]

theorem mm_congr {N K4 C : ℕ} (hN : N = 128 * C) (hK : K4 = 32 * C) {l l' : Fin N → EReal} {w w' : Fin K4 → BitVec 8} {t t' a a' s s' : EReal}
    (hl : ∀ p, l p = l' p) (hw : ∀ r, w r = w' r) (ht : t = t') (ha : a = a') (hs : s = s') : mm hN hK l w t a s = mm hN hK l' w' t' a' s' := by
  rw [funext hl, funext hw, ht, ha, hs]

/-- The squared positive part of the first, times the second. -/
def glu (g u : EReal) : EReal := max g (Ideal.ofBits FTy.f32 0x00000000#32) * max g (Ideal.ofBits FTy.f32 0x00000000#32) * u

/-- A product added to an earlier value. -/
def mmAdd {N K4 C : ℕ} (hN : N = 128 * C) (hK : K4 = 32 * C) (l : Fin N → EReal) (w : Fin K4 → BitVec 8) (t a s h : EReal) : EReal :=
  h + mm hN hK l w t a s

theorem mmAdd_congr {N K4 C : ℕ} (hN : N = 128 * C) (hK : K4 = 32 * C) {l l' : Fin N → EReal} {w w' : Fin K4 → BitVec 8} {t t' a a' s s' h h' : EReal}
    (hl : ∀ p, l p = l' p) (hw : ∀ r, w r = w' r) (ht : t = t') (ha : a = a') (hs : s = s') (hh : h = h') :
    mmAdd hN hK l w t a s h = mmAdd hN hK l' w' t' a' s' h' := by
  rw [funext hl, funext hw, ht, ha, hs, hh]

section pieces

variable {N K4 C T : ℕ} (hN : N = 128 * C) (hK : K4 = 32 * C)
  (hb : (⟨2, ![32, T]⟩ : Shape).Bitcasts 8 ⟨2, ![8, T]⟩ 32) (hb' : (⟨2, ![8, T]⟩ : Shape).Bitcasts 32 ⟨2, ![32, T]⟩ 8)
  (hs : (⟨2, ![32, T]⟩ : Shape).ShapeCasts ⟨2, ![32, T]⟩) (x : Vec Ideal ⟨2, ![K4, T]⟩ .i8)

theorem inbN (hN : N = 128 * C) (n : ℕ) (h : n + 1 ≤ 4 * C) :
    ∀ a : Fin 2, (![32 * n, 0] : Fin 2 → ℕ) a + (![32, T] : Fin 2 → ℕ) a ≤ (![N, T] : Fin 2 → ℕ) a := by
  intro a
  fin_cases a
  · show 32 * n + 32 ≤ N
    omega
  · show 0 + T ≤ T
    omega

theorem inbK (hK : K4 = 32 * C) (n : ℕ) (h : n + 1 ≤ 4 * C) :
    ∀ a : Fin 2, (![32 * (n / 4), 0] : Fin 2 → ℕ) a + (![32, T] : Fin 2 → ℕ) a ≤ (![K4, T] : Fin 2 → ℕ) a := by
  intro a
  fin_cases a
  · show 32 * (n / 4) + 32 ≤ K4
    omega
  · show 0 + T ≤ T
    omega

/-- The stores of the first `n` runs, last first, over earlier ones. -/
def decPieces (tail : List (View.Piece (Elt Ideal) ⟨2, ![N, T]⟩ .fp8e4m3)) :
    (n : ℕ) → n ≤ 4 * C → List (View.Piece (Elt Ideal) ⟨2, ![N, T]⟩ .fp8e4m3)
  | 0, _ => tail
  | n + 1, h => ⟨Rect.unit (s := ⟨2, ![N, T]⟩) ![32 * n, 0] ![32, T] (inbN hN n h),
      dec hb hb' hs (View.ld x (Rect.unit (s := ⟨2, ![K4, T]⟩) ![32 * (n / 4), 0] ![32, T] (inbK hK n h))) (n % 4)⟩
        :: decPieces tail n (Nat.le_of_succ_le h)

theorem canon_decPieces (tail : List (View.Piece (Elt Ideal) ⟨2, ![N, T]⟩ .fp8e4m3)) : ∀ (n : ℕ) (h : n ≤ 4 * C)
    (p : Fin N) (_ : p.val < 32 * n) (l : Fin T),
    View.canon (decPieces hN hK hb hb' hs x tail n h) (ix2 p l) = wideAt hN hK (fun r => x (ix2 r l)) p
  | 0, _, _, hp, _ => by omega
  | n + 1, h, p, hp, l => by
    rw [decPieces]
    by_cases hm : 32 * n ≤ p.val
    · have e : (ix2 p l : (⟨2, ![N, T]⟩ : Shape).Idx) = (Rect.unit (s := ⟨2, ![N, T]⟩) ![32 * n, 0] ![32, T] (inbN hN n h)).emb
          (ix2 (⟨p.val - 32 * n, by omega⟩ : Fin 32) l) := by
        funext a
        fin_cases a
        · refine Fin.ext ?_
          show p.val = 32 * n + 1 * (p.val - 32 * n)
          omega
        · refine Fin.ext ?_
          show l.val = 0 + 1 * l.val
          omega
      rw [e, View.canon_cons_emb, dec_apply _ _ _ _ _ (Nat.mod_lt _ (by omega))]
      unfold wideAt
      have e2 : p.val % 128 / 32 = n % 4 := by omega
      rw [e2]
      congr 5
      refine (View.ld_apply x _ _).trans (congrArg x ?_)
      funext a
      fin_cases a
      · refine Fin.ext ?_
        show 32 * (n / 4) + 1 * (p.val - 32 * n) = p.val / 128 * 32 + p.val % 32
        omega
      · refine Fin.ext ?_
        show 0 + 1 * l.val = l.val
        omega
    · rw [View.canon_cons_of_not_mem]
      · exact canon_decPieces tail n _ p (by omega) l
      · intro hc
        obtain ⟨j, hj⟩ := LoadRect.exists_idx_of_mem _ hc
        have := congrArg (fun i : (⟨2, ![N, T]⟩ : Shape).Idx => (i 0).val) hj
        have h2 : 32 * n + 1 * (j 0).val = p.val := this
        omega

/-- The whole array, loaded after the stores. -/
theorem readCov_decPieces {sig : RefSig} {κ : Kind} {sp : Space} (v : View sig κ sp ⟨2, ![N, T]⟩ .fp8e4m3)
    (tail) (L) (hL : L = decPieces hN hK hb hb' hs x tail (4 * C) le_rfl)
    (inb : ∀ a : Fin 2, (![0, 0] : Fin 2 → ℕ) a + (![N, T] : Fin 2 → ℕ) a ≤ (![N, T] : Fin 2 → ℕ) a) (p : Fin N) (l : Fin T) :
    v.readCov L (Rect.unit (s := ⟨2, ![N, T]⟩) ![0, 0] ![N, T] inb).toLoadRect (ix2 p l) = wideAt hN hK (fun r => x (ix2 r l)) p := by
  subst hL
  rw [View.readCov_eq_canon']
  have hp := p.isLt
  refine Eq.trans (congrArg _ ?_) (canon_decPieces hN hK hb hb' hs x tail (4 * C) le_rfl p (by omega) l)
  funext a
  fin_cases a
  · refine Fin.ext ?_
    show 0 + 1 * p.val = p.val
    omega
  · refine Fin.ext ?_
    show 0 + 1 * l.val = l.val
    omega

end pieces

end Cert.Tern
end
-- ==== Proof.RefChain.lean ====
module

public import proofs.«01_k».proof.Proof.RefQuantW
public import proofs.«01_k».proof.Proof.RefDot
public import proofs.«01_k».proof.Proof.RefAttn
public import proofs.«01_k».proof.Proof.Wide

/-! The reference as a chain of named stages over its arguments, and each result of the reference as one stage. -/

@[expose] public section
noncomputable section
namespace Cert.ReferenceIdeal.RefValue
open Cert.ReferenceIdeal Cert.ReferenceIdeal.Gen Cert.ReferenceIdeal.Read Idealize.ShloMosaic Idealize.ShloMosaic.StableHlo

variable {F : FTy → Type} [FloatOps F]

/-- The residual sum. -/
def gAdd6144 (a b : (⟨S2x128x6144, .f32⟩ : BufTy).Contents (Elt F)) : (⟨S2x128x6144, .f32⟩ : BufTy).Contents (Elt F) := addf a b

/-- The squared positive part of the gate times the up projection. -/
def gGlu (g u : (⟨S2x128x16384, .f32⟩ : BufTy).Contents (Elt F)) : (⟨S2x128x16384, .f32⟩ : BufTy).Contents (Elt F) :=
  mulf (mulf (maximumf g (val_main_call10_v0 (F := F))) (maximumf g (val_main_call10_v0 (F := F)))) u

/-- The last residual sum, rounded. -/
def gOut (a b : (⟨S2x128x6144, .f32⟩ : BufTy).Contents (Elt F)) : (⟨S2x128x6144, .bf16⟩ : BufTy).Contents (Elt F) :=
  truncf .bf16 (addf a b) bitsLt_bf16_f32

/-- The twenty arguments. -/
structure Args where
  x0 : (⟨S2x128x6144, .bf16⟩ : BufTy).Contents (Elt Ideal)
  x1 : (⟨S2, .i32⟩ : BufTy).Contents (Elt Ideal)
  x2 : (⟨S6144, .f32⟩ : BufTy).Contents (Elt Ideal)
  x3 : (⟨S1536x6144, .i8⟩ : BufTy).Contents (Elt Ideal)
  x4 : (⟨S_, .f32⟩ : BufTy).Contents (Elt Ideal)
  x5 : (⟨S1536x768, .i8⟩ : BufTy).Contents (Elt Ideal)
  x6 : (⟨S_, .f32⟩ : BufTy).Contents (Elt Ideal)
  x7 : (⟨S1536x768, .i8⟩ : BufTy).Contents (Elt Ideal)
  x8 : (⟨S_, .f32⟩ : BufTy).Contents (Elt Ideal)
  x9 : (⟨S6144, .f32⟩ : BufTy).Contents (Elt Ideal)
  x10 : (⟨S1536x6144, .i8⟩ : BufTy).Contents (Elt Ideal)
  x11 : (⟨S_, .f32⟩ : BufTy).Contents (Elt Ideal)
  x12 : (⟨S6144, .f32⟩ : BufTy).Contents (Elt Ideal)
  x13 : (⟨S1536x16384, .i8⟩ : BufTy).Contents (Elt Ideal)
  x14 : (⟨S_, .f32⟩ : BufTy).Contents (Elt Ideal)
  x15 : (⟨S1536x16384, .i8⟩ : BufTy).Contents (Elt Ideal)
  x16 : (⟨S_, .f32⟩ : BufTy).Contents (Elt Ideal)
  x17 : (⟨S16384, .f32⟩ : BufTy).Contents (Elt Ideal)
  x18 : (⟨S4096x6144, .i8⟩ : BufTy).Contents (Elt Ideal)
  x19 : (⟨S_, .f32⟩ : BufTy).Contents (Elt Ideal)

variable (A : Args)

def Args.y0 : (⟨S2x128x6144, .f32⟩ : BufTy).Contents (Elt Ideal) := val_main_v0 (F := Ideal) A.x0
def Args.sIn : (⟨S2x128, .f32⟩ : BufTy).Contents (Elt Ideal) := gScale6144 (F := Ideal) A.y0 A.x2
def Args.cIn : (⟨S2x128x6144, .i8⟩ : BufTy).Contents (Elt Ideal) := gCode6144 (F := Ideal) A.y0 A.x2
def Args.q : (⟨S2x128x6144, .f32⟩ : BufTy).Contents (Elt Ideal) := gM6144x6144 (F := Ideal) A.cIn A.x3 A.sIn A.x4
def Args.k : (⟨S2x128x768, .f32⟩ : BufTy).Contents (Elt Ideal) := gM6144x768 (F := Ideal) A.cIn A.x5 A.sIn A.x6
def Args.v : (⟨S2x128x768, .f32⟩ : BufTy).Contents (Elt Ideal) := gM6144x768 (F := Ideal) A.cIn A.x7 A.sIn A.x8
def Args.cosT : (⟨S2x128x1x96, .f32⟩ : BufTy).Contents (Elt Ideal) := gCos (F := Ideal) (gAng (F := Ideal) A.x1)
def Args.sinT : (⟨S2x128x1x96, .f32⟩ : BufTy).Contents (Elt Ideal) := gSin (F := Ideal) (gAng (F := Ideal) A.x1)
def Args.qr : (⟨S2x128x64x96, .bf16⟩ : BufTy).Contents (Elt Ideal) := gRopeQ (F := Ideal) A.q A.cosT A.sinT
def Args.kr : (⟨S2x128x8x96, .bf16⟩ : BufTy).Contents (Elt Ideal) := gRopeK (F := Ideal) A.k A.cosT A.sinT
def Args.ao : (⟨S2x128x6144, .f32⟩ : BufTy).Contents (Elt Ideal) := gMix (F := Ideal) (gExp (F := Ideal) (gScore (F := Ideal) A.qr A.kr)) A.v
def Args.rAt : (⟨S2x128, .f32⟩ : BufTy).Contents (Elt Ideal) := gR6144 (F := Ideal) A.ao
def Args.sAt : (⟨S2x128, .f32⟩ : BufTy).Contents (Elt Ideal) := gScale6144 (F := Ideal) A.ao A.x9
def Args.cAt : (⟨S2x128x6144, .i8⟩ : BufTy).Contents (Elt Ideal) := gCode6144 (F := Ideal) A.ao A.x9
def Args.o : (⟨S2x128x6144, .f32⟩ : BufTy).Contents (Elt Ideal) := gM6144x6144 (F := Ideal) A.cAt A.x10 A.sAt A.x11
def Args.h : (⟨S2x128x6144, .f32⟩ : BufTy).Contents (Elt Ideal) := gAdd6144 (F := Ideal) A.y0 A.o
def Args.sFf : (⟨S2x128, .f32⟩ : BufTy).Contents (Elt Ideal) := gScale6144 (F := Ideal) A.h A.x12
def Args.cFf : (⟨S2x128x6144, .i8⟩ : BufTy).Contents (Elt Ideal) := gCode6144 (F := Ideal) A.h A.x12
def Args.gate : (⟨S2x128x16384, .f32⟩ : BufTy).Contents (Elt Ideal) := gM6144x16384 (F := Ideal) A.cFf A.x13 A.sFf A.x14
def Args.up : (⟨S2x128x16384, .f32⟩ : BufTy).Contents (Elt Ideal) := gM6144x16384 (F := Ideal) A.cFf A.x15 A.sFf A.x16
def Args.act : (⟨S2x128x16384, .f32⟩ : BufTy).Contents (Elt Ideal) := gGlu (F := Ideal) A.gate A.up
def Args.rDn : (⟨S2x128, .f32⟩ : BufTy).Contents (Elt Ideal) := gR16384 (F := Ideal) A.act
def Args.sDn : (⟨S2x128, .f32⟩ : BufTy).Contents (Elt Ideal) := gScale16384 (F := Ideal) A.act A.x17
def Args.cDn : (⟨S2x128x16384, .i8⟩ : BufTy).Contents (Elt Ideal) := gCode16384 (F := Ideal) A.act A.x17
def Args.out : (⟨S2x128x6144, .f32⟩ : BufTy).Contents (Elt Ideal) := gM16384x6144 (F := Ideal) A.cDn A.x18 A.sDn A.x19
def Args.y : (⟨S2x128x6144, .bf16⟩ : BufTy).Contents (Elt Ideal) := gOut (F := Ideal) A.h A.out

theorem eq_v20 : val_main_v20 (F := Ideal) A.x0 A.x2 = A.sIn := by
  rw [in_scl]
  rfl

theorem eq_v27 : val_main_v27 (F := Ideal) A.x0 A.x2 = A.cIn := by
  rw [in_code]
  rfl

theorem eq_v54 : val_main_v54 (F := Ideal) A.x0 A.x2 A.x3 A.x4 = A.q := by
  rw [q_eq, eq_v27, eq_v20]
  rfl

theorem eq_v82 : val_main_v82 (F := Ideal) A.x0 A.x2 A.x5 A.x6 = A.k := by
  rw [k_eq, eq_v27, eq_v20]
  rfl

theorem eq_v110 : val_main_v110 (F := Ideal) A.x0 A.x2 A.x7 A.x8 = A.v := by
  rw [v_eq, eq_v27, eq_v20]
  rfl

theorem eq_v148 : val_main_v148 (F := Ideal) A.x0 A.x1 A.x2 A.x3 A.x4 = A.qr := by
  rw [qrot_eq, eq_v54]
  rfl

theorem eq_v158 : val_main_v158 (F := Ideal) A.x0 A.x1 A.x2 A.x5 A.x6 = A.kr := by
  rw [krot_eq, eq_v82]
  rfl

theorem eq_v186 : val_main_v186 (F := Ideal) A.x0 A.x1 A.x2 A.x3 A.x4 A.x5 A.x6 A.x7 A.x8 = A.ao := by
  rw [attn_eq, eq_v148, eq_v158, eq_v110]
  rfl

theorem eq_v193 : val_main_v193 (F := Ideal) A.x0 A.x1 A.x2 A.x3 A.x4 A.x5 A.x6 A.x7 A.x8 = A.rAt := by
  rw [attn_rstd, eq_v186]
  rfl

theorem eq_v206 : val_main_v206 (F := Ideal) A.x0 A.x1 A.x2 A.x3 A.x4 A.x5 A.x6 A.x7 A.x8 A.x9 = A.sAt := by
  rw [attn_scl, eq_v186]
  rfl

theorem eq_v213 : val_main_v213 (F := Ideal) A.x0 A.x1 A.x2 A.x3 A.x4 A.x5 A.x6 A.x7 A.x8 A.x9 = A.cAt := by
  rw [attn_code, eq_v186]
  rfl

theorem eq_v240 : val_main_v240 (F := Ideal) A.x0 A.x1 A.x2 A.x3 A.x4 A.x5 A.x6 A.x7 A.x8 A.x9 A.x10 A.x11 = A.o := by
  rw [o_eq, eq_v213, eq_v206]
  rfl

theorem eq_v241 : val_main_v241 (F := Ideal) A.x0 A.x1 A.x2 A.x3 A.x4 A.x5 A.x6 A.x7 A.x8 A.x9 A.x10 A.x11 = A.h := by
  rw [val_main_v241, eq_v240]
  rfl

theorem eq_v261 : val_main_v261 (F := Ideal) A.x0 A.x1 A.x2 A.x3 A.x4 A.x5 A.x6 A.x7 A.x8 A.x9 A.x10 A.x11 A.x12 = A.sFf := by
  rw [ffn_scl, eq_v241]
  rfl

theorem eq_v268 : val_main_v268 (F := Ideal) A.x0 A.x1 A.x2 A.x3 A.x4 A.x5 A.x6 A.x7 A.x8 A.x9 A.x10 A.x11 A.x12 = A.cFf := by
  rw [ffn_code, eq_v241]
  rfl

theorem eq_v295 : val_main_v295 (F := Ideal) A.x0 A.x1 A.x2 A.x3 A.x4 A.x5 A.x6 A.x7 A.x8 A.x9 A.x10 A.x11 A.x12 A.x13 A.x14 = A.gate := by
  rw [gate_eq, eq_v268, eq_v261]
  rfl

theorem eq_v322 : val_main_v322 (F := Ideal) A.x0 A.x1 A.x2 A.x3 A.x4 A.x5 A.x6 A.x7 A.x8 A.x9 A.x10 A.x11 A.x12 A.x15 A.x16 = A.up := by
  rw [up_eq, eq_v268, eq_v261]
  rfl

theorem eq_v325 : val_main_v325 (F := Ideal) A.x0 A.x1 A.x2 A.x3 A.x4 A.x5 A.x6 A.x7 A.x8 A.x9 A.x10 A.x11 A.x12 A.x13 A.x14 A.x15 A.x16 = A.act := by
  rw [val_main_v325, val_main_v324, val_main_v323, eq_v295, eq_v322]
  rfl

theorem eq_v332 : val_main_v332 (F := Ideal) A.x0 A.x1 A.x2 A.x3 A.x4 A.x5 A.x6 A.x7 A.x8 A.x9 A.x10 A.x11 A.x12 A.x13 A.x14 A.x15 A.x16 = A.rDn := by
  rw [down_rstd, eq_v325]
  rfl

theorem eq_v345 : val_main_v345 (F := Ideal) A.x0 A.x1 A.x2 A.x3 A.x4 A.x5 A.x6 A.x7 A.x8 A.x9 A.x10 A.x11 A.x12 A.x13 A.x14 A.x15 A.x16 A.x17 = A.sDn := by
  rw [down_scl, eq_v325]
  rfl

theorem eq_v352 : val_main_v352 (F := Ideal) A.x0 A.x1 A.x2 A.x3 A.x4 A.x5 A.x6 A.x7 A.x8 A.x9 A.x10 A.x11 A.x12 A.x13 A.x14 A.x15 A.x16 A.x17 = A.cDn := by
  rw [down_code, eq_v325]
  rfl

theorem eq_v379 : val_main_v379 (F := Ideal) A.x0 A.x1 A.x2 A.x3 A.x4 A.x5 A.x6 A.x7 A.x8 A.x9 A.x10 A.x11 A.x12 A.x13 A.x14 A.x15 A.x16 A.x17 A.x18 A.x19 = A.out := by
  rw [out_eq, eq_v352, eq_v345]
  rfl

theorem eq_v381 : val_main_v381 (F := Ideal) A.x0 A.x1 A.x2 A.x3 A.x4 A.x5 A.x6 A.x7 A.x8 A.x9 A.x10 A.x11 A.x12 A.x13 A.x14 A.x15 A.x16 A.x17 A.x18 A.x19 = A.y := by
  rw [val_main_v381, val_main_v380, eq_v241, eq_v379]
  rfl

theorem Args.h_apply (b : Fin 2) (t : Fin 128) (j : Fin 6144) : A.h (ix3 b t j) = A.x0 (ix3 b t j) + A.o (ix3 b t j) := rfl

theorem Args.y_apply (b : Fin 2) (t : Fin 128) (j : Fin 6144) : A.y (ix3 b t j) = A.h (ix3 b t j) + A.out (ix3 b t j) := rfl

theorem Args.act_apply (b : Fin 2) (t : Fin 128) (j : Fin 16384) :
    A.act (ix3 b t j) = Tern.glu (A.gate (ix3 b t j)) (A.up (ix3 b t j)) := rfl

end Cert.ReferenceIdeal.RefValue
end
-- ==== Proof.Gather.lean ====
/- The kernel's change of the order of the codes in a block: 128 columns at a time, each lane of a piece
   reads the lane at four times its number modulo 32, plus its number over 32. -/
module

public import proofs.«01_k».proof.Proof.Decode
public import Idealize.ShloMosaic.Lib.Pipeline.ValueKit
public import Idealize.ShloMosaic.Lib.Pointwise

@[expose] public section

noncomputable section

namespace Cert.Tern

open Idealize.ShloMosaic

/-- One piece: 128 columns of words from column `o`, gathered by the lane numbers `ln`. -/
def gchunk {N : ℕ} (w : IVec ⟨2, ![8, N]⟩ 32) (ln : IVec ⟨2, ![8, 128]⟩ 32) (o : ℕ)
    (hs : (⟨2, ![8, N]⟩ : Shape).Slices ![0, o] ⟨2, ![8, 128]⟩) (h1 : (⟨2, ![8, 128]⟩ : Shape).ShapeCasts ⟨3, ![8, 128, 1]⟩)
    (h2 : (⟨3, ![8, 128, 1]⟩ : Shape).ShapeCasts ⟨2, ![8, 128]⟩) : IVec ⟨2, ![8, 128]⟩ 32 :=
  dynamicGather 1 (extractStridedSlice ⟨2, ![8, 128]⟩ ![0, o] w hs)
    (shapeCast ⟨2, ![8, 128]⟩ (shapeCast ⟨3, ![8, 128, 1]⟩
      (select (cmpi .slt ln (broadcast ⟨2, ![8, 128]⟩ 0#32)) (addi ln (broadcast ⟨2, ![8, 128]⟩ 128#32)) ln) h1) h2)

theorem gchunk_apply {N : ℕ} (w : IVec ⟨2, ![8, N]⟩ 32) (ln : IVec ⟨2, ![8, 128]⟩ 32) (o : ℕ) (hs h1 h2)
    (hln : ∀ r l, ln (ix2 r l) = BitVec.ofNat 32 (4 * (l.val % 32) + l.val / 32)) (r : Fin 8) (l : Fin 128)
    (h : o + (4 * (l.val % 32) + l.val / 32) < N) :
    gchunk w ln o hs h1 h2 (ix2 r l) = w (ix2 r ⟨o + (4 * (l.val % 32) + l.val / 32), h⟩) := by
  have hz : (shapeCast ⟨2, ![8, 128]⟩ (shapeCast ⟨3, ![8, 128, 1]⟩
      (select (cmpi .slt ln (broadcast ⟨2, ![8, 128]⟩ 0#32)) (addi ln (broadcast ⟨2, ![8, 128]⟩ 128#32)) ln) h1) h2) (ix2 r l)
        = BitVec.ofNat 32 (4 * (l.val % 32) + l.val / 32) := by
    pointwise []
    rw [hln]
    exact (by decide +kernel : ∀ l : Fin 128, Scalar.select (IntOp.cmpi CmpIPredicate.slt (BitVec.ofNat 32 (4 * (l.val % 32) + l.val / 32)) 0#32)
      (IntOp.addi (BitVec.ofNat 32 (4 * (l.val % 32) + l.val / 32)) 128#32) (BitVec.ofNat 32 (4 * (l.val % 32) + l.val / 32)) =
        BitVec.ofNat 32 (4 * (l.val % 32) + l.val / 32)) l
  unfold gchunk dynamicGather
  simp only [hz]
  unfold extractStridedSlice
  congr 1
  funext b
  have hl := l.isLt
  refine Fin.ext ?_
  fin_cases b
  · show 0 + r.val = r.val
    omega
  · show o + (BitVec.ofNat 32 (4 * (l.val % 32) + l.val / 32)).toNat % 128 = o + (4 * (l.val % 32) + l.val / 32)
    rw [BitVec.toNat_ofNat]
    omega

theorem gather_apply {N C : ℕ} (hN : N = 128 * C) (w : IVec ⟨2, ![8, N]⟩ 32) (ln : IVec ⟨2, ![8, 128]⟩ 32)
    (hs : ∀ n : Fin C, (⟨2, ![8, N]⟩ : Shape).Slices ![0, 128 * n.val] ⟨2, ![8, 128]⟩) (h1 h2)
    (hln : ∀ r l, ln (ix2 r l) = BitVec.ofNat 32 (4 * (l.val % 32) + l.val / 32)) (hc) (r : Fin 8) (j : Fin N) :
    concatenate ⟨2, ![8, N]⟩ 1 (List.ofFn fun n : Fin C =>
      (⟨⟨2, ![8, 128]⟩, gchunk w ln (128 * n.val) (hs n) h1 h2⟩ : (s : Shape) × (s.Idx → BitVec 32))) hc (ix2 r j)
      = w (ix2 r ⟨src j.val, src_lt hN j.isLt⟩) := by
  have hj := j.isLt
  rw [concatenate_ofFn_apply 1 (fun n : Fin C => gchunk w ln (128 * n.val) (hs n) h1 h2) hc rfl 128 rfl (ix2 r j)
    ⟨j.val / 128, by omega⟩ rfl (ix2 r ⟨j.val % 128, by omega⟩) rfl (fun b hb => by
      have : b = 0 := by
        fin_cases b
        · rfl
        · exact absurd rfl hb
      subst this; rfl)]
  rw [gchunk_apply w ln _ _ h1 h2 hln r _ (by show 128 * (j.val / 128) + (4 * (j.val % 128 % 32) + j.val % 128 / 32) < N; omega)]
  congr 2
  refine Fin.ext ?_
  show 128 * (j.val / 128) + (4 * (j.val % 128 % 32) + j.val % 128 / 32) = src j.val
  unfold src
  omega

end Cert.Tern
end
-- ==== Proof.Q0.lean ====
/- The normalisation and quantisation of region 0: what each of its result arrays holds, row by row. -/
module

public import proofs.«01_k».proof.Proof.Gen.KernelIdeal.Frame.Region0
public import proofs.«01_k».proof.Proof.Gather

@[expose] public section
set_option maxRecDepth 65536
noncomputable section
namespace Cert.KernelIdeal.Gen
open Idealize.ShloMosaic Idealize.SL.Sem Idealize.ShloMosaic.TcCoe

variable (V : (c : Dev nD) → (b : Ref sig .tc) → Buf (Elt Ideal) ((c : Thread nD τ).loc b)) (c : Dev nD)

/-- The divisor of the mean. -/
abbrev q0_n : EReal := Ideal.ofBits .f32 0x45C00000#32

theorem q0_pay4 (x : Vec Ideal S32x6144 .bf16) (r : Fin 32) :
    k0_pay4 x (ix2 r 0) = Tern.rstd q0_n (fun k => x (ix2 r k)) := by
  pointwise [k0_pay4, k0_pay3]
  rfl
theorem q0_pay5 (x : Vec Ideal S32x6144 .bf16) (g : Vec Ideal S1x6144 .f32) (r : Fin 32) (j : Fin 6144) :
    k0_pay5 x g (ix2 r j) = Tern.nrm q0_n (fun k => x (ix2 r k)) (fun k => g (ix2 0 k)) j := by
  pointwise [k0_pay5, k0_pay3]
  rw [q0_pay4]; rfl
theorem q0_pay6 (x : Vec Ideal S32x6144 .bf16) (g : Vec Ideal S1x6144 .f32) (r : Fin 32) :
    k0_pay6 x g (ix2 r 0) = Tern.scl q0_n (fun k => x (ix2 r k)) (fun k => g (ix2 0 k)) := by
  pointwise [k0_pay6]
  simp only [q0_pay5]
  rfl
theorem q0_pay7 (x : Vec Ideal S32x6144 .bf16) (g : Vec Ideal S1x6144 .f32) (r : Fin 32) (j : Fin 6144) :
    k0_pay7 x g (ix2 r j) = Tern.qv q0_n (fun k => x (ix2 r k)) (fun k => g (ix2 0 k)) j := by
  pointwise [k0_pay7]
  rw [q0_pay5, q0_pay6]; rfl
theorem q0_pay8 (x : Vec Ideal S32x6144 .bf16) (g : Vec Ideal S1x6144 .f32) (r : Fin 32) (j : Fin 6144) :
    k0_pay8 x g (ix2 r j) = Tern.code q0_n (fun k => x (ix2 r k)) (fun k => g (ix2 0 k)) j := by
  pointwise [k0_pay8]
  rw [q0_pay7]; rfl
theorem q0_pay9 (y : Vec Ideal S32x6144 .f32) (r : Fin 32) :
    (k0_pay9 y : FVec Ideal S32x1 .f32) (ix2 r 0) = ∑ k, y (ix2 r k) := by
  pointwise [k0_pay9]

theorem q0_idx : ∀ t : Fin cfg0.N, (cfg0.win 0).index t = ![t.val, 0] ∧ (cfg0.win 1).index t = ![0, 0]
    ∧ (cfg0.win 2).index t = ![t.val, 0] ∧ (cfg0.win 3).index t = ![t.val, 0] ∧ (cfg0.win 4).index t = ![t.val, 0]
    ∧ (cfg0.win 5).index t = ![t.val, 0] ∧ (cfg0.win 6).index t = ![t.val, 0] := by
  decide +kernel

theorem q0_row0 (t : Fin cfg0.N) (r : Fin 32) (k : Fin 6144) (h : 32 * t.val + r.val < 256) :
    iblk0 V c 0 t (ix2 r k) = V c main_v0 (ix2 ⟨32 * t.val + r.val, h⟩ k) := by
  blk_ext [iblk0, q0_idx t]
theorem q0_row1 (t : Fin cfg0.N) (k : Fin 6144) :
    iblk0 V c 1 t (ix2 0 k) = V c main_v1 (ix2 0 k) := by
  blk_ext [iblk0, q0_idx t]

theorem q0_lanes : ∀ (r : Fin 8) (l : Fin 128), (k0_pay11 : IVec S8x128 32) (ix2 r l) = BitVec.ofNat 32 (4 * (l.val % 32) + l.val / 32) := by
  intro r l
  pointwise [k0_pay11]
  exact (by decide +kernel : ∀ l : Fin 128, IntOp.addi (IntOp.muli 4#32 (IntOp.andi (BitVec.ofNat 32 l.val) 31#32))
    (IntOp.shrsi .vector (BitVec.ofNat 32 l.val) 5#32) = BitVec.ofNat 32 (4 * (l.val % 32) + l.val / 32)) l

theorem q0_slices : ∀ n : Fin 48, S8x6144.Slices ![0, 128 * n.val] S8x128 := by decide +kernel

theorem q0_pay2 (z : IVec S32x6144 8) (L : List ((s : Shape) × (s.Idx → BitVec 32))) (hc)
    (hL : L = List.ofFn fun n : Fin 48 => (⟨S8x128, Tern.gchunk (k0_pay10 z) k0_pay11 (128 * n.val) (q0_slices n)
      shapeCasts_S8x128_S8x128x1 shapeCasts_S8x128x1_S8x128⟩ : (s : Shape) × (s.Idx → BitVec 32))) (p : Fin 32) (j : Fin 6144) :
    (k0_pay2 (concatenate S8x6144 1 L hc) : FVec Ideal S32x6144 .bf16) (ix2 p j)
      = (((z (ix2 p ⟨Tern.src j.val, Tern.src_lt (C := 48) rfl j.isLt⟩)).toInt : ℝ) : EReal) := by
  subst hL
  refine congrArg (fun b : BitVec 8 => ((b.toInt : ℝ) : EReal)) ?_
  have hp := p.isLt
  refine Tern.bytes_of_words z _ bitcasts_S32x6144_w8_S8x6144_w32 bitcasts_S8x6144_w32_S32x6144_w8 p j _ (by omega) ?_
  exact Tern.gather_apply (C := 48) rfl _ _ q0_slices _ _ q0_lanes hc _ j

/-- The pieces of the reordered words. -/
def k0_list (x0 : Vec Ideal S32x6144 .bf16) (x1 : Vec Ideal S1x6144 .f32) : List ((s : Shape) × (s.Idx → BitVec 32)) :=
  ⟨S8x128, (k0_pay12 (k0_pay75 x0 x1))⟩ :: ⟨S8x128, (k0_pay13 (k0_pay75 x0 x1))⟩ :: ⟨S8x128, (k0_pay14 (k0_pay75 x0 x1))⟩ :: ⟨S8x128, (k0_pay17 (k0_pay15 (k0_pay75 x0 x1)) k0_pay16)⟩ :: ⟨S8x128, (k0_pay18 (k0_pay76 x0 x1) (k0_pay77 x0 x1))⟩ :: ⟨S8x128, (k0_pay19 (k0_pay76 x0 x1) (k0_pay77 x0 x1))⟩ :: ⟨S8x128, (k0_pay20 (k0_pay76 x0 x1) (k0_pay77 x0 x1))⟩ :: ⟨S8x128, (k0_pay21 (k0_pay76 x0 x1) (k0_pay77 x0 x1))⟩ :: ⟨S8x128, (k0_pay22 (k0_pay76 x0 x1) (k0_pay77 x0 x1))⟩ :: ⟨S8x128, (k0_pay24 (k0_pay77 x0 x1) (k0_pay23 (k0_pay76 x0 x1)) 0#32)⟩ :: ⟨S8x128, (k0_pay25 (k0_pay76 x0 x1) (k0_pay77 x0 x1))⟩ :: ⟨S8x128, (k0_pay26 (k0_pay76 x0 x1) (k0_pay77 x0 x1))⟩ :: ⟨S8x128, (k0_pay27 (k0_pay76 x0 x1) (k0_pay77 x0 x1))⟩ :: ⟨S8x128, (k0_pay28 (k0_pay76 x0 x1) (k0_pay77 x0 x1))⟩ :: ⟨S8x128, (k0_pay32 (k0_pay77 x0 x1) (k0_pay29 (k0_pay76 x0 x1)) (k0_pay30 (k0_pay77 x0 x1)) (k0_pay31 (k0_pay77 x0 x1)))⟩ :: ⟨S8x128, (k0_pay33 (k0_pay76 x0 x1) (k0_pay77 x0 x1))⟩ :: ⟨S8x128, (k0_pay34 (k0_pay76 x0 x1) (k0_pay77 x0 x1))⟩ :: ⟨S8x128, (k0_pay35 (k0_pay76 x0 x1) (k0_pay77 x0 x1))⟩ :: ⟨S8x128, (k0_pay36 (k0_pay76 x0 x1) (k0_pay77 x0 x1))⟩ :: ⟨S8x128, (k0_pay37 (k0_pay76 x0 x1) (k0_pay77 x0 x1))⟩ :: ⟨S8x128, (k0_pay39 (k0_pay77 x0 x1) (k0_pay38 (k0_pay76 x0 x1)))⟩ :: ⟨S8x128, (k0_pay40 (k0_pay76 x0 x1) (k0_pay77 x0 x1))⟩ :: ⟨S8x128, (k0_pay41 (k0_pay76 x0 x1) (k0_pay77 x0 x1))⟩ :: ⟨S8x128, (k0_pay42 (k0_pay76 x0 x1) (k0_pay77 x0 x1))⟩ :: ⟨S8x128, (k0_pay43 (k0_pay76 x0 x1) (k0_pay77 x0 x1))⟩ :: ⟨S8x128, (k0_pay47 (k0_pay77 x0 x1) (k0_pay44 (k0_pay76 x0 x1)) (k0_pay45 (k0_pay77 x0 x1)) k0_pay46)⟩ :: ⟨S8x128, (k0_pay48 (k0_pay76 x0 x1) (k0_pay77 x0 x1))⟩ :: ⟨S8x128, (k0_pay49 (k0_pay76 x0 x1) (k0_pay77 x0 x1))⟩ :: ⟨S8x128, (k0_pay50 (k0_pay76 x0 x1) (k0_pay77 x0 x1))⟩ :: ⟨S8x128, (k0_pay51 (k0_pay76 x0 x1) (k0_pay77 x0 x1))⟩ :: ⟨S8x128, (k0_pay52 (k0_pay76 x0 x1) (k0_pay77 x0 x1))⟩ :: ⟨S8x128, (k0_pay53 (k0_pay76 x0 x1) (k0_pay77 x0 x1))⟩ :: ⟨S8x128, (k0_pay54 (k0_pay76 x0 x1) (k0_pay77 x0 x1))⟩ :: ⟨S8x128, (k0_pay55 (k0_pay76 x0 x1) (k0_pay77 x0 x1))⟩ :: ⟨S8x128, (k0_pay56 (k0_pay76 x0 x1) (k0_pay77 x0 x1))⟩ :: ⟨S8x128, (k0_pay57 (k0_pay76 x0 x1) (k0_pay77 x0 x1))⟩ :: ⟨S8x128, (k0_pay60 (k0_pay77 x0 x1) (k0_pay58 (k0_pay76 x0 x1)) (k0_pay59 (k0_pay77 x0 x1)) 128#32)⟩ :: ⟨S8x128, (k0_pay61 (k0_pay76 x0 x1) (k0_pay77 x0 x1))⟩ :: ⟨S8x128, (k0_pay62 (k0_pay76 x0 x1) (k0_pay77 x0 x1))⟩ :: ⟨S8x128, (k0_pay63 (k0_pay76 x0 x1) (k0_pay77 x0 x1))⟩ :: ⟨S8x128, (k0_pay64 (k0_pay76 x0 x1) (k0_pay77 x0 x1))⟩ :: ⟨S8x128, (k0_pay67 (k0_pay65 (k0_pay76 x0 x1)) (k0_pay66 (k0_pay77 x0 x1)))⟩ :: ⟨S8x128, (k0_pay68 (k0_pay76 x0 x1) (k0_pay77 x0 x1))⟩ :: ⟨S8x128, (k0_pay69 (k0_pay76 x0 x1) (k0_pay77 x0 x1))⟩ :: ⟨S8x128, (k0_pay70 (k0_pay76 x0 x1) (k0_pay77 x0 x1))⟩ :: ⟨S8x128, (k0_pay71 (k0_pay76 x0 x1) (k0_pay77 x0 x1))⟩ :: ⟨S8x128, (k0_pay72 (k0_pay76 x0 x1) (k0_pay77 x0 x1))⟩ :: ⟨S8x128, (k0_pay1 (k0_pay77 x0 x1) (k0_pay73 (k0_pay76 x0 x1)) (k0_pay74 (k0_pay77 x0 x1)))⟩ :: []

theorem q0_out5 (x0 : Vec Ideal S32x6144 .bf16) (x1 : Vec Ideal S1x6144 .f32) (p : Fin 32) (j : Fin 6144) :
    out0_5 x0 x1 (ix2 p j) = (((Tern.code q0_n (fun k => x0 (ix2 p k)) (fun k => x1 (ix2 0 k))
      ⟨Tern.src j.val, Tern.src_lt (C := 48) rfl j.isLt⟩).toInt : ℝ) : EReal) := by
  unfold out0_5
  frame_out
  have hL := q0_pay2 (k0_pay75 x0 x1) (k0_list x0 x1) concatenates_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x6144_d1 rfl p j
  refine hL.trans ?_
  have e : k0_pay75 x0 x1 = k0_pay8 x0 x1 := by
    unfold k0_pay75
    frame_out
  rw [e, q0_pay8]

/-- The codes. -/
theorem q0_codes : (dat0 V c).arrAt 2 cfg0.N = fun i => Tern.code q0_n (fun k => V c main_v0 (ix2 (i 0) k)) (fun k => V c main_v1 (ix2 0 k)) (i 1) := by
  refine (dat0 V c).arrAt_eq_of_covers 2 _ (by decide +kernel) fun t hf y => ?_
  blk_simp
  rw [after0_2]
  frame_out
  have ht : t.val < 8 := t.isLt
  have hy : (y 0).val < 32 := (y 0).isLt
  have e0 : ((View.whole main_v2_0).slice (win0_2.rect t)).emb y 0 = (⟨32 * t.val + (y 0).val, by omega⟩ : Fin 256) :=
    Fin.ext (by blk_simp [q0_idx t]; try (show _ = 32 * t.val + (y 0).val; omega))
  have e1 : ((View.whole main_v2_0).slice (win0_2.rect t)).emb y 1 = (y 1 : Fin 6144) :=
    Fin.ext (by blk_simp [q0_idx t]; try (show _ = (y 1).val; omega))
  simp only [e0, e1]
  refine Eq.trans (congrArg _ (ix2_eta y).symm) ?_
  refine (q0_pay8 _ _ (y 0) (y 1)).trans ?_
  simp only [q0_row1, q0_row0 V c t (y 0) _ (by omega)]

/-- The scale of a row. -/
theorem q0_scale : (dat0 V c).arrAt 3 cfg0.N = fun i => Tern.scl q0_n (fun k => V c main_v0 (ix2 (i 0) k)) (fun k => V c main_v1 (ix2 0 k)) := by
  refine (dat0 V c).arrAt_eq_of_covers 3 _ (by decide +kernel) fun t hf y => ?_
  blk_simp
  rw [after0_3]
  frame_out
  have ht : t.val < 8 := t.isLt
  have hy : (y 0).val < 32 := (y 0).isLt
  have e0 : ((View.whole main_v2_1).slice (win0_3.rect t)).emb y 0 = (⟨32 * t.val + (y 0).val, by omega⟩ : Fin 256) :=
    Fin.ext (by blk_simp [q0_idx t]; try (show _ = 32 * t.val + (y 0).val; omega))
  simp only [e0]
  have hz : (y 1).val < 1 := (y 1).isLt
  have ey : y = ix2 (y 0) 0 := (ix2_eta y).symm.trans (congrArg (ix2 (y 0)) (Fin.ext (by show (y 1).val = 0; omega)))
  refine Eq.trans (congrArg _ ey) ?_
  refine (q0_pay6 _ _ (y 0)).trans ?_
  simp only [q0_row1, q0_row0 V c t (y 0) _ (by omega)]

/-- The reciprocal of a row's root mean square. -/
theorem q0_rstd : (dat0 V c).arrAt 4 cfg0.N = fun i => Tern.rstd q0_n (fun k => V c main_v0 (ix2 (i 0) k)) := by
  refine (dat0 V c).arrAt_eq_of_covers 4 _ (by decide +kernel) fun t hf y => ?_
  blk_simp
  rw [after0_4]
  frame_out
  have ht : t.val < 8 := t.isLt
  have hy : (y 0).val < 32 := (y 0).isLt
  have e0 : ((View.whole main_v2_2).slice (win0_4.rect t)).emb y 0 = (⟨32 * t.val + (y 0).val, by omega⟩ : Fin 256) :=
    Fin.ext (by blk_simp [q0_idx t]; try (show _ = 32 * t.val + (y 0).val; omega))
  simp only [e0]
  have hz : (y 1).val < 1 := (y 1).isLt
  have ey : y = ix2 (y 0) 0 := (ix2_eta y).symm.trans (congrArg (ix2 (y 0)) (Fin.ext (by show (y 1).val = 0; omega)))
  refine Eq.trans (congrArg _ ey) ?_
  refine (q0_pay4 _ (y 0)).trans ?_
  simp only [q0_row0 V c t (y 0) _ (by omega)]

/-- The codes in the order the matmul reads them. -/
theorem q0_lhs : (dat0 V c).arrAt 5 cfg0.N = fun i => (((Tern.code q0_n (fun k => V c main_v0 (ix2 (i 0) k)) (fun k => V c main_v1 (ix2 0 k))
      ⟨Tern.src (i 1).val, Tern.src_lt (C := 48) rfl (i 1).isLt⟩).toInt : ℝ) : EReal) := by
  refine (dat0 V c).arrAt_eq_of_covers 5 _ (by decide +kernel) fun t hf y => ?_
  blk_simp
  rw [after0_5]
  have ht : t.val < 8 := t.isLt
  have hy : (y 0).val < 32 := (y 0).isLt
  have e0 : ((View.whole main_v2_3).slice (win0_5.rect t)).emb y 0 = (⟨32 * t.val + (y 0).val, by omega⟩ : Fin 256) :=
    Fin.ext (by blk_simp [q0_idx t]; try (show _ = 32 * t.val + (y 0).val; omega))
  have e1 : ((View.whole main_v2_3).slice (win0_5.rect t)).emb y 1 = (y 1 : Fin 6144) :=
    Fin.ext (by blk_simp [q0_idx t]; try (show _ = (y 1).val; omega))
  simp only [e0, e1]
  refine Eq.trans (congrArg _ (ix2_eta y).symm) ?_
  refine (q0_out5 _ _ (y 0) (y 1)).trans ?_
  have e2 : win0_5.index t 1 = 0 := congrFun (q0_idx t).2.2.2.2.2.1 1
  simp only [e2, Nat.zero_mul, Nat.zero_add, q0_row1, q0_row0 V c t (y 0) _ (by omega)]

/-- The sum of a row's codes. -/
theorem q0_total : (dat0 V c).arrAt 6 cfg0.N = fun i => ∑ j, (((Tern.code q0_n (fun k => V c main_v0 (ix2 (i 0) k)) (fun k => V c main_v1 (ix2 0 k)) j).toInt : ℝ) : EReal) := by
  refine (dat0 V c).arrAt_eq_of_covers 6 _ (by decide +kernel) fun t hf y => ?_
  blk_simp
  rw [after0_6]
  frame_out
  have ht : t.val < 8 := t.isLt
  have hy : (y 0).val < 32 := (y 0).isLt
  have e0 : ((View.whole main_v2_4).slice (win0_6.rect t)).emb y 0 = (⟨32 * t.val + (y 0).val, by omega⟩ : Fin 256) :=
    Fin.ext (by blk_simp [q0_idx t]; try (show _ = 32 * t.val + (y 0).val; omega))
  simp only [e0]
  have hz : (y 1).val < 1 := (y 1).isLt
  have ey : y = ix2 (y 0) 0 := (ix2_eta y).symm.trans (congrArg (ix2 (y 0)) (Fin.ext (by show (y 1).val = 0; omega)))
  refine Eq.trans (congrArg _ ey) ?_
  refine (q0_pay9 _ (y 0)).trans ?_
  refine (Finset.sum_congr rfl fun k _ => q0_pay7 _ _ (y 0) k).trans ?_
  simp only [Tern.coe_toInt_code, q0_row1, q0_row0 V c t (y 0) _ (by omega)]

end Cert.KernelIdeal.Gen
end
-- ==== Proof.M1.lean ====
module

public import proofs.«01_k».proof.Proof.Gen.KernelIdeal.Frame.Region1
public import proofs.«01_k».proof.Proof.Wide

/-! Call 1: a product with a packed weight, one block of columns per grid step. The result at a row and a column
is the widened product of the prepared operand's row with the weight's column. -/

@[expose] public section
set_option maxRecDepth 65536
noncomputable section
namespace Cert.KernelIdeal.Gen
open Idealize.ShloMosaic Idealize.SL.Sem Idealize.ShloMosaic.TcCoe

variable (V : (c : Dev nD) → (b : Ref sig .tc) → Buf (Elt Ideal) ((c : Thread nD τ).loc b)) (c : Dev nD)

theorem m1_mul (x : Vec Ideal S256x6144 .bf16) (w : Vec Ideal S6144x512 .fp8e4m3) (t a : Vec Ideal S256x1 .f32) (s : Elt Ideal .f32) (i : Fin 256) (j : Fin 512) :
    (k1_pay1 (k1_pay278 (k1_pay276 x w) k1_pay277 t a) s : FVec Ideal S256x512 .f32) (ix2 i j)
      = ((∑ k, x (ix2 i k) * w (ix2 k j)) * ((512 : ℝ) : EReal) - t (ix2 i 0)) * a (ix2 i 0) * s := by
  pointwise [k1_pay1, k1_pay276, k1_pay278, k1_pay277]
  rw [Tern.ofBits_512]

theorem m1_block (v : View sig .tc .vmem S6144x512 .fp8e4m3) (x : Vec Ideal S256x6144 .bf16) (w : Vec Ideal S1536x512 .i8)
    (t a : Vec Ideal S256x1 .f32) (s : Elt Ideal .f32) (L)
    (hL : L = Tern.decPieces (N := 6144) (K4 := 1536) (C := 48) rfl rfl bitcasts_S32x512_w8_S8x512_w32 bitcasts_S8x512_w32_S32x512_w8
      shapeCasts_S32x512_S32x512 w [] 192 (by decide)) (inb) (i : Fin 256) (j : Fin 512) :
    (k1_pay1 (k1_pay278 (k1_pay276 x (v.readCov L (Rect.unit (s := S6144x512) ![0, 0] ![6144, 512] inb).toLoadRect : Vec Ideal S6144x512 .fp8e4m3)) k1_pay277 t a) s : FVec Ideal S256x512 .f32) (ix2 i j)
      = Tern.mm (N := 6144) (K4 := 1536) (C := 48) rfl rfl (fun p => x (ix2 i p)) (fun r => w (ix2 r j)) (t (ix2 i 0)) (a (ix2 i 0)) s := by
  rw [m1_mul]
  unfold Tern.mm
  congr 4
  refine Finset.sum_congr rfl fun p _ => congrArg _ ?_
  exact Tern.readCov_decPieces (N := 6144) (K4 := 1536) (C := 48) rfl rfl _ _ _ w v [] L hL inb p j

theorem m1_idx : ∀ t : Fin cfg1.N, (cfg1.win 0).index t = ![0, 0] ∧ (cfg1.win 1).index t = ![0, t.val] ∧ (cfg1.win 2).index t = ![0, 0]
   ∧ (cfg1.win 3).index t = ![0, 0] ∧ (cfg1.win 4).index t = ![0, 0] ∧ (cfg1.win 5).index t = ![0, t.val] := by
  decide +kernel

theorem m1_row0 (t : Fin cfg1.N) (r : Fin 256) (k : Fin 6144) : iblk1 V c 0 t (ix2 r k) = V c main_v2_3 (ix2 r k) := by
  blk_ext [iblk1, m1_idx t]
theorem m1_row1 (t : Fin cfg1.N) (r : Fin 1536) (k : Fin 512) (h : 512 * t.val + k.val < 6144) :
    iblk1 V c 1 t (ix2 r k) = V c main_arg3 (ix2 r ⟨512 * t.val + k.val, h⟩) := by
  blk_ext [iblk1, m1_idx t]
theorem m1_row2 (t : Fin cfg1.N) (r : Fin 256) : iblk1 V c 2 t (ix2 r 0) = V c main_v2_4 (ix2 r 0) := by
  blk_ext [iblk1, m1_idx t]
theorem m1_row3 (t : Fin cfg1.N) (r : Fin 256) : iblk1 V c 3 t (ix2 r 0) = V c main_v2_1 (ix2 r 0) := by
  blk_ext [iblk1, m1_idx t]
theorem m1_row4 (t : Fin cfg1.N) : iblk1 V c 4 t (ix2 0 0) = V c main_v3 (ix2 0 0) := by
  blk_ext [iblk1, m1_idx t]

set_option maxHeartbeats 4000000 in
theorem m1_blk (t : Fin cfg1.N) (i : Fin 256) (j : Fin 512) : outsAt1 V c t (ix2 i j)
    = Tern.mm (N := 6144) (K4 := 1536) (C := 48) rfl rfl (fun p => iblk1 V c 0 t (ix2 i p)) (fun r => iblk1 V c 1 t (ix2 r j))
      (iblk1 V c 2 t (ix2 i 0)) (iblk1 V c 3 t (ix2 i 0)) (iblk1 V c 4 t (ix2 0 0)) := by
  unfold outsAt1 out1_A_5
  frame_out
  refine (m1_block _ (iblk1 V c 0 t) (iblk1 V c 1 t) (iblk1 V c 2 t) (iblk1 V c 3 t)
    (View.ld (iblk1 V c 4 t) (Rect.unit ![0, 0] ![1, 1] inb_S1x1_S1x1_0_0) (Shape.Idx.first Nat.one_pos)) _ ?hL _ i j).trans ?_
  case hL => rfl
  refine Tern.mm_congr _ _ (fun _ => rfl) (fun _ => rfl) rfl rfl ?_
  refine (View.ld_apply _ _ _).trans (congrArg _ ?_)
  first | rfl | (funext a; fin_cases a <;> rfl)

theorem m1_out : (dat1 V c).arrAt 5 cfg1.N = fun i =>
    Tern.mm (N := 6144) (K4 := 1536) (C := 48) rfl rfl (fun p => V c main_v2_3 (ix2 (i 0) p))
      (fun r => V c main_arg3 (ix2 r (i 1))) (V c main_v2_4 (ix2 (i 0) 0)) (V c main_v2_1 (ix2 (i 0) 0)) (V c main_v3 (ix2 0 0)) := by
  refine (dat1 V c).arrAt_eq_of_covers 5 _ (by decide +kernel) fun t hf y => ?_
  blk_simp
  rw [after1_5]
  have ht : t.val < 12 := t.isLt
  have hy : (y 1).val < 512 := (y 1).isLt
  have e0 : ((View.whole main_v4).slice (win1_5.rect t)).emb y 0 = (y 0 : Fin 256) :=
    Fin.ext (by blk_simp [m1_idx t]; try (show _ = (y 0).val; omega))
  have e1 : ((View.whole main_v4).slice (win1_5.rect t)).emb y 1 = (⟨512 * t.val + (y 1).val, by omega⟩ : Fin 6144) :=
    Fin.ext (by blk_simp [m1_idx t]; try (show _ = 512 * t.val + (y 1).val; omega))
  simp only [e0, e1]
  refine Eq.trans (congrArg (outsAt1 V c t) (ix2_eta y).symm) ?_
  refine (m1_blk V c t (y 0) (y 1)).trans ?_
  exact Tern.mm_congr _ _ (fun p => m1_row0 V c t (y 0) p) (fun r => m1_row1 V c t r (y 1) (by omega)) (m1_row2 V c t (y 0))
    (m1_row3 V c t (y 0)) (m1_row4 V c t)

end Cert.KernelIdeal.Gen
end
-- ==== Proof.M2.lean ====
module

public import proofs.«01_k».proof.Proof.Gen.KernelIdeal.Frame.Region2
public import proofs.«01_k».proof.Proof.Wide

/-! Call 2: a product with a packed weight, one block of columns per grid step. The result at a row and a column
is the widened product of the prepared operand's row with the weight's column. -/

@[expose] public section
set_option maxRecDepth 65536
noncomputable section
namespace Cert.KernelIdeal.Gen
open Idealize.ShloMosaic Idealize.SL.Sem Idealize.ShloMosaic.TcCoe

variable (V : (c : Dev nD) → (b : Ref sig .tc) → Buf (Elt Ideal) ((c : Thread nD τ).loc b)) (c : Dev nD)

theorem m2_mul (x : Vec Ideal S256x6144 .bf16) (w : Vec Ideal S6144x256 .fp8e4m3) (t a : Vec Ideal S256x1 .f32) (s : Elt Ideal .f32) (i : Fin 256) (j : Fin 256) :
    (k2_pay1 (k2_pay278 (k2_pay276 x w) k2_pay277 t a) s : FVec Ideal S256x256 .f32) (ix2 i j)
      = ((∑ k, x (ix2 i k) * w (ix2 k j)) * ((512 : ℝ) : EReal) - t (ix2 i 0)) * a (ix2 i 0) * s := by
  pointwise [k2_pay1, k2_pay276, k2_pay278, k2_pay277]
  rw [Tern.ofBits_512]

theorem m2_block (v : View sig .tc .vmem S6144x256 .fp8e4m3) (x : Vec Ideal S256x6144 .bf16) (w : Vec Ideal S1536x256 .i8)
    (t a : Vec Ideal S256x1 .f32) (s : Elt Ideal .f32) (L)
    (hL : L = Tern.decPieces (N := 6144) (K4 := 1536) (C := 48) rfl rfl bitcasts_S32x256_w8_S8x256_w32 bitcasts_S8x256_w32_S32x256_w8
      shapeCasts_S32x256_S32x256 w [] 192 (by decide)) (inb) (i : Fin 256) (j : Fin 256) :
    (k2_pay1 (k2_pay278 (k2_pay276 x (v.readCov L (Rect.unit (s := S6144x256) ![0, 0] ![6144, 256] inb).toLoadRect : Vec Ideal S6144x256 .fp8e4m3)) k2_pay277 t a) s : FVec Ideal S256x256 .f32) (ix2 i j)
      = Tern.mm (N := 6144) (K4 := 1536) (C := 48) rfl rfl (fun p => x (ix2 i p)) (fun r => w (ix2 r j)) (t (ix2 i 0)) (a (ix2 i 0)) s := by
  rw [m2_mul]
  unfold Tern.mm
  congr 4
  refine Finset.sum_congr rfl fun p _ => congrArg _ ?_
  exact Tern.readCov_decPieces (N := 6144) (K4 := 1536) (C := 48) rfl rfl _ _ _ w v [] L hL inb p j

theorem m2_idx : ∀ t : Fin cfg2.N, (cfg2.win 0).index t = ![0, 0] ∧ (cfg2.win 1).index t = ![0, t.val] ∧ (cfg2.win 2).index t = ![0, 0]
   ∧ (cfg2.win 3).index t = ![0, 0] ∧ (cfg2.win 4).index t = ![0, 0] ∧ (cfg2.win 5).index t = ![0, t.val] := by
  decide +kernel

theorem m2_row0 (t : Fin cfg2.N) (r : Fin 256) (k : Fin 6144) : iblk2 V c 0 t (ix2 r k) = V c main_v2_3 (ix2 r k) := by
  blk_ext [iblk2, m2_idx t]
theorem m2_row1 (t : Fin cfg2.N) (r : Fin 1536) (k : Fin 256) (h : 256 * t.val + k.val < 768) :
    iblk2 V c 1 t (ix2 r k) = V c main_arg5 (ix2 r ⟨256 * t.val + k.val, h⟩) := by
  blk_ext [iblk2, m2_idx t]
theorem m2_row2 (t : Fin cfg2.N) (r : Fin 256) : iblk2 V c 2 t (ix2 r 0) = V c main_v2_4 (ix2 r 0) := by
  blk_ext [iblk2, m2_idx t]
theorem m2_row3 (t : Fin cfg2.N) (r : Fin 256) : iblk2 V c 3 t (ix2 r 0) = V c main_v2_1 (ix2 r 0) := by
  blk_ext [iblk2, m2_idx t]
theorem m2_row4 (t : Fin cfg2.N) : iblk2 V c 4 t (ix2 0 0) = V c main_v5 (ix2 0 0) := by
  blk_ext [iblk2, m2_idx t]

set_option maxHeartbeats 4000000 in
theorem m2_blk (t : Fin cfg2.N) (i : Fin 256) (j : Fin 256) : outsAt2 V c t (ix2 i j)
    = Tern.mm (N := 6144) (K4 := 1536) (C := 48) rfl rfl (fun p => iblk2 V c 0 t (ix2 i p)) (fun r => iblk2 V c 1 t (ix2 r j))
      (iblk2 V c 2 t (ix2 i 0)) (iblk2 V c 3 t (ix2 i 0)) (iblk2 V c 4 t (ix2 0 0)) := by
  unfold outsAt2 out2_A_5
  frame_out
  refine (m2_block _ (iblk2 V c 0 t) (iblk2 V c 1 t) (iblk2 V c 2 t) (iblk2 V c 3 t)
    (View.ld (iblk2 V c 4 t) (Rect.unit ![0, 0] ![1, 1] inb_S1x1_S1x1_0_0) (Shape.Idx.first Nat.one_pos)) _ ?hL _ i j).trans ?_
  case hL => rfl
  refine Tern.mm_congr _ _ (fun _ => rfl) (fun _ => rfl) rfl rfl ?_
  refine (View.ld_apply _ _ _).trans (congrArg _ ?_)
  first | rfl | (funext a; fin_cases a <;> rfl)

theorem m2_out : (dat2 V c).arrAt 5 cfg2.N = fun i =>
    Tern.mm (N := 6144) (K4 := 1536) (C := 48) rfl rfl (fun p => V c main_v2_3 (ix2 (i 0) p))
      (fun r => V c main_arg5 (ix2 r (i 1))) (V c main_v2_4 (ix2 (i 0) 0)) (V c main_v2_1 (ix2 (i 0) 0)) (V c main_v5 (ix2 0 0)) := by
  refine (dat2 V c).arrAt_eq_of_covers 5 _ (by decide +kernel) fun t hf y => ?_
  blk_simp
  rw [after2_5]
  have ht : t.val < 3 := t.isLt
  have hy : (y 1).val < 256 := (y 1).isLt
  have e0 : ((View.whole main_v6).slice (win2_5.rect t)).emb y 0 = (y 0 : Fin 256) :=
    Fin.ext (by blk_simp [m2_idx t]; try (show _ = (y 0).val; omega))
  have e1 : ((View.whole main_v6).slice (win2_5.rect t)).emb y 1 = (⟨256 * t.val + (y 1).val, by omega⟩ : Fin 768) :=
    Fin.ext (by blk_simp [m2_idx t]; try (show _ = 256 * t.val + (y 1).val; omega))
  simp only [e0, e1]
  refine Eq.trans (congrArg (outsAt2 V c t) (ix2_eta y).symm) ?_
  refine (m2_blk V c t (y 0) (y 1)).trans ?_
  exact Tern.mm_congr _ _ (fun p => m2_row0 V c t (y 0) p) (fun r => m2_row1 V c t r (y 1) (by omega)) (m2_row2 V c t (y 0))
    (m2_row3 V c t (y 0)) (m2_row4 V c t)

end Cert.KernelIdeal.Gen
end
-- ==== Proof.M3.lean ====
module

public import proofs.«01_k».proof.Proof.Gen.KernelIdeal.Frame.Region3
public import proofs.«01_k».proof.Proof.Wide

/-! Call 3: a product with a packed weight, one block of columns per grid step. The result at a row and a column
is the widened product of the prepared operand's row with the weight's column. -/

@[expose] public section
set_option maxRecDepth 65536
noncomputable section
namespace Cert.KernelIdeal.Gen
open Idealize.ShloMosaic Idealize.SL.Sem Idealize.ShloMosaic.TcCoe

variable (V : (c : Dev nD) → (b : Ref sig .tc) → Buf (Elt Ideal) ((c : Thread nD τ).loc b)) (c : Dev nD)

theorem m3_mul (x : Vec Ideal S256x6144 .bf16) (w : Vec Ideal S6144x256 .fp8e4m3) (t a : Vec Ideal S256x1 .f32) (s : Elt Ideal .f32) (i : Fin 256) (j : Fin 256) :
    (k3_pay1 (k3_pay278 (k3_pay276 x w) k3_pay277 t a) s : FVec Ideal S256x256 .f32) (ix2 i j)
      = ((∑ k, x (ix2 i k) * w (ix2 k j)) * ((512 : ℝ) : EReal) - t (ix2 i 0)) * a (ix2 i 0) * s := by
  pointwise [k3_pay1, k3_pay276, k3_pay278, k3_pay277]
  rw [Tern.ofBits_512]

theorem m3_block (v : View sig .tc .vmem S6144x256 .fp8e4m3) (x : Vec Ideal S256x6144 .bf16) (w : Vec Ideal S1536x256 .i8)
    (t a : Vec Ideal S256x1 .f32) (s : Elt Ideal .f32) (L)
    (hL : L = Tern.decPieces (N := 6144) (K4 := 1536) (C := 48) rfl rfl bitcasts_S32x256_w8_S8x256_w32 bitcasts_S8x256_w32_S32x256_w8
      shapeCasts_S32x256_S32x256 w [] 192 (by decide)) (inb) (i : Fin 256) (j : Fin 256) :
    (k3_pay1 (k3_pay278 (k3_pay276 x (v.readCov L (Rect.unit (s := S6144x256) ![0, 0] ![6144, 256] inb).toLoadRect : Vec Ideal S6144x256 .fp8e4m3)) k3_pay277 t a) s : FVec Ideal S256x256 .f32) (ix2 i j)
      = Tern.mm (N := 6144) (K4 := 1536) (C := 48) rfl rfl (fun p => x (ix2 i p)) (fun r => w (ix2 r j)) (t (ix2 i 0)) (a (ix2 i 0)) s := by
  rw [m3_mul]
  unfold Tern.mm
  congr 4
  refine Finset.sum_congr rfl fun p _ => congrArg _ ?_
  exact Tern.readCov_decPieces (N := 6144) (K4 := 1536) (C := 48) rfl rfl _ _ _ w v [] L hL inb p j

theorem m3_idx : ∀ t : Fin cfg3.N, (cfg3.win 0).index t = ![0, 0] ∧ (cfg3.win 1).index t = ![0, t.val] ∧ (cfg3.win 2).index t = ![0, 0]
   ∧ (cfg3.win 3).index t = ![0, 0] ∧ (cfg3.win 4).index t = ![0, 0] ∧ (cfg3.win 5).index t = ![0, t.val] := by
  decide +kernel

theorem m3_row0 (t : Fin cfg3.N) (r : Fin 256) (k : Fin 6144) : iblk3 V c 0 t (ix2 r k) = V c main_v2_3 (ix2 r k) := by
  blk_ext [iblk3, m3_idx t]
theorem m3_row1 (t : Fin cfg3.N) (r : Fin 1536) (k : Fin 256) (h : 256 * t.val + k.val < 768) :
    iblk3 V c 1 t (ix2 r k) = V c main_arg7 (ix2 r ⟨256 * t.val + k.val, h⟩) := by
  blk_ext [iblk3, m3_idx t]
theorem m3_row2 (t : Fin cfg3.N) (r : Fin 256) : iblk3 V c 2 t (ix2 r 0) = V c main_v2_4 (ix2 r 0) := by
  blk_ext [iblk3, m3_idx t]
theorem m3_row3 (t : Fin cfg3.N) (r : Fin 256) : iblk3 V c 3 t (ix2 r 0) = V c main_v2_1 (ix2 r 0) := by
  blk_ext [iblk3, m3_idx t]
theorem m3_row4 (t : Fin cfg3.N) : iblk3 V c 4 t (ix2 0 0) = V c main_v7 (ix2 0 0) := by
  blk_ext [iblk3, m3_idx t]

set_option maxHeartbeats 4000000 in
theorem m3_blk (t : Fin cfg3.N) (i : Fin 256) (j : Fin 256) : outsAt3 V c t (ix2 i j)
    = Tern.mm (N := 6144) (K4 := 1536) (C := 48) rfl rfl (fun p => iblk3 V c 0 t (ix2 i p)) (fun r => iblk3 V c 1 t (ix2 r j))
      (iblk3 V c 2 t (ix2 i 0)) (iblk3 V c 3 t (ix2 i 0)) (iblk3 V c 4 t (ix2 0 0)) := by
  unfold outsAt3 out3_A_5
  frame_out
  refine (m3_block _ (iblk3 V c 0 t) (iblk3 V c 1 t) (iblk3 V c 2 t) (iblk3 V c 3 t)
    (View.ld (iblk3 V c 4 t) (Rect.unit ![0, 0] ![1, 1] inb_S1x1_S1x1_0_0) (Shape.Idx.first Nat.one_pos)) _ ?hL _ i j).trans ?_
  case hL => rfl
  refine Tern.mm_congr _ _ (fun _ => rfl) (fun _ => rfl) rfl rfl ?_
  refine (View.ld_apply _ _ _).trans (congrArg _ ?_)
  first | rfl | (funext a; fin_cases a <;> rfl)

theorem m3_out : (dat3 V c).arrAt 5 cfg3.N = fun i =>
    Tern.mm (N := 6144) (K4 := 1536) (C := 48) rfl rfl (fun p => V c main_v2_3 (ix2 (i 0) p))
      (fun r => V c main_arg7 (ix2 r (i 1))) (V c main_v2_4 (ix2 (i 0) 0)) (V c main_v2_1 (ix2 (i 0) 0)) (V c main_v7 (ix2 0 0)) := by
  refine (dat3 V c).arrAt_eq_of_covers 5 _ (by decide +kernel) fun t hf y => ?_
  blk_simp
  rw [after3_5]
  have ht : t.val < 3 := t.isLt
  have hy : (y 1).val < 256 := (y 1).isLt
  have e0 : ((View.whole main_v8).slice (win3_5.rect t)).emb y 0 = (y 0 : Fin 256) :=
    Fin.ext (by blk_simp [m3_idx t]; try (show _ = (y 0).val; omega))
  have e1 : ((View.whole main_v8).slice (win3_5.rect t)).emb y 1 = (⟨256 * t.val + (y 1).val, by omega⟩ : Fin 768) :=
    Fin.ext (by blk_simp [m3_idx t]; try (show _ = 256 * t.val + (y 1).val; omega))
  simp only [e0, e1]
  refine Eq.trans (congrArg (outsAt3 V c t) (ix2_eta y).symm) ?_
  refine (m3_blk V c t (y 0) (y 1)).trans ?_
  exact Tern.mm_congr _ _ (fun p => m3_row0 V c t (y 0) p) (fun r => m3_row1 V c t r (y 1) (by omega)) (m3_row2 V c t (y 0))
    (m3_row3 V c t (y 0)) (m3_row4 V c t)

end Cert.KernelIdeal.Gen
end
-- ==== Proof.KC1.lean ====
module

public import proofs.«01_k».proof.Proof.Rows
public import proofs.«01_k».proof.Proof.KHost
public import proofs.«01_k».proof.Proof.RefChain
public import proofs.«01_k».proof.Proof.Q0
public import proofs.«01_k».proof.Proof.M1
public import proofs.«01_k».proof.Proof.M2
public import proofs.«01_k».proof.Proof.M3
public import proofs.«01_k».proof.Proof.Gen.KernelIdeal.Frame.Fold0

/-! The kernel program up to its three projections, against the stages of the reference. -/

@[expose] public section
set_option maxRecDepth 65536
noncomputable section
namespace Cert.KernelIdeal.Gen
open Idealize.ShloMosaic Idealize.ShloMosaic.TcCoe Idealize.SL.Sem Cert.ReferenceIdeal.RefValue

variable (m : (ℓ : Loc nD τ sig) → Buf (Elt Ideal) ℓ) (ρ : Dev nD → PrngReg) (c : Dev nD)

/-- The reference's arguments, as the kernel program holds them at launch. -/
def kArgs : Args where
  x0 := m ((c : Thread nD τ).loc main_arg0)
  x1 := m ((c : Thread nD τ).loc main_arg1)
  x2 := m ((c : Thread nD τ).loc main_arg2)
  x3 := m ((c : Thread nD τ).loc main_arg3)
  x4 := m ((c : Thread nD τ).loc main_arg4)
  x5 := m ((c : Thread nD τ).loc main_arg5)
  x6 := m ((c : Thread nD τ).loc main_arg6)
  x7 := m ((c : Thread nD τ).loc main_arg7)
  x8 := m ((c : Thread nD τ).loc main_arg8)
  x9 := m ((c : Thread nD τ).loc main_arg9)
  x10 := m ((c : Thread nD τ).loc main_arg10)
  x11 := m ((c : Thread nD τ).loc main_arg11)
  x12 := m ((c : Thread nD τ).loc main_arg12)
  x13 := m ((c : Thread nD τ).loc main_arg13)
  x14 := m ((c : Thread nD τ).loc main_arg14)
  x15 := m ((c : Thread nD τ).loc main_arg15)
  x16 := m ((c : Thread nD τ).loc main_arg16)
  x17 := m ((c : Thread nD τ).loc main_arg17)
  x18 := m ((c : Thread nD τ).loc main_arg18)
  x19 := m ((c : Thread nD τ).loc main_arg19)

theorem k0_x (i : Fin 256) (j : Fin 6144) : W1 m ρ c (Proc.devRef .tc main_v0) (ix2 i j) = (kArgs m c).x0 (ix3 (hi i) (lo i) j) :=
  h0_v0 (W0 m ρ c) i j

theorem k0_gain (j : Fin 6144) : W1 m ρ c (Proc.devRef .tc main_v1) (ix2 0 j) = (kArgs m c).x2 (ix1 j) :=
  (h0_v1 (W0 m ρ c) j).trans rfl

theorem k0_cd (i : Fin 256) (j : Fin 6144) :
    Tern.code q0_n (fun k => V1 m ρ c main_v0 (ix2 i k)) (fun k => V1 m ρ c main_v1 (ix2 0 k)) j = (kArgs m c).cIn (ix3 (hi i) (lo i) j) :=
  (Tern.code_congr (n' := n6) rfl (fun j => k0_x m ρ c i j) (k0_gain m ρ c) j).trans
    (gCode6144_apply (kArgs m c).y0 (kArgs m c).x2 (hi i) (lo i) j).symm

theorem k0_code (i : Fin 256) (j : Fin 6144) : W2 m ρ c (Proc.devRef .tc main_v2_0) (ix2 i j) = (kArgs m c).cIn (ix3 (hi i) (lo i) j) :=
  (congrFun ((W2_arr m ρ c 2).trans (q0_codes (V1 m ρ) c)) (ix2 i j)).trans (k0_cd m ρ c i j)

theorem k0_scale (i : Fin 256) : W2 m ρ c (Proc.devRef .tc main_v2_1) (ix2 i 0) = (kArgs m c).sIn (ix2 (hi i) (lo i)) :=
  (congrFun ((W2_arr m ρ c 3).trans (q0_scale (V1 m ρ) c)) (ix2 i 0)).trans
    ((Tern.scl_congr (n' := n6) rfl (fun j => k0_x m ρ c i j) (k0_gain m ρ c)).trans
      (gScale6144_apply (kArgs m c).y0 (kArgs m c).x2 (hi i) (lo i)).symm)

theorem k0_lhs (i : Fin 256) (p : Fin 6144) : W2 m ρ c (Proc.devRef .tc main_v2_3) (ix2 i p)
    = ((((kArgs m c).cIn (ix3 (hi i) (lo i) ⟨Tern.src p.val, Tern.src_lt (C := 48) rfl p.isLt⟩)).toInt : ℝ) : EReal) :=
  (congrFun ((W2_arr m ρ c 5).trans (q0_lhs (V1 m ρ) c)) (ix2 i p)).trans
    (congrArg (fun b : BitVec 8 => ((b.toInt : ℝ) : EReal)) (k0_cd m ρ c i _))

theorem k0_total (i : Fin 256) : W2 m ρ c (Proc.devRef .tc main_v2_4) (ix2 i 0)
    = ∑ j : Fin 6144, ((((kArgs m c).cIn (ix3 (hi i) (lo i) j)).toInt : ℝ) : EReal) :=
  (congrFun ((W2_arr m ρ c 6).trans (q0_total (V1 m ρ) c)) (ix2 i 0)).trans
    (congrArg (fun f : Fin 6144 → EReal => ∑ j, f j) (funext fun j => congrArg (fun b : BitVec 8 => ((b.toInt : ℝ) : EReal)) (k0_cd m ρ c i j)))

theorem k1_mm (i : Fin 256) (j : Fin 6144) :
    Tern.mm (N := 6144) (K4 := 1536) (C := 48) rfl rfl (fun p => V3 m ρ c main_v2_3 (ix2 i p))
      (fun r => V3 m ρ c main_arg3 (ix2 r j)) (V3 m ρ c main_v2_4 (ix2 i 0)) (V3 m ρ c main_v2_1 (ix2 i 0)) (V3 m ρ c main_v3 (ix2 0 0))
      = (kArgs m c).q (ix3 (hi i) (lo i) j) := by
  have hl : ∀ p : Fin 6144, V3 m ρ c main_v2_3 (ix2 i p)
      = ((((kArgs m c).cIn (ix3 (hi i) (lo i) ⟨Tern.src p.val, Tern.src_lt (C := 48) rfl p.isLt⟩)).toInt : ℝ) : EReal) :=
    fun p => (congrFun (W3_of m ρ c main_v2_3 (by decide +kernel)) (ix2 i p)).trans (k0_lhs m ρ c i p)
  have hw : ∀ r : Fin 1536, V3 m ρ c main_arg3 (ix2 r j) = (kArgs m c).x3 (ix2 r j) :=
    fun r => congrFun (W3_args m ρ c main_arg3 (by decide)) (ix2 r j)
  have ht : V3 m ρ c main_v2_4 (ix2 i 0) = ∑ j : Fin 6144, ((((kArgs m c).cIn (ix3 (hi i) (lo i) j)).toInt : ℝ) : EReal) :=
    (congrFun (W3_of m ρ c main_v2_4 (by decide +kernel)) (ix2 i 0)).trans (k0_total m ρ c i)
  have ha : V3 m ρ c main_v2_1 (ix2 i 0) = (kArgs m c).sIn (ix2 (hi i) (lo i)) :=
    (congrFun (W3_of m ρ c main_v2_1 (by decide +kernel)) (ix2 i 0)).trans (k0_scale m ρ c i)
  have hs : V3 m ρ c main_v3 (ix2 0 0) = (kArgs m c).x4 ix0 :=
    (h1_v3 (W2 m ρ c)).trans (congrFun (W2_args m ρ c main_arg4 (by decide)) ix0)
  refine (Tern.mm_congr (N := 6144) (K4 := 1536) (C := 48) rfl rfl hl hw ht ha hs).trans ?_
  refine (Tern.mm_eq (N := 6144) (K4 := 1536) (C := 48) rfl rfl rfl (fun k => (kArgs m c).cIn (ix3 (hi i) (lo i) k)) _ _ _ _ _ (fun _ => rfl) rfl).trans ?_
  exact (gM6144x6144_apply (kArgs m c).cIn (kArgs m c).x3 (kArgs m c).sIn (kArgs m c).x4 (hi i) (lo i) j).symm

theorem k1_out (i : Fin 256) (j : Fin 6144) : W4 m ρ c (Proc.devRef .tc main_v4) (ix2 i j) = (kArgs m c).q (ix3 (hi i) (lo i) j) :=
  (congrFun ((W4_arr m ρ c 5).trans (m1_out (V3 m ρ) c)) (ix2 i j)).trans (k1_mm m ρ c i j)

theorem k2_mm (i : Fin 256) (j : Fin 768) :
    Tern.mm (N := 6144) (K4 := 1536) (C := 48) rfl rfl (fun p => V5 m ρ c main_v2_3 (ix2 i p))
      (fun r => V5 m ρ c main_arg5 (ix2 r j)) (V5 m ρ c main_v2_4 (ix2 i 0)) (V5 m ρ c main_v2_1 (ix2 i 0)) (V5 m ρ c main_v5 (ix2 0 0))
      = (kArgs m c).k (ix3 (hi i) (lo i) j) := by
  have hl : ∀ p : Fin 6144, V5 m ρ c main_v2_3 (ix2 i p)
      = ((((kArgs m c).cIn (ix3 (hi i) (lo i) ⟨Tern.src p.val, Tern.src_lt (C := 48) rfl p.isLt⟩)).toInt : ℝ) : EReal) :=
    fun p => (congrFun (((W5_of m ρ c main_v2_3 (by decide +kernel)).trans (W4_of m ρ c main_v2_3 (by decide +kernel))).trans (W3_of m ρ c main_v2_3 (by decide +kernel))) (ix2 i p)).trans (k0_lhs m ρ c i p)
  have hw : ∀ r : Fin 1536, V5 m ρ c main_arg5 (ix2 r j) = (kArgs m c).x5 (ix2 r j) :=
    fun r => congrFun (W5_args m ρ c main_arg5 (by decide)) (ix2 r j)
  have ht : V5 m ρ c main_v2_4 (ix2 i 0) = ∑ j : Fin 6144, ((((kArgs m c).cIn (ix3 (hi i) (lo i) j)).toInt : ℝ) : EReal) :=
    (congrFun (((W5_of m ρ c main_v2_4 (by decide +kernel)).trans (W4_of m ρ c main_v2_4 (by decide +kernel))).trans (W3_of m ρ c main_v2_4 (by decide +kernel))) (ix2 i 0)).trans (k0_total m ρ c i)
  have ha : V5 m ρ c main_v2_1 (ix2 i 0) = (kArgs m c).sIn (ix2 (hi i) (lo i)) :=
    (congrFun (((W5_of m ρ c main_v2_1 (by decide +kernel)).trans (W4_of m ρ c main_v2_1 (by decide +kernel))).trans (W3_of m ρ c main_v2_1 (by decide +kernel))) (ix2 i 0)).trans (k0_scale m ρ c i)
  have hs : V5 m ρ c main_v5 (ix2 0 0) = (kArgs m c).x6 ix0 :=
    (h2_v5 (W4 m ρ c)).trans (congrFun (W4_args m ρ c main_arg6 (by decide)) ix0)
  refine (Tern.mm_congr (N := 6144) (K4 := 1536) (C := 48) rfl rfl hl hw ht ha hs).trans ?_
  refine (Tern.mm_eq (N := 6144) (K4 := 1536) (C := 48) rfl rfl rfl (fun k => (kArgs m c).cIn (ix3 (hi i) (lo i) k)) _ _ _ _ _ (fun _ => rfl) rfl).trans ?_
  exact (gM6144x768_apply (kArgs m c).cIn (kArgs m c).x5 (kArgs m c).sIn (kArgs m c).x6 (hi i) (lo i) j).symm

theorem k2_out (i : Fin 256) (j : Fin 768) : W6 m ρ c (Proc.devRef .tc main_v6) (ix2 i j) = (kArgs m c).k (ix3 (hi i) (lo i) j) :=
  (congrFun ((W6_arr m ρ c 5).trans (m2_out (V5 m ρ) c)) (ix2 i j)).trans (k2_mm m ρ c i j)

theorem k3_mm (i : Fin 256) (j : Fin 768) :
    Tern.mm (N := 6144) (K4 := 1536) (C := 48) rfl rfl (fun p => V7 m ρ c main_v2_3 (ix2 i p))
      (fun r => V7 m ρ c main_arg7 (ix2 r j)) (V7 m ρ c main_v2_4 (ix2 i 0)) (V7 m ρ c main_v2_1 (ix2 i 0)) (V7 m ρ c main_v7 (ix2 0 0))
      = (kArgs m c).v (ix3 (hi i) (lo i) j) := by
  have hl : ∀ p : Fin 6144, V7 m ρ c main_v2_3 (ix2 i p)
      = ((((kArgs m c).cIn (ix3 (hi i) (lo i) ⟨Tern.src p.val, Tern.src_lt (C := 48) rfl p.isLt⟩)).toInt : ℝ) : EReal) :=
    fun p => (congrFun (((((W7_of m ρ c main_v2_3 (by decide +kernel)).trans (W6_of m ρ c main_v2_3 (by decide +kernel))).trans (W5_of m ρ c main_v2_3 (by decide +kernel))).trans (W4_of m ρ c main_v2_3 (by decide +kernel))).trans (W3_of m ρ c main_v2_3 (by decide +kernel))) (ix2 i p)).trans (k0_lhs m ρ c i p)
  have hw : ∀ r : Fin 1536, V7 m ρ c main_arg7 (ix2 r j) = (kArgs m c).x7 (ix2 r j) :=
    fun r => congrFun (W7_args m ρ c main_arg7 (by decide)) (ix2 r j)
  have ht : V7 m ρ c main_v2_4 (ix2 i 0) = ∑ j : Fin 6144, ((((kArgs m c).cIn (ix3 (hi i) (lo i) j)).toInt : ℝ) : EReal) :=
    (congrFun (((((W7_of m ρ c main_v2_4 (by decide +kernel)).trans (W6_of m ρ c main_v2_4 (by decide +kernel))).trans (W5_of m ρ c main_v2_4 (by decide +kernel))).trans (W4_of m ρ c main_v2_4 (by decide +kernel))).trans (W3_of m ρ c main_v2_4 (by decide +kernel))) (ix2 i 0)).trans (k0_total m ρ c i)
  have ha : V7 m ρ c main_v2_1 (ix2 i 0) = (kArgs m c).sIn (ix2 (hi i) (lo i)) :=
    (congrFun (((((W7_of m ρ c main_v2_1 (by decide +kernel)).trans (W6_of m ρ c main_v2_1 (by decide +kernel))).trans (W5_of m ρ c main_v2_1 (by decide +kernel))).trans (W4_of m ρ c main_v2_1 (by decide +kernel))).trans (W3_of m ρ c main_v2_1 (by decide +kernel))) (ix2 i 0)).trans (k0_scale m ρ c i)
  have hs : V7 m ρ c main_v7 (ix2 0 0) = (kArgs m c).x8 ix0 :=
    (h3_v7 (W6 m ρ c)).trans (congrFun (W6_args m ρ c main_arg8 (by decide)) ix0)
  refine (Tern.mm_congr (N := 6144) (K4 := 1536) (C := 48) rfl rfl hl hw ht ha hs).trans ?_
  refine (Tern.mm_eq (N := 6144) (K4 := 1536) (C := 48) rfl rfl rfl (fun k => (kArgs m c).cIn (ix3 (hi i) (lo i) k)) _ _ _ _ _ (fun _ => rfl) rfl).trans ?_
  exact (gM6144x768_apply (kArgs m c).cIn (kArgs m c).x7 (kArgs m c).sIn (kArgs m c).x8 (hi i) (lo i) j).symm

theorem k3_out (i : Fin 256) (j : Fin 768) : W8 m ρ c (Proc.devRef .tc main_v8) (ix2 i j) = (kArgs m c).v (ix3 (hi i) (lo i) j) :=
  (congrFun ((W8_arr m ρ c 5).trans (m3_out (V7 m ρ) c)) (ix2 i j)).trans (k3_mm m ρ c i j)

end Cert.KernelIdeal.Gen
end
-- ==== Proof.A4.lean ====
module

public import proofs.«01_k».proof.Proof.Gen.KernelIdeal.Frame.Region4
public import proofs.«01_k».proof.Proof.Attn
public import proofs.«01_k».proof.Proof.Wide

/-! Call 4: rotation and attention, one sequence per grid step. The eight stores of a group of heads are brought to one
form, read once. -/

@[expose] public section
set_option maxRecDepth 65536
noncomputable section
namespace Cert.KernelIdeal.Gen
open Idealize.ShloMosaic Idealize.SL.Sem Idealize.ShloMosaic.TcCoe

/-- The masked scores of one head. -/
def a4_score (q k : FVec Ideal S128x96 .bf16) : FVec Ideal S128x128 .f32 :=
  select k4_pay6 (mulf (matmul dot_S128x96_S128x96_S128x128_1_1_0_0_n_n none q k (constant S128x128 .f32 0x00000000#32))
    (broadcast S128x128 (Scalar.ofBits .f32 0x3DD105EC#32))) (broadcast S128x128 (Scalar.ofBits .f32 0xFF800000#32))

/-- The exponentials of the scores less their row's greatest. -/
def a4_exp (z : FVec Ideal S128x128 .f32) : FVec Ideal S128x128 .f32 :=
  exp (subf z (broadcastTo S128x128 (shapeCast S128x1 (multiReduction .maximumf [1] S128 z 0xFF800000#32 reduces_S128x128_S128 (.inl rfl) rfl) shapeCasts_S128_S128x1) broadcasts_S128x1_S128x128))

/-- Exponentials over their row's sum, times the values. -/
def a4_mix (e : FVec Ideal S128x128 .f32) (v : FVec Ideal S128x96 .bf16) : FVec Ideal S128x96 .f32 :=
  matmul dot_S128x128_S128x96_S128x96_1_0_0_1_n_n none (truncf .bf16 (divf e (broadcastTo S128x128 (shapeCast S128x1
    (multiReduction .add [1] S128 e 0x00000000#32 reduces_S128x128_S128 (.inl rfl) rfl) shapeCasts_S128_S128x1) broadcasts_S128x1_S128x128)) bitsLt_bf16_f32)
    v (constant S128x96 .f32 0x00000000#32)

/-- One head. -/
def a4_head (q k v : FVec Ideal S128x96 .bf16) : FVec Ideal S128x96 .f32 := a4_mix (a4_exp (a4_score q k)) v

/-- Eight heads over one key and value head. -/
def a4_group (q : FVec Ideal S128x768 .bf16) (k v : FVec Ideal S128x96 .bf16) : FVec Ideal S128x768 .f32 :=
  concatenate S128x768 1 [⟨S128x96, a4_head (extractStridedSlice S128x96 ![0, 0] q slices_S128x768_o0_0_S128x96) k v⟩,
    ⟨S128x96, a4_head (extractStridedSlice S128x96 ![0, 96] q slices_S128x768_o0_96_S128x96) k v⟩,
    ⟨S128x96, a4_head (extractStridedSlice S128x96 ![0, 192] q slices_S128x768_o0_192_S128x96) k v⟩,
    ⟨S128x96, a4_head (extractStridedSlice S128x96 ![0, 288] q slices_S128x768_o0_288_S128x96) k v⟩,
    ⟨S128x96, a4_head (extractStridedSlice S128x96 ![0, 384] q slices_S128x768_o0_384_S128x96) k v⟩,
    ⟨S128x96, a4_head (extractStridedSlice S128x96 ![0, 480] q slices_S128x768_o0_480_S128x96) k v⟩,
    ⟨S128x96, a4_head (extractStridedSlice S128x96 ![0, 576] q slices_S128x768_o0_576_S128x96) k v⟩,
    ⟨S128x96, a4_head (extractStridedSlice S128x96 ![0, 672] q slices_S128x768_o0_672_S128x96) k v⟩]
    concatenates_S128x96_S128x96_S128x96_S128x96_S128x96_S128x96_S128x96_S128x96_S128x768_d1

theorem a4_q (x0 : Vec Ideal S128x6144 .f32) (x1 x2 x3 x4 : Vec Ideal S128x768 .f32) : out4_5 x0 x1 x2 x3 x4 = View.canon [⟨r4_8, k4_pay4 (View.ld x3 r4_0) (View.ld x4 r4_0) (View.ld x0 r4_8)⟩,
    ⟨r4_7, k4_pay4 (View.ld x3 r4_0) (View.ld x4 r4_0) (View.ld x0 r4_7)⟩,
    ⟨r4_6, k4_pay4 (View.ld x3 r4_0) (View.ld x4 r4_0) (View.ld x0 r4_6)⟩,
    ⟨r4_5, k4_pay4 (View.ld x3 r4_0) (View.ld x4 r4_0) (View.ld x0 r4_5)⟩,
    ⟨r4_4, k4_pay4 (View.ld x3 r4_0) (View.ld x4 r4_0) (View.ld x0 r4_4)⟩,
    ⟨r4_3, k4_pay4 (View.ld x3 r4_0) (View.ld x4 r4_0) (View.ld x0 r4_3)⟩,
    ⟨r4_2, k4_pay4 (View.ld x3 r4_0) (View.ld x4 r4_0) (View.ld x0 r4_2)⟩,
    ⟨r4_1, k4_pay4 (View.ld x3 r4_0) (View.ld x4 r4_0) (View.ld x0 r4_1)⟩] := by
  rfl

theorem a4_o (x0 : Vec Ideal S128x6144 .f32) (x1 x2 x3 x4 : Vec Ideal S128x768 .f32) : out4_7 x0 x1 x2 x3 x4 = View.canon [⟨r4_8, a4_group (k4_pay4 (View.ld x3 r4_0) (View.ld x4 r4_0) (View.ld x0 r4_8))
      (extractStridedSlice S128x96 ![0, 672] (k4_pay4 (View.ld x3 r4_0) (View.ld x4 r4_0) (View.ld x1 r4_0)) slices_S128x768_o0_672_S128x96)
      (extractStridedSlice S128x96 ![0, 672] (k4_pay5 (View.ld x2 r4_0)) slices_S128x768_o0_672_S128x96)⟩,
    ⟨r4_7, a4_group (k4_pay4 (View.ld x3 r4_0) (View.ld x4 r4_0) (View.ld x0 r4_7))
      (extractStridedSlice S128x96 ![0, 576] (k4_pay4 (View.ld x3 r4_0) (View.ld x4 r4_0) (View.ld x1 r4_0)) slices_S128x768_o0_576_S128x96)
      (extractStridedSlice S128x96 ![0, 576] (k4_pay5 (View.ld x2 r4_0)) slices_S128x768_o0_576_S128x96)⟩,
    ⟨r4_6, a4_group (k4_pay4 (View.ld x3 r4_0) (View.ld x4 r4_0) (View.ld x0 r4_6))
      (extractStridedSlice S128x96 ![0, 480] (k4_pay4 (View.ld x3 r4_0) (View.ld x4 r4_0) (View.ld x1 r4_0)) slices_S128x768_o0_480_S128x96)
      (extractStridedSlice S128x96 ![0, 480] (k4_pay5 (View.ld x2 r4_0)) slices_S128x768_o0_480_S128x96)⟩,
    ⟨r4_5, a4_group (k4_pay4 (View.ld x3 r4_0) (View.ld x4 r4_0) (View.ld x0 r4_5))
      (extractStridedSlice S128x96 ![0, 384] (k4_pay4 (View.ld x3 r4_0) (View.ld x4 r4_0) (View.ld x1 r4_0)) slices_S128x768_o0_384_S128x96)
      (extractStridedSlice S128x96 ![0, 384] (k4_pay5 (View.ld x2 r4_0)) slices_S128x768_o0_384_S128x96)⟩,
    ⟨r4_4, a4_group (k4_pay4 (View.ld x3 r4_0) (View.ld x4 r4_0) (View.ld x0 r4_4))
      (extractStridedSlice S128x96 ![0, 288] (k4_pay4 (View.ld x3 r4_0) (View.ld x4 r4_0) (View.ld x1 r4_0)) slices_S128x768_o0_288_S128x96)
      (extractStridedSlice S128x96 ![0, 288] (k4_pay5 (View.ld x2 r4_0)) slices_S128x768_o0_288_S128x96)⟩,
    ⟨r4_3, a4_group (k4_pay4 (View.ld x3 r4_0) (View.ld x4 r4_0) (View.ld x0 r4_3))
      (extractStridedSlice S128x96 ![0, 192] (k4_pay4 (View.ld x3 r4_0) (View.ld x4 r4_0) (View.ld x1 r4_0)) slices_S128x768_o0_192_S128x96)
      (extractStridedSlice S128x96 ![0, 192] (k4_pay5 (View.ld x2 r4_0)) slices_S128x768_o0_192_S128x96)⟩,
    ⟨r4_2, a4_group (k4_pay4 (View.ld x3 r4_0) (View.ld x4 r4_0) (View.ld x0 r4_2))
      (extractStridedSlice S128x96 ![0, 96] (k4_pay4 (View.ld x3 r4_0) (View.ld x4 r4_0) (View.ld x1 r4_0)) slices_S128x768_o0_96_S128x96)
      (extractStridedSlice S128x96 ![0, 96] (k4_pay5 (View.ld x2 r4_0)) slices_S128x768_o0_96_S128x96)⟩,
    ⟨r4_1, a4_group (k4_pay4 (View.ld x3 r4_0) (View.ld x4 r4_0) (View.ld x0 r4_1))
      (extractStridedSlice S128x96 ![0, 0] (k4_pay4 (View.ld x3 r4_0) (View.ld x4 r4_0) (View.ld x1 r4_0)) slices_S128x768_o0_0_S128x96)
      (extractStridedSlice S128x96 ![0, 0] (k4_pay5 (View.ld x2 r4_0)) slices_S128x768_o0_0_S128x96)⟩] := by
  rfl

theorem a4_lane : ∀ j : Fin 768, IntOp.cmpi .slt (Scalar.select (IntOp.andi (IntOp.xori
      (IntOp.cmpi .slt (IntOp.remsi .vector (BitVec.ofNat 32 j.val) (Scalar.select (Scalar.cmpi .eq 96#32 0#32) 1#32 96#32)) 0#32)
      (Scalar.cmpi .slt (Scalar.select (Scalar.cmpi .eq 96#32 0#32) 1#32 96#32) 0#32))
      (IntOp.cmpi .ne (IntOp.remsi .vector (BitVec.ofNat 32 j.val) (Scalar.select (Scalar.cmpi .eq 96#32 0#32) 1#32 96#32)) 0#32))
      (IntOp.addi (IntOp.remsi .vector (BitVec.ofNat 32 j.val) (Scalar.select (Scalar.cmpi .eq 96#32 0#32) 1#32 96#32))
        (Scalar.select (Scalar.cmpi .eq 96#32 0#32) 1#32 96#32))
      (IntOp.remsi .vector (BitVec.ofNat 32 j.val) (Scalar.select (Scalar.cmpi .eq 96#32 0#32) 1#32 96#32))) 48#32
    = if j.val % 96 < 48 then 1#1 else 0#1 := by
  decide +kernel

theorem a4_rope (c s x : Vec Ideal S128x768 .f32) (i : Fin 128) (j : Fin 768) :
    (k4_pay4 c s x : FVec Ideal S128x768 .bf16) (ix2 i j)
      = Tern.rope (D := 768) (H := 8) rfl (fun e => x (ix2 i e)) (c (ix2 i j)) (s (ix2 i j)) j := by
  pointwise [k4_pay4, k4_pay2, k4_pay3]
  rw [a4_lane]
  unfold Tern.rope
  have hj := j.isLt
  congr 2
  by_cases h : j.val % 96 < 48
  · rw [if_pos h, if_pos h]
    refine (zero_sub _).trans (congrArg Neg.neg (congrArg (fun e => x (ix2 i e)) (Fin.ext ?_)))
    show (j.val + 768 - 720) % 768 = j.val / 96 * 96 + (j.val % 96 + 48) % 96
    omega
  · rw [if_neg h, if_neg h]
    refine congrArg (fun e => x (ix2 i e)) (Fin.ext ?_)
    show (j.val + 768 - 48) % 768 = j.val / 96 * 96 + (j.val % 96 + 48) % 96
    omega

theorem a4_mask : ∀ i j : Fin 128, IntOp.cmpi .sle (BitVec.ofNat 32 j.val) (BitVec.ofNat 32 i.val) = if j.val ≤ i.val then 1#1 else 0#1 := by
  decide +kernel

theorem a4_score_apply (q k : FVec Ideal S128x96 .bf16) (i j : Fin 128) :
    a4_score q k (ix2 i j) = Tern.score i (fun e => q (ix2 i e)) (fun t e => k (ix2 t e)) j := by
  pointwise [a4_score, k4_pay6]
  rw [a4_mask]
  unfold Tern.score
  by_cases h : j.val ≤ i.val
  · rw [if_pos h, if_pos h]
    rfl
  · rw [if_neg h, if_neg h]
    rfl

theorem a4_exp_apply (z : FVec Ideal S128x128 .f32) (i j : Fin 128) : a4_exp z (ix2 i j) = Tern.expo (fun t => z (ix2 i t)) j := by
  pointwise [a4_exp, Tern.expo]

theorem a4_mix_apply (e : FVec Ideal S128x128 .f32) (v : FVec Ideal S128x96 .bf16) (i : Fin 128) (j : Fin 96) :
    a4_mix e v (ix2 i j) = Tern.mix (fun t => e (ix2 i t)) (fun t => v (ix2 t j)) := by
  pointwise [a4_mix, Tern.mix]

theorem a4_head_apply (q k v : FVec Ideal S128x96 .bf16) (i : Fin 128) (j : Fin 96) :
    a4_head q k v (ix2 i j) = Tern.attn i (fun e => q (ix2 i e)) (fun t e => k (ix2 t e)) (fun t => v (ix2 t j)) := by
  unfold a4_head Tern.attn
  rw [a4_mix_apply]
  simp only [a4_exp_apply, a4_score_apply]

/-- Columns of a row of heads, from an offset. -/
theorem a4_slice (q : FVec Ideal S128x768 .bf16) (o : ℕ) (h : S128x768.Slices ![0, o] S128x96) (i : Fin 128) (e : Fin 96) (ho : o + e.val < 768) :
    extractStridedSlice S128x96 ![0, o] q h (ix2 i e) = q (ix2 i ⟨o + e.val, ho⟩) := by
  pointwise []

theorem a4_part (q : FVec Ideal S128x768 .bf16) (k v : FVec Ideal S128x96 .bf16) (o g : ℕ) (ho : o = 96 * g) (h : S128x768.Slices ![0, o] S128x96)
    (i : Fin 128) (j : Fin 768) (l : Fin 96) (hl : j.val = o + l.val) :
    a4_head (extractStridedSlice S128x96 ![0, o] q h) k v (ix2 i l)
      = Tern.attn i (fun e => q (ix2 i ⟨j.val / 96 * 96 + e.val, by omega⟩)) (fun t e => k (ix2 t e)) (fun t => v (ix2 t ⟨j.val % 96, Nat.mod_lt _ (by omega)⟩)) := by
  have hj := j.isLt
  have hl' := l.isLt
  rw [a4_head_apply]
  refine Tern.attn_congr rfl (fun e => ?_) (fun _ _ => rfl) (fun t => ?_)
  · have he := e.isLt
    rw [a4_slice q o h i e (by omega)]
    exact congrArg (fun e => q (ix2 i e)) (Fin.ext (by show o + e.val = j.val / 96 * 96 + e.val; omega))
  · exact congrArg (fun e => v (ix2 t e)) (Fin.ext (by show l.val = j.val % 96; omega))

theorem a4_group_apply (q : FVec Ideal S128x768 .bf16) (k v : FVec Ideal S128x96 .bf16) (i : Fin 128) (j : Fin 768) :
    a4_group q k v (ix2 i j)
      = Tern.attn i (fun e => q (ix2 i ⟨j.val / 96 * 96 + e.val, by omega⟩)) (fun t e => k (ix2 t e)) (fun t => v (ix2 t ⟨j.val % 96, Nat.mod_lt _ (by omega)⟩)) := by
  have hj := j.isLt
  unfold a4_group
  pointwise []
  by_cases h0 : j.val < 96
  · rw [dif_pos h0]
    exact a4_part q k v 0 0 rfl _ i j _ (by show j.val = 0 + (j.val); omega)
  rw [dif_neg h0]
  by_cases h1 : j.val - 96 < 96
  · rw [dif_pos h1]
    exact a4_part q k v 96 1 rfl _ i j _ (by show j.val = 96 + (j.val - 96); omega)
  rw [dif_neg h1]
  by_cases h2 : j.val - 96 - 96 < 96
  · rw [dif_pos h2]
    exact a4_part q k v 192 2 rfl _ i j _ (by show j.val = 192 + (j.val - 96 - 96); omega)
  rw [dif_neg h2]
  by_cases h3 : j.val - 96 - 96 - 96 < 96
  · rw [dif_pos h3]
    exact a4_part q k v 288 3 rfl _ i j _ (by show j.val = 288 + (j.val - 96 - 96 - 96); omega)
  rw [dif_neg h3]
  by_cases h4 : j.val - 96 - 96 - 96 - 96 < 96
  · rw [dif_pos h4]
    exact a4_part q k v 384 4 rfl _ i j _ (by show j.val = 384 + (j.val - 96 - 96 - 96 - 96); omega)
  rw [dif_neg h4]
  by_cases h5 : j.val - 96 - 96 - 96 - 96 - 96 < 96
  · rw [dif_pos h5]
    exact a4_part q k v 480 5 rfl _ i j _ (by show j.val = 480 + (j.val - 96 - 96 - 96 - 96 - 96); omega)
  rw [dif_neg h5]
  by_cases h6 : j.val - 96 - 96 - 96 - 96 - 96 - 96 < 96
  · rw [dif_pos h6]
    exact a4_part q k v 576 6 rfl _ i j _ (by show j.val = 576 + (j.val - 96 - 96 - 96 - 96 - 96 - 96); omega)
  rw [dif_neg h6]
  exact a4_part q k v 672 7 rfl _ i j _ (by show j.val = 672 + (j.val - 96 - 96 - 96 - 96 - 96 - 96 - 96); omega)

theorem a4_hit {W D : ℕ} {φ : EltTy} (o : ℕ) (inb : ∀ a : Fin 2, (![0, o] : Fin 2 → ℕ) a + (![128, W] : Fin 2 → ℕ) a ≤ (![128, D] : Fin 2 → ℕ) a)
    (p : Vec Ideal ⟨2, ![128, W]⟩ φ) (L : List (View.Piece (Elt Ideal) ⟨2, ![128, D]⟩ φ)) (i : Fin 128) (l : Fin W) (j : Fin D) (hj : j.val = o + l.val) :
    View.canon (⟨Rect.unit (s := ⟨2, ![128, D]⟩) ![0, o] ![128, W] inb, p⟩ :: L) (ix2 i j) = p (ix2 i l) := by
  have e : (ix2 i j : (⟨2, ![128, D]⟩ : Shape).Idx) = (Rect.unit (s := ⟨2, ![128, D]⟩) ![0, o] ![128, W] inb).emb (ix2 i l) := by
    funext a
    fin_cases a
    · refine Fin.ext ?_
      show i.val = 0 + 1 * i.val
      omega
    · refine Fin.ext ?_
      show j.val = o + 1 * l.val
      omega
  rw [e, View.canon_cons_emb]

theorem a4_miss {W D : ℕ} {φ : EltTy} (o : ℕ) (inb : ∀ a : Fin 2, (![0, o] : Fin 2 → ℕ) a + (![128, W] : Fin 2 → ℕ) a ≤ (![128, D] : Fin 2 → ℕ) a)
    (p : Vec Ideal ⟨2, ![128, W]⟩ φ) (L : List (View.Piece (Elt Ideal) ⟨2, ![128, D]⟩ φ)) (i : Fin 128) (j : Fin D) (hj : j.val < o) :
    View.canon (⟨Rect.unit (s := ⟨2, ![128, D]⟩) ![0, o] ![128, W] inb, p⟩ :: L) (ix2 i j) = View.canon L (ix2 i j) := by
  refine View.canon_cons_of_not_mem _ _ fun hc => ?_
  obtain ⟨y, hy⟩ := LoadRect.exists_idx_of_mem _ hc
  have := congrArg (fun i : (⟨2, ![128, D]⟩ : Shape).Idx => (i 1).val) hy
  have h2 : o + 1 * (y 1).val = j.val := this
  omega

theorem a4_ld {W D : ℕ} {φ : EltTy} (x : Vec Ideal ⟨2, ![128, D]⟩ φ) (o : ℕ) (inb : ∀ a : Fin 2, (![0, o] : Fin 2 → ℕ) a + (![128, W] : Fin 2 → ℕ) a ≤ (![128, D] : Fin 2 → ℕ) a)
    (i : Fin 128) (l : Fin W) (h : o + l.val < D) :
    View.ld x (Rect.unit (s := ⟨2, ![128, D]⟩) ![0, o] ![128, W] inb) (ix2 i l) = x (ix2 i ⟨o + l.val, h⟩) := by
  refine (View.ld_apply x _ _).trans (congrArg x ?_)
  funext a
  fin_cases a
  · refine Fin.ext ?_
    show 0 + 1 * i.val = i.val
    omega
  · refine Fin.ext ?_
    show o + 1 * l.val = o + l.val
    omega

theorem a4_ld0 {φ : EltTy} (x : Vec Ideal S128x768 φ) (i : Fin 128) (l : Fin 768) : View.ld x r4_0 (ix2 i l) = x (ix2 i l) := by
  refine (a4_ld (W := 768) (D := 768) x 0 _ i l (by have := l.isLt; omega)).trans (congrArg (fun e => x (ix2 i e)) (Fin.ext ?_))
  show 0 + l.val = l.val
  omega

theorem a4_k (x1 x3 x4 : Vec Ideal S128x768 .f32) (i : Fin 128) (j : Fin 768) :
    (k4_pay4 (View.ld x3 r4_0) (View.ld x4 r4_0) (View.ld x1 r4_0) : FVec Ideal S128x768 .bf16) (ix2 i j)
      = Tern.rope (D := 768) (H := 8) rfl (fun e => x1 (ix2 i e)) (x3 (ix2 i j)) (x4 (ix2 i j)) j := by
  rw [a4_rope]
  exact Tern.rope_congr _ _ rfl (fun d h h' hd => a4_ld0 x1 i _) (a4_ld0 x3 i j) (a4_ld0 x4 i j)

theorem a4_qpart (x0 : Vec Ideal S128x6144 .f32) (x3 x4 : Vec Ideal S128x768 .f32) (o g : ℕ) (ho : o = 768 * g)
    (inb : ∀ a : Fin 2, (![0, o] : Fin 2 → ℕ) a + (![128, 768] : Fin 2 → ℕ) a ≤ (![128, 6144] : Fin 2 → ℕ) a)
    (i : Fin 128) (j : Fin 6144) (l : Fin 768) (hl : j.val = o + l.val) :
    (k4_pay4 (View.ld x3 r4_0) (View.ld x4 r4_0) (View.ld x0 (Rect.unit (s := S128x6144) ![0, o] ![128, 768] inb)) : FVec Ideal S128x768 .bf16) (ix2 i l)
      = Tern.rope (D := 6144) (H := 64) rfl (fun e => x0 (ix2 i e)) (x3 (ix2 i ⟨j.val % 768, Nat.mod_lt _ (by omega)⟩)) (x4 (ix2 i ⟨j.val % 768, Nat.mod_lt _ (by omega)⟩)) j := by
  have hj := j.isLt
  have hl' := l.isLt
  have el : l = ⟨j.val % 768, Nat.mod_lt _ (by omega)⟩ := Fin.ext (by show l.val = j.val % 768; omega)
  rw [a4_rope]
  refine Tern.rope_congr _ _ (by omega) (fun d h h' hd => ?_) ((a4_ld0 x3 i l).trans (congrArg (fun e => x3 (ix2 i e)) el))
    ((a4_ld0 x4 i l).trans (congrArg (fun e => x4 (ix2 i e)) el))
  refine (a4_ld (W := 768) (D := 6144) x0 o inb i ⟨_, h⟩ (by show o + (l.val / 96 * 96 + d) < 6144; omega)).trans (congrArg (fun e => x0 (ix2 i e)) (Fin.ext ?_))
  show o + (l.val / 96 * 96 + d) = j.val / 96 * 96 + d
  omega

theorem a4_q_apply (x0 : Vec Ideal S128x6144 .f32) (x1 x2 x3 x4 : Vec Ideal S128x768 .f32) (i : Fin 128) (j : Fin 6144) :
    out4_5 x0 x1 x2 x3 x4 (ix2 i j)
      = Tern.rope (D := 6144) (H := 64) rfl (fun e => x0 (ix2 i e)) (x3 (ix2 i ⟨j.val % 768, Nat.mod_lt _ (by omega)⟩)) (x4 (ix2 i ⟨j.val % 768, Nat.mod_lt _ (by omega)⟩)) j := by
  have hj := j.isLt
  rw [a4_q]
  by_cases h7 : 5376 ≤ j.val
  · exact (a4_hit (W := 768) (D := 6144) 5376 _ _ _ i ⟨j.val - 5376, by omega⟩ j (by show j.val = 5376 + (j.val - 5376); omega)).trans
      (a4_qpart x0 x3 x4 5376 7 rfl _ i j ⟨j.val - 5376, by omega⟩ (by show j.val = 5376 + (j.val - 5376); omega))
  refine (a4_miss (W := 768) (D := 6144) 5376 _ _ _ i j (by omega)).trans ?_
  by_cases h6 : 4608 ≤ j.val
  · exact (a4_hit (W := 768) (D := 6144) 4608 _ _ _ i ⟨j.val - 4608, by omega⟩ j (by show j.val = 4608 + (j.val - 4608); omega)).trans
      (a4_qpart x0 x3 x4 4608 6 rfl _ i j ⟨j.val - 4608, by omega⟩ (by show j.val = 4608 + (j.val - 4608); omega))
  refine (a4_miss (W := 768) (D := 6144) 4608 _ _ _ i j (by omega)).trans ?_
  by_cases h5 : 3840 ≤ j.val
  · exact (a4_hit (W := 768) (D := 6144) 3840 _ _ _ i ⟨j.val - 3840, by omega⟩ j (by show j.val = 3840 + (j.val - 3840); omega)).trans
      (a4_qpart x0 x3 x4 3840 5 rfl _ i j ⟨j.val - 3840, by omega⟩ (by show j.val = 3840 + (j.val - 3840); omega))
  refine (a4_miss (W := 768) (D := 6144) 3840 _ _ _ i j (by omega)).trans ?_
  by_cases h4 : 3072 ≤ j.val
  · exact (a4_hit (W := 768) (D := 6144) 3072 _ _ _ i ⟨j.val - 3072, by omega⟩ j (by show j.val = 3072 + (j.val - 3072); omega)).trans
      (a4_qpart x0 x3 x4 3072 4 rfl _ i j ⟨j.val - 3072, by omega⟩ (by show j.val = 3072 + (j.val - 3072); omega))
  refine (a4_miss (W := 768) (D := 6144) 3072 _ _ _ i j (by omega)).trans ?_
  by_cases h3 : 2304 ≤ j.val
  · exact (a4_hit (W := 768) (D := 6144) 2304 _ _ _ i ⟨j.val - 2304, by omega⟩ j (by show j.val = 2304 + (j.val - 2304); omega)).trans
      (a4_qpart x0 x3 x4 2304 3 rfl _ i j ⟨j.val - 2304, by omega⟩ (by show j.val = 2304 + (j.val - 2304); omega))
  refine (a4_miss (W := 768) (D := 6144) 2304 _ _ _ i j (by omega)).trans ?_
  by_cases h2 : 1536 ≤ j.val
  · exact (a4_hit (W := 768) (D := 6144) 1536 _ _ _ i ⟨j.val - 1536, by omega⟩ j (by show j.val = 1536 + (j.val - 1536); omega)).trans
      (a4_qpart x0 x3 x4 1536 2 rfl _ i j ⟨j.val - 1536, by omega⟩ (by show j.val = 1536 + (j.val - 1536); omega))
  refine (a4_miss (W := 768) (D := 6144) 1536 _ _ _ i j (by omega)).trans ?_
  by_cases h1 : 768 ≤ j.val
  · exact (a4_hit (W := 768) (D := 6144) 768 _ _ _ i ⟨j.val - 768, by omega⟩ j (by show j.val = 768 + (j.val - 768); omega)).trans
      (a4_qpart x0 x3 x4 768 1 rfl _ i j ⟨j.val - 768, by omega⟩ (by show j.val = 768 + (j.val - 768); omega))
  refine (a4_miss (W := 768) (D := 6144) 768 _ _ _ i j (by omega)).trans ?_
  exact (a4_hit (W := 768) (D := 6144) 0 _ _ _ i ⟨j.val - 0, by omega⟩ j (by show j.val = 0 + (j.val - 0); omega)).trans
      (a4_qpart x0 x3 x4 0 0 rfl _ i j ⟨j.val - 0, by omega⟩ (by show j.val = 0 + (j.val - 0); omega))

theorem a4_opart (x0 : Vec Ideal S128x6144 .f32) (x1 x2 x3 x4 : Vec Ideal S128x768 .f32) (o g p : ℕ) (ho : o = 768 * g) (hp : p = 96 * g)
    (inb : ∀ a : Fin 2, (![0, o] : Fin 2 → ℕ) a + (![128, 768] : Fin 2 → ℕ) a ≤ (![128, 6144] : Fin 2 → ℕ) a)
    (h h' : S128x768.Slices ![0, p] S128x96) (i : Fin 128) (j : Fin 6144) (l : Fin 768) (hl : j.val = o + l.val) :
    a4_group (k4_pay4 (View.ld x3 r4_0) (View.ld x4 r4_0) (View.ld x0 (Rect.unit (s := S128x6144) ![0, o] ![128, 768] inb)))
      (extractStridedSlice S128x96 ![0, p] (k4_pay4 (View.ld x3 r4_0) (View.ld x4 r4_0) (View.ld x1 r4_0)) h)
      (extractStridedSlice S128x96 ![0, p] (k4_pay5 (View.ld x2 r4_0)) h') (ix2 i l)
      = Tern.attn i (fun e => out4_5 x0 x1 x2 x3 x4 (ix2 i ⟨j.val / 96 * 96 + e.val, by omega⟩))
        (fun t e => (k4_pay4 (View.ld x3 r4_0) (View.ld x4 r4_0) (View.ld x1 r4_0) : FVec Ideal S128x768 .bf16) (ix2 t ⟨j.val / 768 * 96 + e.val, by omega⟩))
        (fun t => x2 (ix2 t ⟨j.val / 768 * 96 + j.val % 96, by omega⟩)) := by
  have hj := j.isLt
  have hl' := l.isLt
  rw [a4_group_apply]
  refine Tern.attn_congr rfl (fun e => ?_) (fun t e => ?_) (fun t => ?_)
  · have he := e.isLt
    rw [a4_q_apply]
    exact a4_qpart x0 x3 x4 o g ho inb i ⟨j.val / 96 * 96 + e.val, by omega⟩ ⟨l.val / 96 * 96 + e.val, by omega⟩
      (by show j.val / 96 * 96 + e.val = o + (l.val / 96 * 96 + e.val); omega)
  · have he := e.isLt
    refine (a4_slice _ p h t e (by omega)).trans (congrArg (fun e => (k4_pay4 (View.ld x3 r4_0) (View.ld x4 r4_0) (View.ld x1 r4_0) : FVec Ideal S128x768 .bf16) (ix2 t e)) (Fin.ext ?_))
    show p + e.val = j.val / 768 * 96 + e.val
    omega
  · refine (a4_slice _ p h' t ⟨l.val % 96, Nat.mod_lt _ (by omega)⟩ (by show p + l.val % 96 < 768; omega)).trans ?_
    have e5 : ∀ l : Fin 768, (k4_pay5 (View.ld x2 r4_0) : FVec Ideal S128x768 .bf16) (ix2 t l) = x2 (ix2 t l) := fun l => by
      refine Eq.trans ?_ (a4_ld0 x2 t l)
      pointwise [k4_pay5]
    refine (e5 _).trans (congrArg (fun e => x2 (ix2 t e)) (Fin.ext ?_))
    show p + l.val % 96 = j.val / 768 * 96 + j.val % 96
    omega

theorem a4_o_apply (x0 : Vec Ideal S128x6144 .f32) (x1 x2 x3 x4 : Vec Ideal S128x768 .f32) (i : Fin 128) (j : Fin 6144) :
    out4_7 x0 x1 x2 x3 x4 (ix2 i j)
      = Tern.attn i (fun e => out4_5 x0 x1 x2 x3 x4 (ix2 i ⟨j.val / 96 * 96 + e.val, by omega⟩))
        (fun t e => out4_6 x0 x1 x2 x3 x4 (ix2 t ⟨j.val / 768 * 96 + e.val, by omega⟩))
        (fun t => x2 (ix2 t ⟨j.val / 768 * 96 + j.val % 96, by omega⟩)) := by
  have hj := j.isLt
  have hk : ∀ t l, out4_6 x0 x1 x2 x3 x4 (ix2 t l) = (k4_pay4 (View.ld x3 r4_0) (View.ld x4 r4_0) (View.ld x1 r4_0) : FVec Ideal S128x768 .bf16) (ix2 t l) := fun t l =>
    a4_hit (W := 768) (D := 768) 0 _ _ [] t l l (by omega)
  simp only [hk]
  rw [a4_o]
  by_cases h7 : 5376 ≤ j.val
  · exact (a4_hit (W := 768) (D := 6144) 5376 _ _ _ i ⟨j.val - 5376, by omega⟩ j (by show j.val = 5376 + (j.val - 5376); omega)).trans
      (a4_opart x0 x1 x2 x3 x4 5376 7 672 rfl rfl _ _ _ i j ⟨j.val - 5376, by omega⟩ (by show j.val = 5376 + (j.val - 5376); omega))
  refine (a4_miss (W := 768) (D := 6144) 5376 _ _ _ i j (by omega)).trans ?_
  by_cases h6 : 4608 ≤ j.val
  · exact (a4_hit (W := 768) (D := 6144) 4608 _ _ _ i ⟨j.val - 4608, by omega⟩ j (by show j.val = 4608 + (j.val - 4608); omega)).trans
      (a4_opart x0 x1 x2 x3 x4 4608 6 576 rfl rfl _ _ _ i j ⟨j.val - 4608, by omega⟩ (by show j.val = 4608 + (j.val - 4608); omega))
  refine (a4_miss (W := 768) (D := 6144) 4608 _ _ _ i j (by omega)).trans ?_
  by_cases h5 : 3840 ≤ j.val
  · exact (a4_hit (W := 768) (D := 6144) 3840 _ _ _ i ⟨j.val - 3840, by omega⟩ j (by show j.val = 3840 + (j.val - 3840); omega)).trans
      (a4_opart x0 x1 x2 x3 x4 3840 5 480 rfl rfl _ _ _ i j ⟨j.val - 3840, by omega⟩ (by show j.val = 3840 + (j.val - 3840); omega))
  refine (a4_miss (W := 768) (D := 6144) 3840 _ _ _ i j (by omega)).trans ?_
  by_cases h4 : 3072 ≤ j.val
  · exact (a4_hit (W := 768) (D := 6144) 3072 _ _ _ i ⟨j.val - 3072, by omega⟩ j (by show j.val = 3072 + (j.val - 3072); omega)).trans
      (a4_opart x0 x1 x2 x3 x4 3072 4 384 rfl rfl _ _ _ i j ⟨j.val - 3072, by omega⟩ (by show j.val = 3072 + (j.val - 3072); omega))
  refine (a4_miss (W := 768) (D := 6144) 3072 _ _ _ i j (by omega)).trans ?_
  by_cases h3 : 2304 ≤ j.val
  · exact (a4_hit (W := 768) (D := 6144) 2304 _ _ _ i ⟨j.val - 2304, by omega⟩ j (by show j.val = 2304 + (j.val - 2304); omega)).trans
      (a4_opart x0 x1 x2 x3 x4 2304 3 288 rfl rfl _ _ _ i j ⟨j.val - 2304, by omega⟩ (by show j.val = 2304 + (j.val - 2304); omega))
  refine (a4_miss (W := 768) (D := 6144) 2304 _ _ _ i j (by omega)).trans ?_
  by_cases h2 : 1536 ≤ j.val
  · exact (a4_hit (W := 768) (D := 6144) 1536 _ _ _ i ⟨j.val - 1536, by omega⟩ j (by show j.val = 1536 + (j.val - 1536); omega)).trans
      (a4_opart x0 x1 x2 x3 x4 1536 2 192 rfl rfl _ _ _ i j ⟨j.val - 1536, by omega⟩ (by show j.val = 1536 + (j.val - 1536); omega))
  refine (a4_miss (W := 768) (D := 6144) 1536 _ _ _ i j (by omega)).trans ?_
  by_cases h1 : 768 ≤ j.val
  · exact (a4_hit (W := 768) (D := 6144) 768 _ _ _ i ⟨j.val - 768, by omega⟩ j (by show j.val = 768 + (j.val - 768); omega)).trans
      (a4_opart x0 x1 x2 x3 x4 768 1 96 rfl rfl _ _ _ i j ⟨j.val - 768, by omega⟩ (by show j.val = 768 + (j.val - 768); omega))
  refine (a4_miss (W := 768) (D := 6144) 768 _ _ _ i j (by omega)).trans ?_
  exact (a4_hit (W := 768) (D := 6144) 0 _ _ _ i ⟨j.val - 0, by omega⟩ j (by show j.val = 0 + (j.val - 0); omega)).trans
      (a4_opart x0 x1 x2 x3 x4 0 0 0 rfl rfl _ _ _ i j ⟨j.val - 0, by omega⟩ (by show j.val = 0 + (j.val - 0); omega))

theorem a4_k_apply (x0 : Vec Ideal S128x6144 .f32) (x1 x2 x3 x4 : Vec Ideal S128x768 .f32) (i : Fin 128) (j : Fin 768) :
    out4_6 x0 x1 x2 x3 x4 (ix2 i j)
      = Tern.rope (D := 768) (H := 8) rfl (fun e => x1 (ix2 i e)) (x3 (ix2 i j)) (x4 (ix2 i j)) j :=
  (a4_hit (W := 768) (D := 768) 0 _ _ [] i j j (by omega)).trans (a4_k x1 x3 x4 i j)

variable (V : (c : Dev nD) → (b : Ref sig .tc) → Buf (Elt Ideal) ((c : Thread nD τ).loc b)) (c : Dev nD)

theorem a4_idx : ∀ t : Fin cfg4.N, (cfg4.win 0).index t = ![t.val, 0] ∧ (cfg4.win 1).index t = ![t.val, 0] ∧ (cfg4.win 2).index t = ![t.val, 0]
   ∧ (cfg4.win 3).index t = ![t.val, 0] ∧ (cfg4.win 4).index t = ![t.val, 0] ∧ (cfg4.win 5).index t = ![t.val, 0] ∧ (cfg4.win 6).index t = ![t.val, 0]
   ∧ (cfg4.win 7).index t = ![t.val, 0] := by
  decide +kernel

theorem a4_row0 (t : Fin cfg4.N) (r : Fin 128) (k : Fin 6144) (h : 128 * t.val + r.val < 256) : iblk4 V c 0 t (ix2 r k) = V c main_v4 (ix2 ⟨128 * t.val + r.val, h⟩ k) := by
  blk_ext [iblk4, a4_idx t]
theorem a4_row1 (t : Fin cfg4.N) (r : Fin 128) (k : Fin 768) (h : 128 * t.val + r.val < 256) : iblk4 V c 1 t (ix2 r k) = V c main_v6 (ix2 ⟨128 * t.val + r.val, h⟩ k) := by
  blk_ext [iblk4, a4_idx t]
theorem a4_row2 (t : Fin cfg4.N) (r : Fin 128) (k : Fin 768) (h : 128 * t.val + r.val < 256) : iblk4 V c 2 t (ix2 r k) = V c main_v8 (ix2 ⟨128 * t.val + r.val, h⟩ k) := by
  blk_ext [iblk4, a4_idx t]
theorem a4_row3 (t : Fin cfg4.N) (r : Fin 128) (k : Fin 768) (h : 128 * t.val + r.val < 256) : iblk4 V c 3 t (ix2 r k) = V c main_v36 (ix2 ⟨128 * t.val + r.val, h⟩ k) := by
  blk_ext [iblk4, a4_idx t]
theorem a4_row4 (t : Fin cfg4.N) (r : Fin 128) (k : Fin 768) (h : 128 * t.val + r.val < 256) : iblk4 V c 4 t (ix2 r k) = V c main_v37 (ix2 ⟨128 * t.val + r.val, h⟩ k) := by
  blk_ext [iblk4, a4_idx t]

/-- The turned queries. -/
def a4_Q (r : Fin 256) (j : Fin 6144) : EReal :=
  Tern.rope (D := 6144) (H := 64) rfl (fun e => V c main_v4 (ix2 r e)) (V c main_v36 (ix2 r ⟨j.val % 768, Nat.mod_lt _ (by omega)⟩))
    (V c main_v37 (ix2 r ⟨j.val % 768, Nat.mod_lt _ (by omega)⟩)) j

/-- The turned keys. -/
def a4_K (r : Fin 256) (j : Fin 768) : EReal :=
  Tern.rope (D := 768) (H := 8) rfl (fun e => V c main_v6 (ix2 r e)) (V c main_v36 (ix2 r j)) (V c main_v37 (ix2 r j)) j

theorem a4_Qblk (t : Fin cfg4.N) (i : Fin 128) (j : Fin 6144) (h : 128 * t.val + i.val < 256) :
    out4_5 (iblk4 V c 0 t) (iblk4 V c 1 t) (iblk4 V c 2 t) (iblk4 V c 3 t) (iblk4 V c 4 t) (ix2 i j) = a4_Q V c ⟨128 * t.val + i.val, h⟩ j :=
  (a4_q_apply _ _ _ _ _ i j).trans (Tern.rope_congr _ _ rfl (fun d _ _ _ => a4_row0 V c t i _ h) (a4_row3 V c t i _ h) (a4_row4 V c t i _ h))

theorem a4_Kblk (t : Fin cfg4.N) (i : Fin 128) (j : Fin 768) (h : 128 * t.val + i.val < 256) :
    out4_6 (iblk4 V c 0 t) (iblk4 V c 1 t) (iblk4 V c 2 t) (iblk4 V c 3 t) (iblk4 V c 4 t) (ix2 i j) = a4_K V c ⟨128 * t.val + i.val, h⟩ j :=
  (a4_k_apply _ _ _ _ _ i j).trans (Tern.rope_congr _ _ rfl (fun d _ _ _ => a4_row1 V c t i _ h) (a4_row3 V c t i _ h) (a4_row4 V c t i _ h))

theorem a4_q_out : (dat4 V c).arrAt 5 cfg4.N = fun i => a4_Q V c (i 0) (i 1) := by
  refine (dat4 V c).arrAt_eq_of_covers 5 _ (by decide +kernel) fun t hf y => ?_
  blk_simp
  rw [after4_5]
  have ht : t.val < 2 := t.isLt
  have hy : (y 0).val < 128 := (y 0).isLt
  have e0 : ((View.whole main_v38_0).slice (win4_5.rect t)).emb y 0 = (⟨128 * t.val + (y 0).val, by omega⟩ : Fin 256) :=
    Fin.ext (by blk_simp [a4_idx t]; try (show _ = 128 * t.val + (y 0).val; omega))
  have e1 : ((View.whole main_v38_0).slice (win4_5.rect t)).emb y 1 = (y 1 : Fin 6144) :=
    Fin.ext (by blk_simp [a4_idx t]; try (show _ = (y 1).val; omega))
  simp only [e0, e1]
  refine Eq.trans (congrArg (out4_5 (iblk4 V c 0 t) (iblk4 V c 1 t) (iblk4 V c 2 t) (iblk4 V c 3 t) (iblk4 V c 4 t)) (ix2_eta y).symm) ?_
  exact a4_Qblk V c t (y 0) (y 1) (by omega)

theorem a4_k_out : (dat4 V c).arrAt 6 cfg4.N = fun i => a4_K V c (i 0) (i 1) := by
  refine (dat4 V c).arrAt_eq_of_covers 6 _ (by decide +kernel) fun t hf y => ?_
  blk_simp
  rw [after4_6]
  have ht : t.val < 2 := t.isLt
  have hy : (y 0).val < 128 := (y 0).isLt
  have e0 : ((View.whole main_v38_1).slice (win4_6.rect t)).emb y 0 = (⟨128 * t.val + (y 0).val, by omega⟩ : Fin 256) :=
    Fin.ext (by blk_simp [a4_idx t]; try (show _ = 128 * t.val + (y 0).val; omega))
  have e1 : ((View.whole main_v38_1).slice (win4_6.rect t)).emb y 1 = (y 1 : Fin 768) :=
    Fin.ext (by blk_simp [a4_idx t]; try (show _ = (y 1).val; omega))
  simp only [e0, e1]
  refine Eq.trans (congrArg (out4_6 (iblk4 V c 0 t) (iblk4 V c 1 t) (iblk4 V c 2 t) (iblk4 V c 3 t) (iblk4 V c 4 t)) (ix2_eta y).symm) ?_
  exact a4_Kblk V c t (y 0) (y 1) (by omega)

/-- Attention over the turned queries and keys. -/
def a4_O (r : Fin 256) (j : Fin 6144) : EReal :=
  Tern.attn ⟨r.val % 128, Nat.mod_lt _ (by omega)⟩ (fun e => a4_Q V c r ⟨j.val / 96 * 96 + e.val, by omega⟩)
    (fun t e => a4_K V c ⟨r.val / 128 * 128 + t.val, by omega⟩ ⟨j.val / 768 * 96 + e.val, by omega⟩)
    (fun t => V c main_v8 (ix2 ⟨r.val / 128 * 128 + t.val, by omega⟩ ⟨j.val / 768 * 96 + j.val % 96, by omega⟩))

theorem a4_o_out : (dat4 V c).arrAt 7 cfg4.N = fun i => a4_O V c (i 0) (i 1) := by
  refine (dat4 V c).arrAt_eq_of_covers 7 _ (by decide +kernel) fun t hf y => ?_
  blk_simp
  rw [after4_7]
  have ht : t.val < 2 := t.isLt
  have hy : (y 0).val < 128 := (y 0).isLt
  have e0 : ((View.whole main_v38_2).slice (win4_7.rect t)).emb y 0 = (⟨128 * t.val + (y 0).val, by omega⟩ : Fin 256) :=
    Fin.ext (by blk_simp [a4_idx t]; try (show _ = 128 * t.val + (y 0).val; omega))
  have e1 : ((View.whole main_v38_2).slice (win4_7.rect t)).emb y 1 = (y 1 : Fin 6144) :=
    Fin.ext (by blk_simp [a4_idx t]; try (show _ = (y 1).val; omega))
  simp only [e0, e1]
  refine Eq.trans (congrArg (out4_7 (iblk4 V c 0 t) (iblk4 V c 1 t) (iblk4 V c 2 t) (iblk4 V c 3 t) (iblk4 V c 4 t)) (ix2_eta y).symm) ?_
  refine (a4_o_apply _ _ _ _ _ (y 0) (y 1)).trans ?_
  have row : ∀ s : Fin 128, (⟨128 * t.val + s.val, by omega⟩ : Fin 256) = ⟨(128 * t.val + (y 0).val) / 128 * 128 + s.val, by omega⟩ := fun s =>
    Fin.ext (by show 128 * t.val + s.val = (128 * t.val + (y 0).val) / 128 * 128 + s.val; omega)
  refine Tern.attn_congr (Fin.ext (by show (y 0).val = (128 * t.val + (y 0).val) % 128; omega)) (fun e => ?_) (fun s e => ?_) (fun s => ?_)
  · exact a4_Qblk V c t (y 0) _ (by omega)
  · exact (a4_Kblk V c t s _ (by omega)).trans (congrArg (fun r => a4_K V c r _) (row s))
  · exact (a4_row2 V c t s _ (by omega)).trans (congrArg (fun r => V c main_v8 (ix2 r _)) (row s))

end Cert.KernelIdeal.Gen
end
-- ==== Proof.KC2.lean ====
module

public import proofs.«01_k».proof.Proof.KC1
public import proofs.«01_k».proof.Proof.A4

/-! The kernel program through attention, against the stages of the reference. -/

@[expose] public section
set_option maxRecDepth 65536
noncomputable section
namespace Cert.KernelIdeal.Gen
open Idealize.ShloMosaic Idealize.ShloMosaic.TcCoe Idealize.SL.Sem Cert.ReferenceIdeal.RefValue

variable (m : (ℓ : Loc nD τ sig) → Buf (Elt Ideal) ℓ) (ρ : Dev nD → PrngReg) (c : Dev nD)

theorem k4_cos (i : Fin 256) (l : Fin 768) (e : Fin 96) (h : l.val % 48 = e.val % 48) :
    W9 m ρ c (Proc.devRef .tc main_v36) (ix2 i l) = (kArgs m c).cosT (ix4 (hi i) (lo i) 0 e) := by
  refine (h4_v36 (W8 m ρ c) i l).trans (Eq.trans ?_ (gCos_apply (gAng (F := Ideal) (kArgs m c).x1) (hi i) (lo i) e).symm)
  rw [gAng_apply, h]
  exact congrArg (fun p => Ideal.cos (Tern.angle p (lo i).val (e.val % 48))) (congrFun (W8_args m ρ c main_arg1 (by decide)) (ix1 (hi i)))

theorem k4_sin (i : Fin 256) (l : Fin 768) (e : Fin 96) (h : l.val % 48 = e.val % 48) :
    W9 m ρ c (Proc.devRef .tc main_v37) (ix2 i l) = (kArgs m c).sinT (ix4 (hi i) (lo i) 0 e) := by
  refine (h4_v37 (W8 m ρ c) i l).trans (Eq.trans ?_ (gSin_apply (gAng (F := Ideal) (kArgs m c).x1) (hi i) (lo i) e).symm)
  rw [gAng_apply, h]
  exact congrArg (fun p => Ideal.sin (Tern.angle p (lo i).val (e.val % 48))) (congrFun (W8_args m ρ c main_arg1 (by decide)) (ix1 (hi i)))

theorem k4_Q (i : Fin 256) (h : Fin 64) (e : Fin 96) :
    a4_Q (V9 m ρ) c i ⟨h.val * 96 + e.val, by omega⟩ = (kArgs m c).qr (ix4 (hi i) (lo i) h e) :=
  (Tern.rope_congr rfl rfl rfl
    (fun d hd _ _ => (congrFun (((((W9_of m ρ c main_v4 (by decide +kernel)).trans (W8_of m ρ c main_v4 (by decide +kernel))).trans (W7_of m ρ c main_v4 (by decide +kernel))).trans (W6_of m ρ c main_v4 (by decide +kernel))).trans (W5_of m ρ c main_v4 (by decide +kernel))) (ix2 i ⟨_, hd⟩)).trans (k1_out m ρ c i ⟨_, hd⟩))
    (k4_cos m ρ c i _ e (by simp only; omega)) (k4_sin m ρ c i _ e (by simp only; omega))).trans
    (gRopeQ_apply (kArgs m c).q (kArgs m c).cosT (kArgs m c).sinT (hi i) (lo i) h e).symm

theorem k4_K (i : Fin 256) (h : Fin 8) (e : Fin 96) :
    a4_K (V9 m ρ) c i ⟨h.val * 96 + e.val, by omega⟩ = (kArgs m c).kr (ix4 (hi i) (lo i) h e) :=
  (Tern.rope_congr rfl rfl rfl
    (fun d hd _ _ => (congrFun (((W9_of m ρ c main_v6 (by decide +kernel)).trans (W8_of m ρ c main_v6 (by decide +kernel))).trans (W7_of m ρ c main_v6 (by decide +kernel))) (ix2 i ⟨_, hd⟩)).trans (k2_out m ρ c i ⟨_, hd⟩))
    (k4_cos m ρ c i _ e (by simp only; omega)) (k4_sin m ρ c i _ e (by simp only; omega))).trans
    (gRopeK_apply (kArgs m c).k (kArgs m c).cosT (kArgs m c).sinT (hi i) (lo i) h e).symm

theorem k4_q (i : Fin 256) (h : Fin 64) (e : Fin 96) :
    W10 m ρ c (Proc.devRef .tc main_v38_0) (ix2 i ⟨h.val * 96 + e.val, by omega⟩) = (kArgs m c).qr (ix4 (hi i) (lo i) h e) :=
  (congrFun ((W10_arr m ρ c 5).trans (a4_q_out (V9 m ρ) c)) (ix2 i ⟨h.val * 96 + e.val, by omega⟩)).trans (k4_Q m ρ c i h e)

theorem k4_k (i : Fin 256) (h : Fin 8) (e : Fin 96) :
    W10 m ρ c (Proc.devRef .tc main_v38_1) (ix2 i ⟨h.val * 96 + e.val, by omega⟩) = (kArgs m c).kr (ix4 (hi i) (lo i) h e) :=
  (congrFun ((W10_arr m ρ c 6).trans (a4_k_out (V9 m ρ) c)) (ix2 i ⟨h.val * 96 + e.val, by omega⟩)).trans (k4_K m ρ c i h e)

theorem k4_row (i : Fin 256) (t : Fin 128) : (⟨i.val / 128 * 128 + t.val, by omega⟩ : Fin 256) = row (hi i) t := rfl

theorem k4_o (i : Fin 256) (j : Fin 6144) :
    W10 m ρ c (Proc.devRef .tc main_v38_2) (ix2 i j) = (kArgs m c).ao (ix3 (hi i) (lo i) j) := by
  refine (congrFun ((W10_arr m ρ c 7).trans (a4_o_out (V9 m ρ) c)) (ix2 i j)).trans (Eq.trans ?_ (gAttn_apply (kArgs m c).qr (kArgs m c).kr (kArgs m c).v (hi i) (lo i) j).symm)
  refine Tern.attn_congr rfl (fun e => k4_Q m ρ c i ⟨j.val / 96, by omega⟩ e) (fun t e => ?_) (fun t => ?_)
  · refine (k4_K m ρ c (row (hi i) t) ⟨j.val / 768, by omega⟩ e).trans ?_
    rw [hi_row, lo_row]
  · refine ((congrFun (W9_of m ρ c main_v8 (by decide +kernel)) (ix2 (row (hi i) t) ⟨j.val / 768 * 96 + j.val % 96, by omega⟩)).trans
      (k3_out m ρ c (row (hi i) t) ⟨j.val / 768 * 96 + j.val % 96, by omega⟩)).trans ?_
    rw [hi_row, lo_row]

end Cert.KernelIdeal.Gen
end
-- ==== Proof.Q5.lean ====
/- The normalisation and quantisation of region 5: what each of its result arrays holds, row by row. -/
module

public import proofs.«01_k».proof.Proof.Gen.KernelIdeal.Frame.Region5
public import proofs.«01_k».proof.Proof.Gather

@[expose] public section
set_option maxRecDepth 65536
noncomputable section
namespace Cert.KernelIdeal.Gen
open Idealize.ShloMosaic Idealize.SL.Sem Idealize.ShloMosaic.TcCoe

variable (V : (c : Dev nD) → (b : Ref sig .tc) → Buf (Elt Ideal) ((c : Thread nD τ).loc b)) (c : Dev nD)

/-- The divisor of the mean. -/
abbrev q5_n : EReal := Ideal.ofBits .f32 0x45C00000#32

theorem q5_pay4 (x : Vec Ideal S32x6144 .f32) (r : Fin 32) :
    k5_pay4 x (ix2 r 0) = Tern.rstd q5_n (fun k => x (ix2 r k)) := by
  pointwise [k5_pay4, k5_pay3]
  rfl
theorem q5_pay5 (x : Vec Ideal S32x6144 .f32) (g : Vec Ideal S1x6144 .f32) (r : Fin 32) (j : Fin 6144) :
    k5_pay5 x g (ix2 r j) = Tern.nrm q5_n (fun k => x (ix2 r k)) (fun k => g (ix2 0 k)) j := by
  pointwise [k5_pay5, k5_pay3]
  rw [q5_pay4]; rfl
theorem q5_pay6 (x : Vec Ideal S32x6144 .f32) (g : Vec Ideal S1x6144 .f32) (r : Fin 32) :
    k5_pay6 x g (ix2 r 0) = Tern.scl q5_n (fun k => x (ix2 r k)) (fun k => g (ix2 0 k)) := by
  pointwise [k5_pay6]
  simp only [q5_pay5]
  rfl
theorem q5_pay7 (x : Vec Ideal S32x6144 .f32) (g : Vec Ideal S1x6144 .f32) (r : Fin 32) (j : Fin 6144) :
    k5_pay7 x g (ix2 r j) = Tern.qv q5_n (fun k => x (ix2 r k)) (fun k => g (ix2 0 k)) j := by
  pointwise [k5_pay7]
  rw [q5_pay5, q5_pay6]; rfl
theorem q5_pay8 (x : Vec Ideal S32x6144 .f32) (g : Vec Ideal S1x6144 .f32) (r : Fin 32) (j : Fin 6144) :
    k5_pay8 x g (ix2 r j) = Tern.code q5_n (fun k => x (ix2 r k)) (fun k => g (ix2 0 k)) j := by
  pointwise [k5_pay8]
  rw [q5_pay7]; rfl
theorem q5_pay9 (y : Vec Ideal S32x6144 .f32) (r : Fin 32) :
    (k5_pay9 y : FVec Ideal S32x1 .f32) (ix2 r 0) = ∑ k, y (ix2 r k) := by
  pointwise [k5_pay9]

theorem q5_idx : ∀ t : Fin cfg5.N, (cfg5.win 0).index t = ![t.val, 0] ∧ (cfg5.win 1).index t = ![0, 0]
    ∧ (cfg5.win 2).index t = ![t.val, 0] ∧ (cfg5.win 3).index t = ![t.val, 0] ∧ (cfg5.win 4).index t = ![t.val, 0]
    ∧ (cfg5.win 5).index t = ![t.val, 0] ∧ (cfg5.win 6).index t = ![t.val, 0] := by
  decide +kernel

theorem q5_row0 (t : Fin cfg5.N) (r : Fin 32) (k : Fin 6144) (h : 32 * t.val + r.val < 256) :
    iblk5 V c 0 t (ix2 r k) = V c main_v38_2 (ix2 ⟨32 * t.val + r.val, h⟩ k) := by
  blk_ext [iblk5, q5_idx t]
theorem q5_row1 (t : Fin cfg5.N) (k : Fin 6144) :
    iblk5 V c 1 t (ix2 0 k) = V c main_v39 (ix2 0 k) := by
  blk_ext [iblk5, q5_idx t]

theorem q5_lanes : ∀ (r : Fin 8) (l : Fin 128), (k5_pay11 : IVec S8x128 32) (ix2 r l) = BitVec.ofNat 32 (4 * (l.val % 32) + l.val / 32) := by
  intro r l
  pointwise [k5_pay11]
  exact (by decide +kernel : ∀ l : Fin 128, IntOp.addi (IntOp.muli 4#32 (IntOp.andi (BitVec.ofNat 32 l.val) 31#32))
    (IntOp.shrsi .vector (BitVec.ofNat 32 l.val) 5#32) = BitVec.ofNat 32 (4 * (l.val % 32) + l.val / 32)) l

theorem q5_slices : ∀ n : Fin 48, S8x6144.Slices ![0, 128 * n.val] S8x128 := by decide +kernel

theorem q5_pay2 (z : IVec S32x6144 8) (L : List ((s : Shape) × (s.Idx → BitVec 32))) (hc)
    (hL : L = List.ofFn fun n : Fin 48 => (⟨S8x128, Tern.gchunk (k5_pay10 z) k5_pay11 (128 * n.val) (q5_slices n)
      shapeCasts_S8x128_S8x128x1 shapeCasts_S8x128x1_S8x128⟩ : (s : Shape) × (s.Idx → BitVec 32))) (p : Fin 32) (j : Fin 6144) :
    (k5_pay2 (concatenate S8x6144 1 L hc) : FVec Ideal S32x6144 .bf16) (ix2 p j)
      = (((z (ix2 p ⟨Tern.src j.val, Tern.src_lt (C := 48) rfl j.isLt⟩)).toInt : ℝ) : EReal) := by
  subst hL
  refine congrArg (fun b : BitVec 8 => ((b.toInt : ℝ) : EReal)) ?_
  have hp := p.isLt
  refine Tern.bytes_of_words z _ bitcasts_S32x6144_w8_S8x6144_w32 bitcasts_S8x6144_w32_S32x6144_w8 p j _ (by omega) ?_
  exact Tern.gather_apply (C := 48) rfl _ _ q5_slices _ _ q5_lanes hc _ j

/-- The pieces of the reordered words. -/
def k5_list (x0 : Vec Ideal S32x6144 .f32) (x1 : Vec Ideal S1x6144 .f32) : List ((s : Shape) × (s.Idx → BitVec 32)) :=
  ⟨S8x128, (k5_pay12 (k5_pay75 x0 x1))⟩ :: ⟨S8x128, (k5_pay13 (k5_pay75 x0 x1))⟩ :: ⟨S8x128, (k5_pay14 (k5_pay75 x0 x1))⟩ :: ⟨S8x128, (k5_pay17 (k5_pay15 (k5_pay75 x0 x1)) k5_pay16)⟩ :: ⟨S8x128, (k5_pay18 (k5_pay76 x0 x1) (k5_pay77 x0 x1))⟩ :: ⟨S8x128, (k5_pay19 (k5_pay76 x0 x1) (k5_pay77 x0 x1))⟩ :: ⟨S8x128, (k5_pay20 (k5_pay76 x0 x1) (k5_pay77 x0 x1))⟩ :: ⟨S8x128, (k5_pay21 (k5_pay76 x0 x1) (k5_pay77 x0 x1))⟩ :: ⟨S8x128, (k5_pay22 (k5_pay76 x0 x1) (k5_pay77 x0 x1))⟩ :: ⟨S8x128, (k5_pay25 (k5_pay77 x0 x1) (k5_pay23 (k5_pay76 x0 x1)) k5_pay24)⟩ :: ⟨S8x128, (k5_pay26 (k5_pay76 x0 x1) (k5_pay77 x0 x1))⟩ :: ⟨S8x128, (k5_pay27 (k5_pay76 x0 x1) (k5_pay77 x0 x1))⟩ :: ⟨S8x128, (k5_pay28 (k5_pay76 x0 x1) (k5_pay77 x0 x1))⟩ :: ⟨S8x128, (k5_pay29 (k5_pay76 x0 x1) (k5_pay77 x0 x1))⟩ :: ⟨S8x128, (k5_pay32 (k5_pay30 (k5_pay76 x0 x1)) (k5_pay31 (k5_pay77 x0 x1)))⟩ :: ⟨S8x128, (k5_pay33 (k5_pay76 x0 x1) (k5_pay77 x0 x1))⟩ :: ⟨S8x128, (k5_pay34 (k5_pay76 x0 x1) (k5_pay77 x0 x1))⟩ :: ⟨S8x128, (k5_pay35 (k5_pay76 x0 x1) (k5_pay77 x0 x1))⟩ :: ⟨S8x128, (k5_pay36 (k5_pay76 x0 x1) (k5_pay77 x0 x1))⟩ :: ⟨S8x128, (k5_pay37 (k5_pay76 x0 x1) (k5_pay77 x0 x1))⟩ :: ⟨S8x128, (k5_pay39 (k5_pay77 x0 x1) (k5_pay38 (k5_pay76 x0 x1)) 0#32)⟩ :: ⟨S8x128, (k5_pay40 (k5_pay76 x0 x1) (k5_pay77 x0 x1))⟩ :: ⟨S8x128, (k5_pay41 (k5_pay76 x0 x1) (k5_pay77 x0 x1))⟩ :: ⟨S8x128, (k5_pay42 (k5_pay76 x0 x1) (k5_pay77 x0 x1))⟩ :: ⟨S8x128, (k5_pay43 (k5_pay76 x0 x1) (k5_pay77 x0 x1))⟩ :: ⟨S8x128, (k5_pay47 (k5_pay77 x0 x1) (k5_pay44 (k5_pay76 x0 x1)) (k5_pay45 (k5_pay77 x0 x1)) (k5_pay46 (k5_pay77 x0 x1)))⟩ :: ⟨S8x128, (k5_pay48 (k5_pay76 x0 x1) (k5_pay77 x0 x1))⟩ :: ⟨S8x128, (k5_pay49 (k5_pay76 x0 x1) (k5_pay77 x0 x1))⟩ :: ⟨S8x128, (k5_pay50 (k5_pay76 x0 x1) (k5_pay77 x0 x1))⟩ :: ⟨S8x128, (k5_pay51 (k5_pay76 x0 x1) (k5_pay77 x0 x1))⟩ :: ⟨S8x128, (k5_pay52 (k5_pay76 x0 x1) (k5_pay77 x0 x1))⟩ :: ⟨S8x128, (k5_pay54 (k5_pay77 x0 x1) (k5_pay53 (k5_pay76 x0 x1)))⟩ :: ⟨S8x128, (k5_pay55 (k5_pay76 x0 x1) (k5_pay77 x0 x1))⟩ :: ⟨S8x128, (k5_pay56 (k5_pay76 x0 x1) (k5_pay77 x0 x1))⟩ :: ⟨S8x128, (k5_pay57 (k5_pay76 x0 x1) (k5_pay77 x0 x1))⟩ :: ⟨S8x128, (k5_pay58 (k5_pay76 x0 x1) (k5_pay77 x0 x1))⟩ :: ⟨S8x128, (k5_pay62 (k5_pay77 x0 x1) (k5_pay59 (k5_pay76 x0 x1)) (k5_pay60 (k5_pay77 x0 x1)) k5_pay61)⟩ :: ⟨S8x128, (k5_pay63 (k5_pay76 x0 x1) (k5_pay77 x0 x1))⟩ :: ⟨S8x128, (k5_pay64 (k5_pay76 x0 x1) (k5_pay77 x0 x1))⟩ :: ⟨S8x128, (k5_pay65 (k5_pay76 x0 x1) (k5_pay77 x0 x1))⟩ :: ⟨S8x128, (k5_pay66 (k5_pay76 x0 x1) (k5_pay77 x0 x1))⟩ :: ⟨S8x128, (k5_pay67 (k5_pay76 x0 x1) (k5_pay77 x0 x1))⟩ :: ⟨S8x128, (k5_pay68 (k5_pay76 x0 x1) (k5_pay77 x0 x1))⟩ :: ⟨S8x128, (k5_pay69 (k5_pay76 x0 x1) (k5_pay77 x0 x1))⟩ :: ⟨S8x128, (k5_pay70 (k5_pay76 x0 x1) (k5_pay77 x0 x1))⟩ :: ⟨S8x128, (k5_pay71 (k5_pay76 x0 x1) (k5_pay77 x0 x1))⟩ :: ⟨S8x128, (k5_pay72 (k5_pay76 x0 x1) (k5_pay77 x0 x1))⟩ :: ⟨S8x128, (k5_pay1 (k5_pay77 x0 x1) (k5_pay73 (k5_pay76 x0 x1)) (k5_pay74 (k5_pay77 x0 x1)) 128#32)⟩ :: []

theorem q5_out5 (x0 : Vec Ideal S32x6144 .f32) (x1 : Vec Ideal S1x6144 .f32) (p : Fin 32) (j : Fin 6144) :
    out5_5 x0 x1 (ix2 p j) = (((Tern.code q5_n (fun k => x0 (ix2 p k)) (fun k => x1 (ix2 0 k))
      ⟨Tern.src j.val, Tern.src_lt (C := 48) rfl j.isLt⟩).toInt : ℝ) : EReal) := by
  unfold out5_5
  frame_out
  have hL := q5_pay2 (k5_pay75 x0 x1) (k5_list x0 x1) concatenates_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x6144_d1 rfl p j
  refine hL.trans ?_
  have e : k5_pay75 x0 x1 = k5_pay8 x0 x1 := by
    unfold k5_pay75
    frame_out
  rw [e, q5_pay8]

/-- The codes. -/
theorem q5_codes : (dat5 V c).arrAt 2 cfg5.N = fun i => Tern.code q5_n (fun k => V c main_v38_2 (ix2 (i 0) k)) (fun k => V c main_v39 (ix2 0 k)) (i 1) := by
  refine (dat5 V c).arrAt_eq_of_covers 2 _ (by decide +kernel) fun t hf y => ?_
  blk_simp
  rw [after5_2]
  frame_out
  have ht : t.val < 8 := t.isLt
  have hy : (y 0).val < 32 := (y 0).isLt
  have e0 : ((View.whole main_v40_0).slice (win5_2.rect t)).emb y 0 = (⟨32 * t.val + (y 0).val, by omega⟩ : Fin 256) :=
    Fin.ext (by blk_simp [q5_idx t]; try (show _ = 32 * t.val + (y 0).val; omega))
  have e1 : ((View.whole main_v40_0).slice (win5_2.rect t)).emb y 1 = (y 1 : Fin 6144) :=
    Fin.ext (by blk_simp [q5_idx t]; try (show _ = (y 1).val; omega))
  simp only [e0, e1]
  refine Eq.trans (congrArg _ (ix2_eta y).symm) ?_
  refine (q5_pay8 _ _ (y 0) (y 1)).trans ?_
  simp only [q5_row1, q5_row0 V c t (y 0) _ (by omega)]

/-- The scale of a row. -/
theorem q5_scale : (dat5 V c).arrAt 3 cfg5.N = fun i => Tern.scl q5_n (fun k => V c main_v38_2 (ix2 (i 0) k)) (fun k => V c main_v39 (ix2 0 k)) := by
  refine (dat5 V c).arrAt_eq_of_covers 3 _ (by decide +kernel) fun t hf y => ?_
  blk_simp
  rw [after5_3]
  frame_out
  have ht : t.val < 8 := t.isLt
  have hy : (y 0).val < 32 := (y 0).isLt
  have e0 : ((View.whole main_v40_1).slice (win5_3.rect t)).emb y 0 = (⟨32 * t.val + (y 0).val, by omega⟩ : Fin 256) :=
    Fin.ext (by blk_simp [q5_idx t]; try (show _ = 32 * t.val + (y 0).val; omega))
  simp only [e0]
  have hz : (y 1).val < 1 := (y 1).isLt
  have ey : y = ix2 (y 0) 0 := (ix2_eta y).symm.trans (congrArg (ix2 (y 0)) (Fin.ext (by show (y 1).val = 0; omega)))
  refine Eq.trans (congrArg _ ey) ?_
  refine (q5_pay6 _ _ (y 0)).trans ?_
  simp only [q5_row1, q5_row0 V c t (y 0) _ (by omega)]

/-- The reciprocal of a row's root mean square. -/
theorem q5_rstd : (dat5 V c).arrAt 4 cfg5.N = fun i => Tern.rstd q5_n (fun k => V c main_v38_2 (ix2 (i 0) k)) := by
  refine (dat5 V c).arrAt_eq_of_covers 4 _ (by decide +kernel) fun t hf y => ?_
  blk_simp
  rw [after5_4]
  frame_out
  have ht : t.val < 8 := t.isLt
  have hy : (y 0).val < 32 := (y 0).isLt
  have e0 : ((View.whole main_v40_2).slice (win5_4.rect t)).emb y 0 = (⟨32 * t.val + (y 0).val, by omega⟩ : Fin 256) :=
    Fin.ext (by blk_simp [q5_idx t]; try (show _ = 32 * t.val + (y 0).val; omega))
  simp only [e0]
  have hz : (y 1).val < 1 := (y 1).isLt
  have ey : y = ix2 (y 0) 0 := (ix2_eta y).symm.trans (congrArg (ix2 (y 0)) (Fin.ext (by show (y 1).val = 0; omega)))
  refine Eq.trans (congrArg _ ey) ?_
  refine (q5_pay4 _ (y 0)).trans ?_
  simp only [q5_row0 V c t (y 0) _ (by omega)]

/-- The codes in the order the matmul reads them. -/
theorem q5_lhs : (dat5 V c).arrAt 5 cfg5.N = fun i => (((Tern.code q5_n (fun k => V c main_v38_2 (ix2 (i 0) k)) (fun k => V c main_v39 (ix2 0 k))
      ⟨Tern.src (i 1).val, Tern.src_lt (C := 48) rfl (i 1).isLt⟩).toInt : ℝ) : EReal) := by
  refine (dat5 V c).arrAt_eq_of_covers 5 _ (by decide +kernel) fun t hf y => ?_
  blk_simp
  rw [after5_5]
  have ht : t.val < 8 := t.isLt
  have hy : (y 0).val < 32 := (y 0).isLt
  have e0 : ((View.whole main_v40_3).slice (win5_5.rect t)).emb y 0 = (⟨32 * t.val + (y 0).val, by omega⟩ : Fin 256) :=
    Fin.ext (by blk_simp [q5_idx t]; try (show _ = 32 * t.val + (y 0).val; omega))
  have e1 : ((View.whole main_v40_3).slice (win5_5.rect t)).emb y 1 = (y 1 : Fin 6144) :=
    Fin.ext (by blk_simp [q5_idx t]; try (show _ = (y 1).val; omega))
  simp only [e0, e1]
  refine Eq.trans (congrArg _ (ix2_eta y).symm) ?_
  refine (q5_out5 _ _ (y 0) (y 1)).trans ?_
  have e2 : win5_5.index t 1 = 0 := congrFun (q5_idx t).2.2.2.2.2.1 1
  simp only [e2, Nat.zero_mul, Nat.zero_add, q5_row1, q5_row0 V c t (y 0) _ (by omega)]

/-- The sum of a row's codes. -/
theorem q5_total : (dat5 V c).arrAt 6 cfg5.N = fun i => ∑ j, (((Tern.code q5_n (fun k => V c main_v38_2 (ix2 (i 0) k)) (fun k => V c main_v39 (ix2 0 k)) j).toInt : ℝ) : EReal) := by
  refine (dat5 V c).arrAt_eq_of_covers 6 _ (by decide +kernel) fun t hf y => ?_
  blk_simp
  rw [after5_6]
  frame_out
  have ht : t.val < 8 := t.isLt
  have hy : (y 0).val < 32 := (y 0).isLt
  have e0 : ((View.whole main_v40_4).slice (win5_6.rect t)).emb y 0 = (⟨32 * t.val + (y 0).val, by omega⟩ : Fin 256) :=
    Fin.ext (by blk_simp [q5_idx t]; try (show _ = 32 * t.val + (y 0).val; omega))
  simp only [e0]
  have hz : (y 1).val < 1 := (y 1).isLt
  have ey : y = ix2 (y 0) 0 := (ix2_eta y).symm.trans (congrArg (ix2 (y 0)) (Fin.ext (by show (y 1).val = 0; omega)))
  refine Eq.trans (congrArg _ ey) ?_
  refine (q5_pay9 _ (y 0)).trans ?_
  refine (Finset.sum_congr rfl fun k _ => q5_pay7 _ _ (y 0) k).trans ?_
  simp only [Tern.coe_toInt_code, q5_row1, q5_row0 V c t (y 0) _ (by omega)]

end Cert.KernelIdeal.Gen
end
-- ==== Proof.M6.lean ====
module

public import proofs.«01_k».proof.Proof.Gen.KernelIdeal.Frame.Region6
public import proofs.«01_k».proof.Proof.Wide

/-! Call 6: a product with a packed weight, one block of columns per grid step. The result at a row and a column
is the widened product of the prepared operand's row with the weight's column. -/

@[expose] public section
set_option maxRecDepth 65536
noncomputable section
namespace Cert.KernelIdeal.Gen
open Idealize.ShloMosaic Idealize.SL.Sem Idealize.ShloMosaic.TcCoe

variable (V : (c : Dev nD) → (b : Ref sig .tc) → Buf (Elt Ideal) ((c : Thread nD τ).loc b)) (c : Dev nD)

theorem m6_mul (x : Vec Ideal S256x6144 .bf16) (w : Vec Ideal S6144x512 .fp8e4m3) (t a : Vec Ideal S256x1 .f32) (s : Elt Ideal .f32) (h : Vec Ideal S256x512 .bf16) (i : Fin 256) (j : Fin 512) :
    (k6_pay1 (k6_pay278 (k6_pay276 x w) k6_pay277 t a) s h : FVec Ideal S256x512 .f32) (ix2 i j)
      = h (ix2 i j) + ((∑ k, x (ix2 i k) * w (ix2 k j)) * ((512 : ℝ) : EReal) - t (ix2 i 0)) * a (ix2 i 0) * s := by
  pointwise [k6_pay1, k6_pay276, k6_pay278, k6_pay277]
  rw [Tern.ofBits_512]

theorem m6_block (v : View sig .tc .vmem S6144x512 .fp8e4m3) (x : Vec Ideal S256x6144 .bf16) (w : Vec Ideal S1536x512 .i8)
    (t a : Vec Ideal S256x1 .f32) (s : Elt Ideal .f32) (h : Vec Ideal S256x512 .bf16) (L)
    (hL : L = Tern.decPieces (N := 6144) (K4 := 1536) (C := 48) rfl rfl bitcasts_S32x512_w8_S8x512_w32 bitcasts_S8x512_w32_S32x512_w8
      shapeCasts_S32x512_S32x512 w [] 192 (by decide)) (inb) (i : Fin 256) (j : Fin 512) :
    (k6_pay1 (k6_pay278 (k6_pay276 x (v.readCov L (Rect.unit (s := S6144x512) ![0, 0] ![6144, 512] inb).toLoadRect : Vec Ideal S6144x512 .fp8e4m3)) k6_pay277 t a) s h : FVec Ideal S256x512 .f32) (ix2 i j)
      = Tern.mmAdd (N := 6144) (K4 := 1536) (C := 48) rfl rfl (fun p => x (ix2 i p)) (fun r => w (ix2 r j)) (t (ix2 i 0)) (a (ix2 i 0)) s (h (ix2 i j)) := by
  rw [m6_mul]
  unfold Tern.mmAdd Tern.mm
  congr 5
  refine Finset.sum_congr rfl fun p _ => congrArg _ ?_
  exact Tern.readCov_decPieces (N := 6144) (K4 := 1536) (C := 48) rfl rfl _ _ _ w v [] L hL inb p j

theorem m6_idx : ∀ t : Fin cfg6.N, (cfg6.win 0).index t = ![0, 0] ∧ (cfg6.win 1).index t = ![0, t.val] ∧ (cfg6.win 2).index t = ![0, 0]
   ∧ (cfg6.win 3).index t = ![0, 0] ∧ (cfg6.win 4).index t = ![0, 0] ∧ (cfg6.win 5).index t = ![0, t.val] ∧ (cfg6.win 6).index t = ![0, t.val] := by
  decide +kernel

theorem m6_row0 (t : Fin cfg6.N) (r : Fin 256) (k : Fin 6144) : iblk6 V c 0 t (ix2 r k) = V c main_v40_3 (ix2 r k) := by
  blk_ext [iblk6, m6_idx t]
theorem m6_row1 (t : Fin cfg6.N) (r : Fin 1536) (k : Fin 512) (h : 512 * t.val + k.val < 6144) :
    iblk6 V c 1 t (ix2 r k) = V c main_arg10 (ix2 r ⟨512 * t.val + k.val, h⟩) := by
  blk_ext [iblk6, m6_idx t]
theorem m6_row2 (t : Fin cfg6.N) (r : Fin 256) : iblk6 V c 2 t (ix2 r 0) = V c main_v40_4 (ix2 r 0) := by
  blk_ext [iblk6, m6_idx t]
theorem m6_row3 (t : Fin cfg6.N) (r : Fin 256) : iblk6 V c 3 t (ix2 r 0) = V c main_v40_1 (ix2 r 0) := by
  blk_ext [iblk6, m6_idx t]
theorem m6_row4 (t : Fin cfg6.N) : iblk6 V c 4 t (ix2 0 0) = V c main_v41 (ix2 0 0) := by
  blk_ext [iblk6, m6_idx t]
theorem m6_row5 (t : Fin cfg6.N) (r : Fin 256) (k : Fin 512) (h : 512 * t.val + k.val < 6144) :
    iblk6 V c 5 t (ix2 r k) = V c main_v0 (ix2 r ⟨512 * t.val + k.val, h⟩) := by
  blk_ext [iblk6, m6_idx t]

set_option maxHeartbeats 4000000 in
theorem m6_blk (t : Fin cfg6.N) (i : Fin 256) (j : Fin 512) : outsAt6 V c t (ix2 i j)
    = Tern.mmAdd (N := 6144) (K4 := 1536) (C := 48) rfl rfl (fun p => iblk6 V c 0 t (ix2 i p)) (fun r => iblk6 V c 1 t (ix2 r j))
      (iblk6 V c 2 t (ix2 i 0)) (iblk6 V c 3 t (ix2 i 0)) (iblk6 V c 4 t (ix2 0 0)) (iblk6 V c 5 t (ix2 i j)) := by
  unfold outsAt6 out6_A_6
  frame_out
  refine (m6_block _ (iblk6 V c 0 t) (iblk6 V c 1 t) (iblk6 V c 2 t) (iblk6 V c 3 t)
    (View.ld (iblk6 V c 4 t) (Rect.unit ![0, 0] ![1, 1] inb_S1x1_S1x1_0_0) (Shape.Idx.first Nat.one_pos)) (iblk6 V c 5 t) _ ?hL _ i j).trans ?_
  case hL => rfl
  refine Tern.mmAdd_congr _ _ (fun _ => rfl) (fun _ => rfl) rfl rfl ?_ rfl
  refine (View.ld_apply _ _ _).trans (congrArg _ ?_)
  first | rfl | (funext a; fin_cases a <;> rfl)

theorem m6_out : (dat6 V c).arrAt 6 cfg6.N = fun i =>
    Tern.mmAdd (N := 6144) (K4 := 1536) (C := 48) rfl rfl (fun p => V c main_v40_3 (ix2 (i 0) p))
      (fun r => V c main_arg10 (ix2 r (i 1))) (V c main_v40_4 (ix2 (i 0) 0)) (V c main_v40_1 (ix2 (i 0) 0)) (V c main_v41 (ix2 0 0)) (V c main_v0 (ix2 (i 0) (i 1))) := by
  refine (dat6 V c).arrAt_eq_of_covers 6 _ (by decide +kernel) fun t hf y => ?_
  blk_simp
  rw [after6_6]
  have ht : t.val < 12 := t.isLt
  have hy : (y 1).val < 512 := (y 1).isLt
  have e0 : ((View.whole main_v42).slice (win6_6.rect t)).emb y 0 = (y 0 : Fin 256) :=
    Fin.ext (by blk_simp [m6_idx t]; try (show _ = (y 0).val; omega))
  have e1 : ((View.whole main_v42).slice (win6_6.rect t)).emb y 1 = (⟨512 * t.val + (y 1).val, by omega⟩ : Fin 6144) :=
    Fin.ext (by blk_simp [m6_idx t]; try (show _ = 512 * t.val + (y 1).val; omega))
  simp only [e0, e1]
  refine Eq.trans (congrArg (outsAt6 V c t) (ix2_eta y).symm) ?_
  refine (m6_blk V c t (y 0) (y 1)).trans ?_
  exact Tern.mmAdd_congr _ _ (fun p => m6_row0 V c t (y 0) p) (fun r => m6_row1 V c t r (y 1) (by omega)) (m6_row2 V c t (y 0))
    (m6_row3 V c t (y 0)) (m6_row4 V c t) (m6_row5 V c t (y 0) (y 1) (by omega))

end Cert.KernelIdeal.Gen
end
-- ==== Proof.Q7.lean ====
/- The normalisation and quantisation of region 7: what each of its result arrays holds, row by row. -/
module

public import proofs.«01_k».proof.Proof.Gen.KernelIdeal.Frame.Region7
public import proofs.«01_k».proof.Proof.Gather

@[expose] public section
set_option maxRecDepth 65536
noncomputable section
namespace Cert.KernelIdeal.Gen
open Idealize.ShloMosaic Idealize.SL.Sem Idealize.ShloMosaic.TcCoe

variable (V : (c : Dev nD) → (b : Ref sig .tc) → Buf (Elt Ideal) ((c : Thread nD τ).loc b)) (c : Dev nD)

/-- The divisor of the mean. -/
abbrev q7_n : EReal := Ideal.ofBits .f32 0x45C00000#32

theorem q7_pay4 (x : Vec Ideal S32x6144 .f32) (r : Fin 32) :
    k7_pay4 x (ix2 r 0) = Tern.rstd q7_n (fun k => x (ix2 r k)) := by
  pointwise [k7_pay4, k7_pay3]
  rfl
theorem q7_pay5 (x : Vec Ideal S32x6144 .f32) (g : Vec Ideal S1x6144 .f32) (r : Fin 32) (j : Fin 6144) :
    k7_pay5 x g (ix2 r j) = Tern.nrm q7_n (fun k => x (ix2 r k)) (fun k => g (ix2 0 k)) j := by
  pointwise [k7_pay5, k7_pay3]
  rw [q7_pay4]; rfl
theorem q7_pay6 (x : Vec Ideal S32x6144 .f32) (g : Vec Ideal S1x6144 .f32) (r : Fin 32) :
    k7_pay6 x g (ix2 r 0) = Tern.scl q7_n (fun k => x (ix2 r k)) (fun k => g (ix2 0 k)) := by
  pointwise [k7_pay6]
  simp only [q7_pay5]
  rfl
theorem q7_pay7 (x : Vec Ideal S32x6144 .f32) (g : Vec Ideal S1x6144 .f32) (r : Fin 32) (j : Fin 6144) :
    k7_pay7 x g (ix2 r j) = Tern.qv q7_n (fun k => x (ix2 r k)) (fun k => g (ix2 0 k)) j := by
  pointwise [k7_pay7]
  rw [q7_pay5, q7_pay6]; rfl
theorem q7_pay8 (x : Vec Ideal S32x6144 .f32) (g : Vec Ideal S1x6144 .f32) (r : Fin 32) (j : Fin 6144) :
    k7_pay8 x g (ix2 r j) = Tern.code q7_n (fun k => x (ix2 r k)) (fun k => g (ix2 0 k)) j := by
  pointwise [k7_pay8]
  rw [q7_pay7]; rfl
theorem q7_pay9 (y : Vec Ideal S32x6144 .f32) (r : Fin 32) :
    (k7_pay9 y : FVec Ideal S32x1 .f32) (ix2 r 0) = ∑ k, y (ix2 r k) := by
  pointwise [k7_pay9]

theorem q7_idx : ∀ t : Fin cfg7.N, (cfg7.win 0).index t = ![t.val, 0] ∧ (cfg7.win 1).index t = ![0, 0]
    ∧ (cfg7.win 2).index t = ![t.val, 0] ∧ (cfg7.win 3).index t = ![t.val, 0] ∧ (cfg7.win 4).index t = ![t.val, 0]
    ∧ (cfg7.win 5).index t = ![t.val, 0] ∧ (cfg7.win 6).index t = ![t.val, 0] := by
  decide +kernel

theorem q7_row0 (t : Fin cfg7.N) (r : Fin 32) (k : Fin 6144) (h : 32 * t.val + r.val < 256) :
    iblk7 V c 0 t (ix2 r k) = V c main_v42 (ix2 ⟨32 * t.val + r.val, h⟩ k) := by
  blk_ext [iblk7, q7_idx t]
theorem q7_row1 (t : Fin cfg7.N) (k : Fin 6144) :
    iblk7 V c 1 t (ix2 0 k) = V c main_v43 (ix2 0 k) := by
  blk_ext [iblk7, q7_idx t]

theorem q7_lanes : ∀ (r : Fin 8) (l : Fin 128), (k7_pay11 : IVec S8x128 32) (ix2 r l) = BitVec.ofNat 32 (4 * (l.val % 32) + l.val / 32) := by
  intro r l
  pointwise [k7_pay11]
  exact (by decide +kernel : ∀ l : Fin 128, IntOp.addi (IntOp.muli 4#32 (IntOp.andi (BitVec.ofNat 32 l.val) 31#32))
    (IntOp.shrsi .vector (BitVec.ofNat 32 l.val) 5#32) = BitVec.ofNat 32 (4 * (l.val % 32) + l.val / 32)) l

theorem q7_slices : ∀ n : Fin 48, S8x6144.Slices ![0, 128 * n.val] S8x128 := by decide +kernel

theorem q7_pay2 (z : IVec S32x6144 8) (L : List ((s : Shape) × (s.Idx → BitVec 32))) (hc)
    (hL : L = List.ofFn fun n : Fin 48 => (⟨S8x128, Tern.gchunk (k7_pay10 z) k7_pay11 (128 * n.val) (q7_slices n)
      shapeCasts_S8x128_S8x128x1 shapeCasts_S8x128x1_S8x128⟩ : (s : Shape) × (s.Idx → BitVec 32))) (p : Fin 32) (j : Fin 6144) :
    (k7_pay2 (concatenate S8x6144 1 L hc) : FVec Ideal S32x6144 .bf16) (ix2 p j)
      = (((z (ix2 p ⟨Tern.src j.val, Tern.src_lt (C := 48) rfl j.isLt⟩)).toInt : ℝ) : EReal) := by
  subst hL
  refine congrArg (fun b : BitVec 8 => ((b.toInt : ℝ) : EReal)) ?_
  have hp := p.isLt
  refine Tern.bytes_of_words z _ bitcasts_S32x6144_w8_S8x6144_w32 bitcasts_S8x6144_w32_S32x6144_w8 p j _ (by omega) ?_
  exact Tern.gather_apply (C := 48) rfl _ _ q7_slices _ _ q7_lanes hc _ j

/-- The pieces of the reordered words. -/
def k7_list (x0 : Vec Ideal S32x6144 .f32) (x1 : Vec Ideal S1x6144 .f32) : List ((s : Shape) × (s.Idx → BitVec 32)) :=
  ⟨S8x128, (k7_pay12 (k7_pay75 x0 x1))⟩ :: ⟨S8x128, (k7_pay13 (k7_pay75 x0 x1))⟩ :: ⟨S8x128, (k7_pay14 (k7_pay75 x0 x1))⟩ :: ⟨S8x128, (k7_pay17 (k7_pay15 (k7_pay75 x0 x1)) k7_pay16)⟩ :: ⟨S8x128, (k7_pay18 (k7_pay76 x0 x1) (k7_pay77 x0 x1))⟩ :: ⟨S8x128, (k7_pay19 (k7_pay76 x0 x1) (k7_pay77 x0 x1))⟩ :: ⟨S8x128, (k7_pay20 (k7_pay76 x0 x1) (k7_pay77 x0 x1))⟩ :: ⟨S8x128, (k7_pay21 (k7_pay76 x0 x1) (k7_pay77 x0 x1))⟩ :: ⟨S8x128, (k7_pay22 (k7_pay76 x0 x1) (k7_pay77 x0 x1))⟩ :: ⟨S8x128, (k7_pay25 (k7_pay77 x0 x1) (k7_pay23 (k7_pay76 x0 x1)) k7_pay24)⟩ :: ⟨S8x128, (k7_pay26 (k7_pay76 x0 x1) (k7_pay77 x0 x1))⟩ :: ⟨S8x128, (k7_pay27 (k7_pay76 x0 x1) (k7_pay77 x0 x1))⟩ :: ⟨S8x128, (k7_pay28 (k7_pay76 x0 x1) (k7_pay77 x0 x1))⟩ :: ⟨S8x128, (k7_pay29 (k7_pay76 x0 x1) (k7_pay77 x0 x1))⟩ :: ⟨S8x128, (k7_pay32 (k7_pay30 (k7_pay76 x0 x1)) (k7_pay31 (k7_pay77 x0 x1)))⟩ :: ⟨S8x128, (k7_pay33 (k7_pay76 x0 x1) (k7_pay77 x0 x1))⟩ :: ⟨S8x128, (k7_pay34 (k7_pay76 x0 x1) (k7_pay77 x0 x1))⟩ :: ⟨S8x128, (k7_pay35 (k7_pay76 x0 x1) (k7_pay77 x0 x1))⟩ :: ⟨S8x128, (k7_pay36 (k7_pay76 x0 x1) (k7_pay77 x0 x1))⟩ :: ⟨S8x128, (k7_pay37 (k7_pay76 x0 x1) (k7_pay77 x0 x1))⟩ :: ⟨S8x128, (k7_pay39 (k7_pay77 x0 x1) (k7_pay38 (k7_pay76 x0 x1)) 0#32)⟩ :: ⟨S8x128, (k7_pay40 (k7_pay76 x0 x1) (k7_pay77 x0 x1))⟩ :: ⟨S8x128, (k7_pay41 (k7_pay76 x0 x1) (k7_pay77 x0 x1))⟩ :: ⟨S8x128, (k7_pay42 (k7_pay76 x0 x1) (k7_pay77 x0 x1))⟩ :: ⟨S8x128, (k7_pay43 (k7_pay76 x0 x1) (k7_pay77 x0 x1))⟩ :: ⟨S8x128, (k7_pay47 (k7_pay77 x0 x1) (k7_pay44 (k7_pay76 x0 x1)) (k7_pay45 (k7_pay77 x0 x1)) (k7_pay46 (k7_pay77 x0 x1)))⟩ :: ⟨S8x128, (k7_pay48 (k7_pay76 x0 x1) (k7_pay77 x0 x1))⟩ :: ⟨S8x128, (k7_pay49 (k7_pay76 x0 x1) (k7_pay77 x0 x1))⟩ :: ⟨S8x128, (k7_pay50 (k7_pay76 x0 x1) (k7_pay77 x0 x1))⟩ :: ⟨S8x128, (k7_pay51 (k7_pay76 x0 x1) (k7_pay77 x0 x1))⟩ :: ⟨S8x128, (k7_pay52 (k7_pay76 x0 x1) (k7_pay77 x0 x1))⟩ :: ⟨S8x128, (k7_pay54 (k7_pay77 x0 x1) (k7_pay53 (k7_pay76 x0 x1)))⟩ :: ⟨S8x128, (k7_pay55 (k7_pay76 x0 x1) (k7_pay77 x0 x1))⟩ :: ⟨S8x128, (k7_pay56 (k7_pay76 x0 x1) (k7_pay77 x0 x1))⟩ :: ⟨S8x128, (k7_pay57 (k7_pay76 x0 x1) (k7_pay77 x0 x1))⟩ :: ⟨S8x128, (k7_pay58 (k7_pay76 x0 x1) (k7_pay77 x0 x1))⟩ :: ⟨S8x128, (k7_pay62 (k7_pay77 x0 x1) (k7_pay59 (k7_pay76 x0 x1)) (k7_pay60 (k7_pay77 x0 x1)) k7_pay61)⟩ :: ⟨S8x128, (k7_pay63 (k7_pay76 x0 x1) (k7_pay77 x0 x1))⟩ :: ⟨S8x128, (k7_pay64 (k7_pay76 x0 x1) (k7_pay77 x0 x1))⟩ :: ⟨S8x128, (k7_pay65 (k7_pay76 x0 x1) (k7_pay77 x0 x1))⟩ :: ⟨S8x128, (k7_pay66 (k7_pay76 x0 x1) (k7_pay77 x0 x1))⟩ :: ⟨S8x128, (k7_pay67 (k7_pay76 x0 x1) (k7_pay77 x0 x1))⟩ :: ⟨S8x128, (k7_pay68 (k7_pay76 x0 x1) (k7_pay77 x0 x1))⟩ :: ⟨S8x128, (k7_pay69 (k7_pay76 x0 x1) (k7_pay77 x0 x1))⟩ :: ⟨S8x128, (k7_pay70 (k7_pay76 x0 x1) (k7_pay77 x0 x1))⟩ :: ⟨S8x128, (k7_pay71 (k7_pay76 x0 x1) (k7_pay77 x0 x1))⟩ :: ⟨S8x128, (k7_pay72 (k7_pay76 x0 x1) (k7_pay77 x0 x1))⟩ :: ⟨S8x128, (k7_pay1 (k7_pay77 x0 x1) (k7_pay73 (k7_pay76 x0 x1)) (k7_pay74 (k7_pay77 x0 x1)) 128#32)⟩ :: []

theorem q7_out5 (x0 : Vec Ideal S32x6144 .f32) (x1 : Vec Ideal S1x6144 .f32) (p : Fin 32) (j : Fin 6144) :
    out7_5 x0 x1 (ix2 p j) = (((Tern.code q7_n (fun k => x0 (ix2 p k)) (fun k => x1 (ix2 0 k))
      ⟨Tern.src j.val, Tern.src_lt (C := 48) rfl j.isLt⟩).toInt : ℝ) : EReal) := by
  unfold out7_5
  frame_out
  have hL := q7_pay2 (k7_pay75 x0 x1) (k7_list x0 x1) concatenates_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x6144_d1 rfl p j
  refine hL.trans ?_
  have e : k7_pay75 x0 x1 = k7_pay8 x0 x1 := by
    unfold k7_pay75
    frame_out
  rw [e, q7_pay8]

/-- The codes. -/
theorem q7_codes : (dat7 V c).arrAt 2 cfg7.N = fun i => Tern.code q7_n (fun k => V c main_v42 (ix2 (i 0) k)) (fun k => V c main_v43 (ix2 0 k)) (i 1) := by
  refine (dat7 V c).arrAt_eq_of_covers 2 _ (by decide +kernel) fun t hf y => ?_
  blk_simp
  rw [after7_2]
  frame_out
  have ht : t.val < 8 := t.isLt
  have hy : (y 0).val < 32 := (y 0).isLt
  have e0 : ((View.whole main_v44_0).slice (win7_2.rect t)).emb y 0 = (⟨32 * t.val + (y 0).val, by omega⟩ : Fin 256) :=
    Fin.ext (by blk_simp [q7_idx t]; try (show _ = 32 * t.val + (y 0).val; omega))
  have e1 : ((View.whole main_v44_0).slice (win7_2.rect t)).emb y 1 = (y 1 : Fin 6144) :=
    Fin.ext (by blk_simp [q7_idx t]; try (show _ = (y 1).val; omega))
  simp only [e0, e1]
  refine Eq.trans (congrArg _ (ix2_eta y).symm) ?_
  refine (q7_pay8 _ _ (y 0) (y 1)).trans ?_
  simp only [q7_row1, q7_row0 V c t (y 0) _ (by omega)]

/-- The scale of a row. -/
theorem q7_scale : (dat7 V c).arrAt 3 cfg7.N = fun i => Tern.scl q7_n (fun k => V c main_v42 (ix2 (i 0) k)) (fun k => V c main_v43 (ix2 0 k)) := by
  refine (dat7 V c).arrAt_eq_of_covers 3 _ (by decide +kernel) fun t hf y => ?_
  blk_simp
  rw [after7_3]
  frame_out
  have ht : t.val < 8 := t.isLt
  have hy : (y 0).val < 32 := (y 0).isLt
  have e0 : ((View.whole main_v44_1).slice (win7_3.rect t)).emb y 0 = (⟨32 * t.val + (y 0).val, by omega⟩ : Fin 256) :=
    Fin.ext (by blk_simp [q7_idx t]; try (show _ = 32 * t.val + (y 0).val; omega))
  simp only [e0]
  have hz : (y 1).val < 1 := (y 1).isLt
  have ey : y = ix2 (y 0) 0 := (ix2_eta y).symm.trans (congrArg (ix2 (y 0)) (Fin.ext (by show (y 1).val = 0; omega)))
  refine Eq.trans (congrArg _ ey) ?_
  refine (q7_pay6 _ _ (y 0)).trans ?_
  simp only [q7_row1, q7_row0 V c t (y 0) _ (by omega)]

/-- The reciprocal of a row's root mean square. -/
theorem q7_rstd : (dat7 V c).arrAt 4 cfg7.N = fun i => Tern.rstd q7_n (fun k => V c main_v42 (ix2 (i 0) k)) := by
  refine (dat7 V c).arrAt_eq_of_covers 4 _ (by decide +kernel) fun t hf y => ?_
  blk_simp
  rw [after7_4]
  frame_out
  have ht : t.val < 8 := t.isLt
  have hy : (y 0).val < 32 := (y 0).isLt
  have e0 : ((View.whole main_v44_2).slice (win7_4.rect t)).emb y 0 = (⟨32 * t.val + (y 0).val, by omega⟩ : Fin 256) :=
    Fin.ext (by blk_simp [q7_idx t]; try (show _ = 32 * t.val + (y 0).val; omega))
  simp only [e0]
  have hz : (y 1).val < 1 := (y 1).isLt
  have ey : y = ix2 (y 0) 0 := (ix2_eta y).symm.trans (congrArg (ix2 (y 0)) (Fin.ext (by show (y 1).val = 0; omega)))
  refine Eq.trans (congrArg _ ey) ?_
  refine (q7_pay4 _ (y 0)).trans ?_
  simp only [q7_row0 V c t (y 0) _ (by omega)]

/-- The codes in the order the matmul reads them. -/
theorem q7_lhs : (dat7 V c).arrAt 5 cfg7.N = fun i => (((Tern.code q7_n (fun k => V c main_v42 (ix2 (i 0) k)) (fun k => V c main_v43 (ix2 0 k))
      ⟨Tern.src (i 1).val, Tern.src_lt (C := 48) rfl (i 1).isLt⟩).toInt : ℝ) : EReal) := by
  refine (dat7 V c).arrAt_eq_of_covers 5 _ (by decide +kernel) fun t hf y => ?_
  blk_simp
  rw [after7_5]
  have ht : t.val < 8 := t.isLt
  have hy : (y 0).val < 32 := (y 0).isLt
  have e0 : ((View.whole main_v44_3).slice (win7_5.rect t)).emb y 0 = (⟨32 * t.val + (y 0).val, by omega⟩ : Fin 256) :=
    Fin.ext (by blk_simp [q7_idx t]; try (show _ = 32 * t.val + (y 0).val; omega))
  have e1 : ((View.whole main_v44_3).slice (win7_5.rect t)).emb y 1 = (y 1 : Fin 6144) :=
    Fin.ext (by blk_simp [q7_idx t]; try (show _ = (y 1).val; omega))
  simp only [e0, e1]
  refine Eq.trans (congrArg _ (ix2_eta y).symm) ?_
  refine (q7_out5 _ _ (y 0) (y 1)).trans ?_
  have e2 : win7_5.index t 1 = 0 := congrFun (q7_idx t).2.2.2.2.2.1 1
  simp only [e2, Nat.zero_mul, Nat.zero_add, q7_row1, q7_row0 V c t (y 0) _ (by omega)]

/-- The sum of a row's codes. -/
theorem q7_total : (dat7 V c).arrAt 6 cfg7.N = fun i => ∑ j, (((Tern.code q7_n (fun k => V c main_v42 (ix2 (i 0) k)) (fun k => V c main_v43 (ix2 0 k)) j).toInt : ℝ) : EReal) := by
  refine (dat7 V c).arrAt_eq_of_covers 6 _ (by decide +kernel) fun t hf y => ?_
  blk_simp
  rw [after7_6]
  frame_out
  have ht : t.val < 8 := t.isLt
  have hy : (y 0).val < 32 := (y 0).isLt
  have e0 : ((View.whole main_v44_4).slice (win7_6.rect t)).emb y 0 = (⟨32 * t.val + (y 0).val, by omega⟩ : Fin 256) :=
    Fin.ext (by blk_simp [q7_idx t]; try (show _ = 32 * t.val + (y 0).val; omega))
  simp only [e0]
  have hz : (y 1).val < 1 := (y 1).isLt
  have ey : y = ix2 (y 0) 0 := (ix2_eta y).symm.trans (congrArg (ix2 (y 0)) (Fin.ext (by show (y 1).val = 0; omega)))
  refine Eq.trans (congrArg _ ey) ?_
  refine (q7_pay9 _ (y 0)).trans ?_
  refine (Finset.sum_congr rfl fun k _ => q7_pay7 _ _ (y 0) k).trans ?_
  simp only [Tern.coe_toInt_code, q7_row1, q7_row0 V c t (y 0) _ (by omega)]

end Cert.KernelIdeal.Gen
end
-- ==== Proof.M8.lean ====
module

public import proofs.«01_k».proof.Proof.Gen.KernelIdeal.Frame.Region8
public import proofs.«01_k».proof.Proof.Wide

/-! Call 8: two products with packed weights over the same prepared operand, one block of columns per grid step. The
result is the squared positive part of the first product times the second. Both weights are widened into the same
array, the second over the first. -/

@[expose] public section
set_option maxRecDepth 65536
noncomputable section
namespace Cert.KernelIdeal.Gen
open Idealize.ShloMosaic Idealize.SL.Sem Idealize.ShloMosaic.TcCoe

variable (V : (c : Dev nD) → (b : Ref sig .tc) → Buf (Elt Ideal) ((c : Thread nD τ).loc b)) (c : Dev nD)

theorem m8_mul (x : Vec Ideal S256x6144 .bf16) (w w' : Vec Ideal S6144x512 .fp8e4m3) (t a : Vec Ideal S256x1 .f32) (s s' : Elt Ideal .f32) (i : Fin 256) (j : Fin 512) :
    (k8_pay1 (k8_pay278 (k8_pay276 x w) k8_pay277 t a s) (k8_pay554 x w' t a) s' : FVec Ideal S256x512 .f32) (ix2 i j)
      = Tern.glu (((∑ k, x (ix2 i k) * w (ix2 k j)) * ((512 : ℝ) : EReal) - t (ix2 i 0)) * a (ix2 i 0) * s)
        (((∑ k, x (ix2 i k) * w' (ix2 k j)) * ((512 : ℝ) : EReal) - t (ix2 i 0)) * a (ix2 i 0) * s') := by
  pointwise [k8_pay1, k8_pay276, k8_pay278, k8_pay277, k8_pay554, Tern.glu]
  rw [Tern.ofBits_512]

/-- The stores of the first weight. -/
abbrev m8_first (w : Vec Ideal S1536x512 .i8) : List (View.Piece (Elt Ideal) S6144x512 .fp8e4m3) :=
  Tern.decPieces (N := 6144) (K4 := 1536) (C := 48) rfl rfl bitcasts_S32x512_w8_S8x512_w32 bitcasts_S8x512_w32_S32x512_w8
      shapeCasts_S32x512_S32x512 w [] 192 (by decide)

theorem m8_block (v v' : View sig .tc .vmem S6144x512 .fp8e4m3) (x : Vec Ideal S256x6144 .bf16) (w w' : Vec Ideal S1536x512 .i8)
    (t a : Vec Ideal S256x1 .f32) (s s' : Elt Ideal .f32) (L L')
    (hL : L = m8_first w)
    (hL' : L' = Tern.decPieces (N := 6144) (K4 := 1536) (C := 48) rfl rfl bitcasts_S32x512_w8_S8x512_w32 bitcasts_S8x512_w32_S32x512_w8
      shapeCasts_S32x512_S32x512 w' (m8_first w) 192 (by decide)) (inb inb') (i : Fin 256) (j : Fin 512) :
    (k8_pay1 (k8_pay278 (k8_pay276 x (v.readCov L (Rect.unit (s := S6144x512) ![0, 0] ![6144, 512] inb).toLoadRect : Vec Ideal S6144x512 .fp8e4m3)) k8_pay277 t a s)
      (k8_pay554 x (v'.readCov L' (Rect.unit (s := S6144x512) ![0, 0] ![6144, 512] inb').toLoadRect : Vec Ideal S6144x512 .fp8e4m3) t a) s' : FVec Ideal S256x512 .f32) (ix2 i j)
      = Tern.glu (Tern.mm (N := 6144) (K4 := 1536) (C := 48) rfl rfl (fun p => x (ix2 i p)) (fun r => w (ix2 r j)) (t (ix2 i 0)) (a (ix2 i 0)) s)
         (Tern.mm (N := 6144) (K4 := 1536) (C := 48) rfl rfl (fun p => x (ix2 i p)) (fun r => w' (ix2 r j)) (t (ix2 i 0)) (a (ix2 i 0)) s') := by
  rw [m8_mul]
  unfold Tern.mm
  congr 5
  · refine Finset.sum_congr rfl fun p _ => congrArg _ ?_
    exact Tern.readCov_decPieces (N := 6144) (K4 := 1536) (C := 48) rfl rfl _ _ _ w v [] L hL inb p j
  · refine Finset.sum_congr rfl fun p _ => congrArg _ ?_
    exact Tern.readCov_decPieces (N := 6144) (K4 := 1536) (C := 48) rfl rfl _ _ _ w' v' (m8_first w) L' hL' inb' p j

theorem m8_idx : ∀ t : Fin cfg8.N, (cfg8.win 0).index t = ![0, 0] ∧ (cfg8.win 1).index t = ![0, t.val] ∧ (cfg8.win 2).index t = ![0, t.val]
   ∧ (cfg8.win 3).index t = ![0, 0] ∧ (cfg8.win 4).index t = ![0, 0] ∧ (cfg8.win 5).index t = ![0, 0] ∧ (cfg8.win 6).index t = ![0, 0] ∧ (cfg8.win 7).index t = ![0, t.val] := by
  decide +kernel

theorem m8_row0 (t : Fin cfg8.N) (r : Fin 256) (k : Fin 6144) : iblk8 V c 0 t (ix2 r k) = V c main_v44_3 (ix2 r k) := by
  blk_ext [iblk8, m8_idx t]
theorem m8_row1 (t : Fin cfg8.N) (r : Fin 1536) (k : Fin 512) (h : 512 * t.val + k.val < 16384) :
    iblk8 V c 1 t (ix2 r k) = V c main_arg13 (ix2 r ⟨512 * t.val + k.val, h⟩) := by
  blk_ext [iblk8, m8_idx t]
theorem m8_row2 (t : Fin cfg8.N) (r : Fin 1536) (k : Fin 512) (h : 512 * t.val + k.val < 16384) :
    iblk8 V c 2 t (ix2 r k) = V c main_arg15 (ix2 r ⟨512 * t.val + k.val, h⟩) := by
  blk_ext [iblk8, m8_idx t]
theorem m8_row3 (t : Fin cfg8.N) (r : Fin 256) : iblk8 V c 3 t (ix2 r 0) = V c main_v44_4 (ix2 r 0) := by
  blk_ext [iblk8, m8_idx t]
theorem m8_row4 (t : Fin cfg8.N) (r : Fin 256) : iblk8 V c 4 t (ix2 r 0) = V c main_v44_1 (ix2 r 0) := by
  blk_ext [iblk8, m8_idx t]
theorem m8_row5 (t : Fin cfg8.N) : iblk8 V c 5 t (ix2 0 0) = V c main_v45 (ix2 0 0) := by
  blk_ext [iblk8, m8_idx t]
theorem m8_row6 (t : Fin cfg8.N) : iblk8 V c 6 t (ix2 0 0) = V c main_v46 (ix2 0 0) := by
  blk_ext [iblk8, m8_idx t]

set_option maxHeartbeats 4000000 in
theorem m8_blk (t : Fin cfg8.N) (i : Fin 256) (j : Fin 512) : outsAt8 V c t (ix2 i j)
    = Tern.glu (Tern.mm (N := 6144) (K4 := 1536) (C := 48) rfl rfl (fun p => iblk8 V c 0 t (ix2 i p)) (fun r => iblk8 V c 1 t (ix2 r j))
      (iblk8 V c 3 t (ix2 i 0)) (iblk8 V c 4 t (ix2 i 0)) (iblk8 V c 5 t (ix2 0 0)))
      (Tern.mm (N := 6144) (K4 := 1536) (C := 48) rfl rfl (fun p => iblk8 V c 0 t (ix2 i p)) (fun r => iblk8 V c 2 t (ix2 r j))
      (iblk8 V c 3 t (ix2 i 0)) (iblk8 V c 4 t (ix2 i 0)) (iblk8 V c 6 t (ix2 0 0))) := by
  unfold outsAt8 out8_A_7
  frame_out
  refine (m8_block _ _ (iblk8 V c 0 t) (iblk8 V c 1 t) (iblk8 V c 2 t) (iblk8 V c 3 t) (iblk8 V c 4 t)
    (View.ld (iblk8 V c 5 t) (Rect.unit ![0, 0] ![1, 1] inb_S1x1_S1x1_0_0) (Shape.Idx.first Nat.one_pos))
    (View.ld (iblk8 V c 6 t) (Rect.unit ![0, 0] ![1, 1] inb_S1x1_S1x1_0_0) (Shape.Idx.first Nat.one_pos)) _ _ ?hL ?hL' _ _ i j).trans ?_
  case hL => rfl
  case hL' => rfl
  refine congrArg₂ Tern.glu (Tern.mm_congr _ _ (fun _ => rfl) (fun _ => rfl) rfl rfl ?_) (Tern.mm_congr _ _ (fun _ => rfl) (fun _ => rfl) rfl rfl ?_)
  · refine (View.ld_apply _ _ _).trans (congrArg _ ?_)
    first | rfl | (funext a; fin_cases a <;> rfl)
  · refine (View.ld_apply _ _ _).trans (congrArg _ ?_)
    first | rfl | (funext a; fin_cases a <;> rfl)

set_option maxHeartbeats 4000000 in
theorem m8_out : (dat8 V c).arrAt 7 cfg8.N = fun i => Tern.glu
    (Tern.mm (N := 6144) (K4 := 1536) (C := 48) rfl rfl (fun p => V c main_v44_3 (ix2 (i 0) p))
      (fun r => V c main_arg13 (ix2 r (i 1))) (V c main_v44_4 (ix2 (i 0) 0)) (V c main_v44_1 (ix2 (i 0) 0)) (V c main_v45 (ix2 0 0)))
    (Tern.mm (N := 6144) (K4 := 1536) (C := 48) rfl rfl (fun p => V c main_v44_3 (ix2 (i 0) p))
      (fun r => V c main_arg15 (ix2 r (i 1))) (V c main_v44_4 (ix2 (i 0) 0)) (V c main_v44_1 (ix2 (i 0) 0)) (V c main_v46 (ix2 0 0))) := by
  refine (dat8 V c).arrAt_eq_of_covers 7 _ (by decide +kernel) fun t hf y => ?_
  blk_simp
  rw [after8_7]
  have ht : t.val < 32 := t.isLt
  have hy : (y 1).val < 512 := (y 1).isLt
  have e0 : ((View.whole main_v47).slice (win8_7.rect t)).emb y 0 = (y 0 : Fin 256) :=
    Fin.ext (by blk_simp [m8_idx t]; try (show _ = (y 0).val; omega))
  have e1 : ((View.whole main_v47).slice (win8_7.rect t)).emb y 1 = (⟨512 * t.val + (y 1).val, by omega⟩ : Fin 16384) :=
    Fin.ext (by blk_simp [m8_idx t]; try (show _ = 512 * t.val + (y 1).val; omega))
  simp only [e0, e1]
  refine Eq.trans (congrArg (outsAt8 V c t) (ix2_eta y).symm) ?_
  refine (m8_blk V c t (y 0) (y 1)).trans ?_
  exact congrArg₂ Tern.glu
    (Tern.mm_congr _ _ (fun p => m8_row0 V c t (y 0) p) (fun r => m8_row1 V c t r (y 1) (by omega)) (m8_row3 V c t (y 0))
      (m8_row4 V c t (y 0)) (m8_row5 V c t))
    (Tern.mm_congr _ _ (fun p => m8_row0 V c t (y 0) p) (fun r => m8_row2 V c t r (y 1) (by omega)) (m8_row3 V c t (y 0))
      (m8_row4 V c t (y 0)) (m8_row6 V c t))

end Cert.KernelIdeal.Gen
end
-- ==== Proof.KC3.lean ====
module

public import proofs.«01_k».proof.Proof.KC2
public import proofs.«01_k».proof.Proof.Q5
public import proofs.«01_k».proof.Proof.M6
public import proofs.«01_k».proof.Proof.Q7
public import proofs.«01_k».proof.Proof.M8

/-! The kernel program through the feed-forward activation, against the stages of the reference. -/

@[expose] public section
set_option maxRecDepth 65536
noncomputable section
namespace Cert.KernelIdeal.Gen
open Idealize.ShloMosaic Idealize.ShloMosaic.TcCoe Idealize.SL.Sem Cert.ReferenceIdeal.RefValue

variable (m : (ℓ : Loc nD τ sig) → Buf (Elt Ideal) ℓ) (ρ : Dev nD → PrngReg) (c : Dev nD)

theorem k5_x (i : Fin 256) (j : Fin 6144) : W11 m ρ c (Proc.devRef .tc main_v38_2) (ix2 i j) = (kArgs m c).ao (ix3 (hi i) (lo i) j) :=
  (congrFun (W11_of m ρ c main_v38_2 (by decide +kernel)) (ix2 i j)).trans (k4_o m ρ c i j)

theorem k5_gain (j : Fin 6144) : W11 m ρ c (Proc.devRef .tc main_v39) (ix2 0 j) = (kArgs m c).x9 (ix1 j) :=
  (h5_v39 (W10 m ρ c) j).trans (congrFun (W10_args m ρ c main_arg9 (by decide)) (ix1 j))

theorem k5_cd (i : Fin 256) (j : Fin 6144) :
    Tern.code q5_n (fun k => V11 m ρ c main_v38_2 (ix2 i k)) (fun k => V11 m ρ c main_v39 (ix2 0 k)) j = (kArgs m c).cAt (ix3 (hi i) (lo i) j) :=
  (Tern.code_congr (n' := n6) rfl (fun j => k5_x m ρ c i j) (k5_gain m ρ c) j).trans
    (gCode6144_apply (kArgs m c).ao (kArgs m c).x9 (hi i) (lo i) j).symm

theorem k5_code (i : Fin 256) (j : Fin 6144) : W12 m ρ c (Proc.devRef .tc main_v40_0) (ix2 i j) = (kArgs m c).cAt (ix3 (hi i) (lo i) j) :=
  (congrFun ((W12_arr m ρ c 2).trans (q5_codes (V11 m ρ) c)) (ix2 i j)).trans (k5_cd m ρ c i j)

theorem k5_scale (i : Fin 256) : W12 m ρ c (Proc.devRef .tc main_v40_1) (ix2 i 0) = (kArgs m c).sAt (ix2 (hi i) (lo i)) :=
  (congrFun ((W12_arr m ρ c 3).trans (q5_scale (V11 m ρ) c)) (ix2 i 0)).trans
    ((Tern.scl_congr (n' := n6) rfl (fun j => k5_x m ρ c i j) (k5_gain m ρ c)).trans
      (gScale6144_apply (kArgs m c).ao (kArgs m c).x9 (hi i) (lo i)).symm)

theorem k5_lhs (i : Fin 256) (p : Fin 6144) : W12 m ρ c (Proc.devRef .tc main_v40_3) (ix2 i p)
    = ((((kArgs m c).cAt (ix3 (hi i) (lo i) ⟨Tern.src p.val, Tern.src_lt (C := 48) rfl p.isLt⟩)).toInt : ℝ) : EReal) :=
  (congrFun ((W12_arr m ρ c 5).trans (q5_lhs (V11 m ρ) c)) (ix2 i p)).trans
    (congrArg (fun b : BitVec 8 => ((b.toInt : ℝ) : EReal)) (k5_cd m ρ c i _))

theorem k5_total (i : Fin 256) : W12 m ρ c (Proc.devRef .tc main_v40_4) (ix2 i 0)
    = ∑ j : Fin 6144, ((((kArgs m c).cAt (ix3 (hi i) (lo i) j)).toInt : ℝ) : EReal) :=
  (congrFun ((W12_arr m ρ c 6).trans (q5_total (V11 m ρ) c)) (ix2 i 0)).trans
    (congrArg (fun f : Fin 6144 → EReal => ∑ j, f j) (funext fun j => congrArg (fun b : BitVec 8 => ((b.toInt : ℝ) : EReal)) (k5_cd m ρ c i j)))

theorem k5_rstd (i : Fin 256) : W12 m ρ c (Proc.devRef .tc main_v40_2) (ix2 i 0) = (kArgs m c).rAt (ix2 (hi i) (lo i)) :=
  (congrFun ((W12_arr m ρ c 4).trans (q5_rstd (V11 m ρ) c)) (ix2 i 0)).trans
    ((Tern.rstd_congr (n' := n6) rfl (fun j => k5_x m ρ c i j)).trans (gR6144_apply (kArgs m c).ao (hi i) (lo i)).symm)

theorem k6_mm (i : Fin 256) (j : Fin 6144) :
    Tern.mm (N := 6144) (K4 := 1536) (C := 48) rfl rfl (fun p => V13 m ρ c main_v40_3 (ix2 i p))
      (fun r => V13 m ρ c main_arg10 (ix2 r j)) (V13 m ρ c main_v40_4 (ix2 i 0)) (V13 m ρ c main_v40_1 (ix2 i 0)) (V13 m ρ c main_v41 (ix2 0 0))
      = (kArgs m c).o (ix3 (hi i) (lo i) j) := by
  have hl : ∀ p : Fin 6144, V13 m ρ c main_v40_3 (ix2 i p)
      = ((((kArgs m c).cAt (ix3 (hi i) (lo i) ⟨Tern.src p.val, Tern.src_lt (C := 48) rfl p.isLt⟩)).toInt : ℝ) : EReal) :=
    fun p => (congrFun (W13_of m ρ c main_v40_3 (by decide +kernel)) (ix2 i p)).trans (k5_lhs m ρ c i p)
  have hw : ∀ r : Fin 1536, V13 m ρ c main_arg10 (ix2 r j) = (kArgs m c).x10 (ix2 r j) :=
    fun r => congrFun (W13_args m ρ c main_arg10 (by decide)) (ix2 r j)
  have ht : V13 m ρ c main_v40_4 (ix2 i 0) = ∑ j : Fin 6144, ((((kArgs m c).cAt (ix3 (hi i) (lo i) j)).toInt : ℝ) : EReal) :=
    (congrFun (W13_of m ρ c main_v40_4 (by decide +kernel)) (ix2 i 0)).trans (k5_total m ρ c i)
  have ha : V13 m ρ c main_v40_1 (ix2 i 0) = (kArgs m c).sAt (ix2 (hi i) (lo i)) :=
    (congrFun (W13_of m ρ c main_v40_1 (by decide +kernel)) (ix2 i 0)).trans (k5_scale m ρ c i)
  have hs : V13 m ρ c main_v41 (ix2 0 0) = (kArgs m c).x11 ix0 :=
    (h6_v41 (W12 m ρ c)).trans (congrFun (W12_args m ρ c main_arg11 (by decide)) ix0)
  refine (Tern.mm_congr (N := 6144) (K4 := 1536) (C := 48) rfl rfl hl hw ht ha hs).trans ?_
  refine (Tern.mm_eq (N := 6144) (K4 := 1536) (C := 48) rfl rfl rfl (fun k => (kArgs m c).cAt (ix3 (hi i) (lo i) k)) _ _ _ _ _ (fun _ => rfl) rfl).trans ?_
  exact (gM6144x6144_apply (kArgs m c).cAt (kArgs m c).x10 (kArgs m c).sAt (kArgs m c).x11 (hi i) (lo i) j).symm

theorem k6_x (i : Fin 256) (j : Fin 6144) : W13 m ρ c (Proc.devRef .tc main_v0) (ix2 i j) = (kArgs m c).x0 (ix3 (hi i) (lo i) j) :=
  (congrFun ((((((((((((W13_of m ρ c main_v0 (by decide +kernel)).trans (W12_of m ρ c main_v0 (by decide +kernel))).trans (W11_of m ρ c main_v0 (by decide +kernel))).trans (W10_of m ρ c main_v0 (by decide +kernel))).trans (W9_of m ρ c main_v0 (by decide +kernel))).trans (W8_of m ρ c main_v0 (by decide +kernel))).trans (W7_of m ρ c main_v0 (by decide +kernel))).trans (W6_of m ρ c main_v0 (by decide +kernel))).trans (W5_of m ρ c main_v0 (by decide +kernel))).trans (W4_of m ρ c main_v0 (by decide +kernel))).trans (W3_of m ρ c main_v0 (by decide +kernel))).trans (W2_of m ρ c main_v0 (by decide +kernel))) (ix2 i j)).trans (k0_x m ρ c i j)

theorem k6_out (i : Fin 256) (j : Fin 6144) : W14 m ρ c (Proc.devRef .tc main_v42) (ix2 i j) = (kArgs m c).h (ix3 (hi i) (lo i) j) :=
  (congrFun ((W14_arr m ρ c 6).trans (m6_out (V13 m ρ) c)) (ix2 i j)).trans
    ((congrArg₂ (fun a b : EReal => a + b) (k6_x m ρ c i j) (k6_mm m ρ c i j)).trans (Args.h_apply (kArgs m c) (hi i) (lo i) j).symm)

theorem k7_x (i : Fin 256) (j : Fin 6144) : W15 m ρ c (Proc.devRef .tc main_v42) (ix2 i j) = (kArgs m c).h (ix3 (hi i) (lo i) j) :=
  (congrFun (W15_of m ρ c main_v42 (by decide +kernel)) (ix2 i j)).trans (k6_out m ρ c i j)

theorem k7_gain (j : Fin 6144) : W15 m ρ c (Proc.devRef .tc main_v43) (ix2 0 j) = (kArgs m c).x12 (ix1 j) :=
  (h7_v43 (W14 m ρ c) j).trans (congrFun (W14_args m ρ c main_arg12 (by decide)) (ix1 j))

theorem k7_cd (i : Fin 256) (j : Fin 6144) :
    Tern.code q7_n (fun k => V15 m ρ c main_v42 (ix2 i k)) (fun k => V15 m ρ c main_v43 (ix2 0 k)) j = (kArgs m c).cFf (ix3 (hi i) (lo i) j) :=
  (Tern.code_congr (n' := n6) rfl (fun j => k7_x m ρ c i j) (k7_gain m ρ c) j).trans
    (gCode6144_apply (kArgs m c).h (kArgs m c).x12 (hi i) (lo i) j).symm

theorem k7_code (i : Fin 256) (j : Fin 6144) : W16 m ρ c (Proc.devRef .tc main_v44_0) (ix2 i j) = (kArgs m c).cFf (ix3 (hi i) (lo i) j) :=
  (congrFun ((W16_arr m ρ c 2).trans (q7_codes (V15 m ρ) c)) (ix2 i j)).trans (k7_cd m ρ c i j)

theorem k7_scale (i : Fin 256) : W16 m ρ c (Proc.devRef .tc main_v44_1) (ix2 i 0) = (kArgs m c).sFf (ix2 (hi i) (lo i)) :=
  (congrFun ((W16_arr m ρ c 3).trans (q7_scale (V15 m ρ) c)) (ix2 i 0)).trans
    ((Tern.scl_congr (n' := n6) rfl (fun j => k7_x m ρ c i j) (k7_gain m ρ c)).trans
      (gScale6144_apply (kArgs m c).h (kArgs m c).x12 (hi i) (lo i)).symm)

theorem k7_lhs (i : Fin 256) (p : Fin 6144) : W16 m ρ c (Proc.devRef .tc main_v44_3) (ix2 i p)
    = ((((kArgs m c).cFf (ix3 (hi i) (lo i) ⟨Tern.src p.val, Tern.src_lt (C := 48) rfl p.isLt⟩)).toInt : ℝ) : EReal) :=
  (congrFun ((W16_arr m ρ c 5).trans (q7_lhs (V15 m ρ) c)) (ix2 i p)).trans
    (congrArg (fun b : BitVec 8 => ((b.toInt : ℝ) : EReal)) (k7_cd m ρ c i _))

theorem k7_total (i : Fin 256) : W16 m ρ c (Proc.devRef .tc main_v44_4) (ix2 i 0)
    = ∑ j : Fin 6144, ((((kArgs m c).cFf (ix3 (hi i) (lo i) j)).toInt : ℝ) : EReal) :=
  (congrFun ((W16_arr m ρ c 6).trans (q7_total (V15 m ρ) c)) (ix2 i 0)).trans
    (congrArg (fun f : Fin 6144 → EReal => ∑ j, f j) (funext fun j => congrArg (fun b : BitVec 8 => ((b.toInt : ℝ) : EReal)) (k7_cd m ρ c i j)))

theorem k8_gate (i : Fin 256) (j : Fin 16384) :
    Tern.mm (N := 6144) (K4 := 1536) (C := 48) rfl rfl (fun p => V17 m ρ c main_v44_3 (ix2 i p))
      (fun r => V17 m ρ c main_arg13 (ix2 r j)) (V17 m ρ c main_v44_4 (ix2 i 0)) (V17 m ρ c main_v44_1 (ix2 i 0)) (V17 m ρ c main_v45 (ix2 0 0))
      = (kArgs m c).gate (ix3 (hi i) (lo i) j) := by
  have hl : ∀ p : Fin 6144, V17 m ρ c main_v44_3 (ix2 i p)
      = ((((kArgs m c).cFf (ix3 (hi i) (lo i) ⟨Tern.src p.val, Tern.src_lt (C := 48) rfl p.isLt⟩)).toInt : ℝ) : EReal) :=
    fun p => (congrFun (W17_of m ρ c main_v44_3 (by decide +kernel)) (ix2 i p)).trans (k7_lhs m ρ c i p)
  have hw : ∀ r : Fin 1536, V17 m ρ c main_arg13 (ix2 r j) = (kArgs m c).x13 (ix2 r j) :=
    fun r => congrFun (W17_args m ρ c main_arg13 (by decide)) (ix2 r j)
  have ht : V17 m ρ c main_v44_4 (ix2 i 0) = ∑ j : Fin 6144, ((((kArgs m c).cFf (ix3 (hi i) (lo i) j)).toInt : ℝ) : EReal) :=
    (congrFun (W17_of m ρ c main_v44_4 (by decide +kernel)) (ix2 i 0)).trans (k7_total m ρ c i)
  have ha : V17 m ρ c main_v44_1 (ix2 i 0) = (kArgs m c).sFf (ix2 (hi i) (lo i)) :=
    (congrFun (W17_of m ρ c main_v44_1 (by decide +kernel)) (ix2 i 0)).trans (k7_scale m ρ c i)
  have hs : V17 m ρ c main_v45 (ix2 0 0) = (kArgs m c).x14 ix0 :=
    (h8_v45 (W16 m ρ c)).trans (congrFun (W16_args m ρ c main_arg14 (by decide)) ix0)
  refine (Tern.mm_congr (N := 6144) (K4 := 1536) (C := 48) rfl rfl hl hw ht ha hs).trans ?_
  refine (Tern.mm_eq (N := 6144) (K4 := 1536) (C := 48) rfl rfl rfl (fun k => (kArgs m c).cFf (ix3 (hi i) (lo i) k)) _ _ _ _ _ (fun _ => rfl) rfl).trans ?_
  exact (gM6144x16384_apply (kArgs m c).cFf (kArgs m c).x13 (kArgs m c).sFf (kArgs m c).x14 (hi i) (lo i) j).symm

theorem k8_up (i : Fin 256) (j : Fin 16384) :
    Tern.mm (N := 6144) (K4 := 1536) (C := 48) rfl rfl (fun p => V17 m ρ c main_v44_3 (ix2 i p))
      (fun r => V17 m ρ c main_arg15 (ix2 r j)) (V17 m ρ c main_v44_4 (ix2 i 0)) (V17 m ρ c main_v44_1 (ix2 i 0)) (V17 m ρ c main_v46 (ix2 0 0))
      = (kArgs m c).up (ix3 (hi i) (lo i) j) := by
  have hl : ∀ p : Fin 6144, V17 m ρ c main_v44_3 (ix2 i p)
      = ((((kArgs m c).cFf (ix3 (hi i) (lo i) ⟨Tern.src p.val, Tern.src_lt (C := 48) rfl p.isLt⟩)).toInt : ℝ) : EReal) :=
    fun p => (congrFun (W17_of m ρ c main_v44_3 (by decide +kernel)) (ix2 i p)).trans (k7_lhs m ρ c i p)
  have hw : ∀ r : Fin 1536, V17 m ρ c main_arg15 (ix2 r j) = (kArgs m c).x15 (ix2 r j) :=
    fun r => congrFun (W17_args m ρ c main_arg15 (by decide)) (ix2 r j)
  have ht : V17 m ρ c main_v44_4 (ix2 i 0) = ∑ j : Fin 6144, ((((kArgs m c).cFf (ix3 (hi i) (lo i) j)).toInt : ℝ) : EReal) :=
    (congrFun (W17_of m ρ c main_v44_4 (by decide +kernel)) (ix2 i 0)).trans (k7_total m ρ c i)
  have ha : V17 m ρ c main_v44_1 (ix2 i 0) = (kArgs m c).sFf (ix2 (hi i) (lo i)) :=
    (congrFun (W17_of m ρ c main_v44_1 (by decide +kernel)) (ix2 i 0)).trans (k7_scale m ρ c i)
  have hs : V17 m ρ c main_v46 (ix2 0 0) = (kArgs m c).x16 ix0 :=
    (h8_v46 (W16 m ρ c)).trans (congrFun (W16_args m ρ c main_arg16 (by decide)) ix0)
  refine (Tern.mm_congr (N := 6144) (K4 := 1536) (C := 48) rfl rfl hl hw ht ha hs).trans ?_
  refine (Tern.mm_eq (N := 6144) (K4 := 1536) (C := 48) rfl rfl rfl (fun k => (kArgs m c).cFf (ix3 (hi i) (lo i) k)) _ _ _ _ _ (fun _ => rfl) rfl).trans ?_
  exact (gM6144x16384_apply (kArgs m c).cFf (kArgs m c).x15 (kArgs m c).sFf (kArgs m c).x16 (hi i) (lo i) j).symm

theorem k8_out (i : Fin 256) (j : Fin 16384) : W18 m ρ c (Proc.devRef .tc main_v47) (ix2 i j) = (kArgs m c).act (ix3 (hi i) (lo i) j) :=
  (congrFun ((W18_arr m ρ c 7).trans (m8_out (V17 m ρ) c)) (ix2 i j)).trans
    ((congrArg₂ Tern.glu (k8_gate m ρ c i j) (k8_up m ρ c i j)).trans (Args.act_apply (kArgs m c) (hi i) (lo i) j).symm)

end Cert.KernelIdeal.Gen
end
-- ==== Proof.Q9.lean ====
/- The normalisation and quantisation of region 9: what each of its result arrays holds, row by row. -/
module

public import proofs.«01_k».proof.Proof.Gen.KernelIdeal.Frame.Region9
public import proofs.«01_k».proof.Proof.Gather

@[expose] public section
set_option maxRecDepth 65536
noncomputable section
namespace Cert.KernelIdeal.Gen
open Idealize.ShloMosaic Idealize.SL.Sem Idealize.ShloMosaic.TcCoe

variable (V : (c : Dev nD) → (b : Ref sig .tc) → Buf (Elt Ideal) ((c : Thread nD τ).loc b)) (c : Dev nD)

/-- The divisor of the mean. -/
abbrev q9_n : EReal := Ideal.ofBits .f32 0x46800000#32

theorem q9_pay4 (x : Vec Ideal S32x16384 .f32) (r : Fin 32) :
    k9_pay4 x (ix2 r 0) = Tern.rstd q9_n (fun k => x (ix2 r k)) := by
  pointwise [k9_pay4, k9_pay3]
  rfl
theorem q9_pay5 (x : Vec Ideal S32x16384 .f32) (g : Vec Ideal S1x16384 .f32) (r : Fin 32) (j : Fin 16384) :
    k9_pay5 x g (ix2 r j) = Tern.nrm q9_n (fun k => x (ix2 r k)) (fun k => g (ix2 0 k)) j := by
  pointwise [k9_pay5, k9_pay3]
  rw [q9_pay4]; rfl
theorem q9_pay6 (x : Vec Ideal S32x16384 .f32) (g : Vec Ideal S1x16384 .f32) (r : Fin 32) :
    k9_pay6 x g (ix2 r 0) = Tern.scl q9_n (fun k => x (ix2 r k)) (fun k => g (ix2 0 k)) := by
  pointwise [k9_pay6]
  simp only [q9_pay5]
  rfl
theorem q9_pay7 (x : Vec Ideal S32x16384 .f32) (g : Vec Ideal S1x16384 .f32) (r : Fin 32) (j : Fin 16384) :
    k9_pay7 x g (ix2 r j) = Tern.qv q9_n (fun k => x (ix2 r k)) (fun k => g (ix2 0 k)) j := by
  pointwise [k9_pay7]
  rw [q9_pay5, q9_pay6]; rfl
theorem q9_pay8 (x : Vec Ideal S32x16384 .f32) (g : Vec Ideal S1x16384 .f32) (r : Fin 32) (j : Fin 16384) :
    k9_pay8 x g (ix2 r j) = Tern.code q9_n (fun k => x (ix2 r k)) (fun k => g (ix2 0 k)) j := by
  pointwise [k9_pay8]
  rw [q9_pay7]; rfl
theorem q9_pay9 (y : Vec Ideal S32x16384 .f32) (r : Fin 32) :
    (k9_pay9 y : FVec Ideal S32x1 .f32) (ix2 r 0) = ∑ k, y (ix2 r k) := by
  pointwise [k9_pay9]

theorem q9_idx : ∀ t : Fin cfg9.N, (cfg9.win 0).index t = ![t.val, 0] ∧ (cfg9.win 1).index t = ![0, 0]
    ∧ (cfg9.win 2).index t = ![t.val, 0] ∧ (cfg9.win 3).index t = ![t.val, 0] ∧ (cfg9.win 4).index t = ![t.val, 0]
    ∧ (cfg9.win 5).index t = ![t.val, 0] ∧ (cfg9.win 6).index t = ![t.val, 0] := by
  decide +kernel

theorem q9_row0 (t : Fin cfg9.N) (r : Fin 32) (k : Fin 16384) (h : 32 * t.val + r.val < 256) :
    iblk9 V c 0 t (ix2 r k) = V c main_v47 (ix2 ⟨32 * t.val + r.val, h⟩ k) := by
  blk_ext [iblk9, q9_idx t]
theorem q9_row1 (t : Fin cfg9.N) (k : Fin 16384) :
    iblk9 V c 1 t (ix2 0 k) = V c main_v48 (ix2 0 k) := by
  blk_ext [iblk9, q9_idx t]

theorem q9_lanes : ∀ (r : Fin 8) (l : Fin 128), (k9_pay11 : IVec S8x128 32) (ix2 r l) = BitVec.ofNat 32 (4 * (l.val % 32) + l.val / 32) := by
  intro r l
  pointwise [k9_pay11]
  exact (by decide +kernel : ∀ l : Fin 128, IntOp.addi (IntOp.muli 4#32 (IntOp.andi (BitVec.ofNat 32 l.val) 31#32))
    (IntOp.shrsi .vector (BitVec.ofNat 32 l.val) 5#32) = BitVec.ofNat 32 (4 * (l.val % 32) + l.val / 32)) l

theorem q9_slices : ∀ n : Fin 128, S8x16384.Slices ![0, 128 * n.val] S8x128 := by decide +kernel

theorem q9_pay2 (z : IVec S32x16384 8) (L : List ((s : Shape) × (s.Idx → BitVec 32))) (hc)
    (hL : L = List.ofFn fun n : Fin 128 => (⟨S8x128, Tern.gchunk (k9_pay10 z) k9_pay11 (128 * n.val) (q9_slices n)
      shapeCasts_S8x128_S8x128x1 shapeCasts_S8x128x1_S8x128⟩ : (s : Shape) × (s.Idx → BitVec 32))) (p : Fin 32) (j : Fin 16384) :
    (k9_pay2 (concatenate S8x16384 1 L hc) : FVec Ideal S32x16384 .bf16) (ix2 p j)
      = (((z (ix2 p ⟨Tern.src j.val, Tern.src_lt (C := 128) rfl j.isLt⟩)).toInt : ℝ) : EReal) := by
  subst hL
  refine congrArg (fun b : BitVec 8 => ((b.toInt : ℝ) : EReal)) ?_
  have hp := p.isLt
  refine Tern.bytes_of_words z _ bitcasts_S32x16384_w8_S8x16384_w32 bitcasts_S8x16384_w32_S32x16384_w8 p j _ (by omega) ?_
  exact Tern.gather_apply (C := 128) rfl _ _ q9_slices _ _ q9_lanes hc _ j

/-- The pieces of the reordered words. -/
def k9_list (x0 : Vec Ideal S32x16384 .f32) (x1 : Vec Ideal S1x16384 .f32) : List ((s : Shape) × (s.Idx → BitVec 32)) :=
  ⟨S8x128, (k9_pay12 (k9_pay182 x0 x1))⟩ :: ⟨S8x128, (k9_pay13 (k9_pay182 x0 x1))⟩ :: ⟨S8x128, (k9_pay14 (k9_pay182 x0 x1))⟩ :: ⟨S8x128, (k9_pay17 (k9_pay15 (k9_pay182 x0 x1)) k9_pay16)⟩ :: ⟨S8x128, (k9_pay18 (k9_pay183 x0 x1) (k9_pay184 x0 x1))⟩ :: ⟨S8x128, (k9_pay19 (k9_pay183 x0 x1) (k9_pay184 x0 x1))⟩ :: ⟨S8x128, (k9_pay20 (k9_pay183 x0 x1) (k9_pay184 x0 x1))⟩ :: ⟨S8x128, (k9_pay21 (k9_pay183 x0 x1) (k9_pay184 x0 x1))⟩ :: ⟨S8x128, (k9_pay22 (k9_pay183 x0 x1) (k9_pay184 x0 x1))⟩ :: ⟨S8x128, (k9_pay25 (k9_pay184 x0 x1) (k9_pay23 (k9_pay183 x0 x1)) k9_pay24)⟩ :: ⟨S8x128, (k9_pay26 (k9_pay183 x0 x1) (k9_pay184 x0 x1))⟩ :: ⟨S8x128, (k9_pay27 (k9_pay183 x0 x1) (k9_pay184 x0 x1))⟩ :: ⟨S8x128, (k9_pay28 (k9_pay183 x0 x1) (k9_pay184 x0 x1))⟩ :: ⟨S8x128, (k9_pay29 (k9_pay183 x0 x1) (k9_pay184 x0 x1))⟩ :: ⟨S8x128, (k9_pay32 (k9_pay30 (k9_pay183 x0 x1)) (k9_pay31 (k9_pay184 x0 x1)))⟩ :: ⟨S8x128, (k9_pay33 (k9_pay183 x0 x1) (k9_pay184 x0 x1))⟩ :: ⟨S8x128, (k9_pay34 (k9_pay183 x0 x1) (k9_pay184 x0 x1))⟩ :: ⟨S8x128, (k9_pay35 (k9_pay183 x0 x1) (k9_pay184 x0 x1))⟩ :: ⟨S8x128, (k9_pay36 (k9_pay183 x0 x1) (k9_pay184 x0 x1))⟩ :: ⟨S8x128, (k9_pay37 (k9_pay183 x0 x1) (k9_pay184 x0 x1))⟩ :: ⟨S8x128, (k9_pay39 (k9_pay184 x0 x1) (k9_pay38 (k9_pay183 x0 x1)) 0#32)⟩ :: ⟨S8x128, (k9_pay40 (k9_pay183 x0 x1) (k9_pay184 x0 x1))⟩ :: ⟨S8x128, (k9_pay41 (k9_pay183 x0 x1) (k9_pay184 x0 x1))⟩ :: ⟨S8x128, (k9_pay42 (k9_pay183 x0 x1) (k9_pay184 x0 x1))⟩ :: ⟨S8x128, (k9_pay43 (k9_pay183 x0 x1) (k9_pay184 x0 x1))⟩ :: ⟨S8x128, (k9_pay47 (k9_pay184 x0 x1) (k9_pay44 (k9_pay183 x0 x1)) (k9_pay45 (k9_pay184 x0 x1)) (k9_pay46 (k9_pay184 x0 x1)))⟩ :: ⟨S8x128, (k9_pay48 (k9_pay183 x0 x1) (k9_pay184 x0 x1))⟩ :: ⟨S8x128, (k9_pay49 (k9_pay183 x0 x1) (k9_pay184 x0 x1))⟩ :: ⟨S8x128, (k9_pay50 (k9_pay183 x0 x1) (k9_pay184 x0 x1))⟩ :: ⟨S8x128, (k9_pay51 (k9_pay183 x0 x1) (k9_pay184 x0 x1))⟩ :: ⟨S8x128, (k9_pay52 (k9_pay183 x0 x1) (k9_pay184 x0 x1))⟩ :: ⟨S8x128, (k9_pay54 (k9_pay184 x0 x1) (k9_pay53 (k9_pay183 x0 x1)))⟩ :: ⟨S8x128, (k9_pay55 (k9_pay183 x0 x1) (k9_pay184 x0 x1))⟩ :: ⟨S8x128, (k9_pay56 (k9_pay183 x0 x1) (k9_pay184 x0 x1))⟩ :: ⟨S8x128, (k9_pay57 (k9_pay183 x0 x1) (k9_pay184 x0 x1))⟩ :: ⟨S8x128, (k9_pay58 (k9_pay183 x0 x1) (k9_pay184 x0 x1))⟩ :: ⟨S8x128, (k9_pay62 (k9_pay184 x0 x1) (k9_pay59 (k9_pay183 x0 x1)) (k9_pay60 (k9_pay184 x0 x1)) k9_pay61)⟩ :: ⟨S8x128, (k9_pay63 (k9_pay183 x0 x1) (k9_pay184 x0 x1))⟩ :: ⟨S8x128, (k9_pay64 (k9_pay183 x0 x1) (k9_pay184 x0 x1))⟩ :: ⟨S8x128, (k9_pay65 (k9_pay183 x0 x1) (k9_pay184 x0 x1))⟩ :: ⟨S8x128, (k9_pay66 (k9_pay183 x0 x1) (k9_pay184 x0 x1))⟩ :: ⟨S8x128, (k9_pay67 (k9_pay183 x0 x1) (k9_pay184 x0 x1))⟩ :: ⟨S8x128, (k9_pay68 (k9_pay183 x0 x1) (k9_pay184 x0 x1))⟩ :: ⟨S8x128, (k9_pay69 (k9_pay183 x0 x1) (k9_pay184 x0 x1))⟩ :: ⟨S8x128, (k9_pay70 (k9_pay183 x0 x1) (k9_pay184 x0 x1))⟩ :: ⟨S8x128, (k9_pay71 (k9_pay183 x0 x1) (k9_pay184 x0 x1))⟩ :: ⟨S8x128, (k9_pay72 (k9_pay183 x0 x1) (k9_pay184 x0 x1))⟩ :: ⟨S8x128, (k9_pay75 (k9_pay184 x0 x1) (k9_pay73 (k9_pay183 x0 x1)) (k9_pay74 (k9_pay184 x0 x1)) 128#32)⟩ :: ⟨S8x128, (k9_pay76 (k9_pay183 x0 x1) (k9_pay184 x0 x1))⟩ :: ⟨S8x128, (k9_pay77 (k9_pay183 x0 x1) (k9_pay184 x0 x1))⟩ :: ⟨S8x128, (k9_pay78 (k9_pay183 x0 x1) (k9_pay184 x0 x1))⟩ :: ⟨S8x128, (k9_pay79 (k9_pay183 x0 x1) (k9_pay184 x0 x1))⟩ :: ⟨S8x128, (k9_pay82 (k9_pay80 (k9_pay183 x0 x1)) (k9_pay81 (k9_pay184 x0 x1)))⟩ :: ⟨S8x128, (k9_pay83 (k9_pay183 x0 x1) (k9_pay184 x0 x1))⟩ :: ⟨S8x128, (k9_pay84 (k9_pay183 x0 x1) (k9_pay184 x0 x1))⟩ :: ⟨S8x128, (k9_pay85 (k9_pay183 x0 x1) (k9_pay184 x0 x1))⟩ :: ⟨S8x128, (k9_pay86 (k9_pay183 x0 x1) (k9_pay184 x0 x1))⟩ :: ⟨S8x128, (k9_pay87 (k9_pay183 x0 x1) (k9_pay184 x0 x1))⟩ :: ⟨S8x128, (k9_pay90 (k9_pay184 x0 x1) (k9_pay88 (k9_pay183 x0 x1)) (k9_pay89 (k9_pay184 x0 x1)))⟩ :: ⟨S8x128, (k9_pay91 (k9_pay183 x0 x1) (k9_pay184 x0 x1))⟩ :: ⟨S8x128, (k9_pay92 (k9_pay183 x0 x1) (k9_pay184 x0 x1))⟩ :: ⟨S8x128, (k9_pay93 (k9_pay183 x0 x1) (k9_pay184 x0 x1))⟩ :: ⟨S8x128, (k9_pay94 (k9_pay183 x0 x1) (k9_pay184 x0 x1))⟩ :: ⟨S8x128, (k9_pay97 (k9_pay95 (k9_pay183 x0 x1)) (k9_pay96 (k9_pay184 x0 x1)))⟩ :: ⟨S8x128, (k9_pay98 (k9_pay183 x0 x1) (k9_pay184 x0 x1))⟩ :: ⟨S8x128, (k9_pay99 (k9_pay183 x0 x1) (k9_pay184 x0 x1))⟩ :: ⟨S8x128, (k9_pay100 (k9_pay183 x0 x1) (k9_pay184 x0 x1))⟩ :: ⟨S8x128, (k9_pay101 (k9_pay183 x0 x1) (k9_pay184 x0 x1))⟩ :: ⟨S8x128, (k9_pay102 (k9_pay183 x0 x1) (k9_pay184 x0 x1))⟩ :: ⟨S8x128, (k9_pay105 (k9_pay184 x0 x1) (k9_pay103 (k9_pay183 x0 x1)) k9_pay104)⟩ :: ⟨S8x128, (k9_pay106 (k9_pay183 x0 x1) (k9_pay184 x0 x1))⟩ :: ⟨S8x128, (k9_pay107 (k9_pay183 x0 x1) (k9_pay184 x0 x1))⟩ :: ⟨S8x128, (k9_pay108 (k9_pay183 x0 x1) (k9_pay184 x0 x1))⟩ :: ⟨S8x128, (k9_pay109 (k9_pay183 x0 x1) (k9_pay184 x0 x1))⟩ :: ⟨S8x128, (k9_pay112 (k9_pay110 (k9_pay183 x0 x1)) (k9_pay111 (k9_pay184 x0 x1)))⟩ :: ⟨S8x128, (k9_pay113 (k9_pay183 x0 x1) (k9_pay184 x0 x1))⟩ :: ⟨S8x128, (k9_pay114 (k9_pay183 x0 x1) (k9_pay184 x0 x1))⟩ :: ⟨S8x128, (k9_pay115 (k9_pay183 x0 x1) (k9_pay184 x0 x1))⟩ :: ⟨S8x128, (k9_pay116 (k9_pay183 x0 x1) (k9_pay184 x0 x1))⟩ :: ⟨S8x128, (k9_pay117 (k9_pay183 x0 x1) (k9_pay184 x0 x1))⟩ :: ⟨S8x128, (k9_pay119 (k9_pay184 x0 x1) (k9_pay118 (k9_pay183 x0 x1)) 0#32)⟩ :: ⟨S8x128, (k9_pay120 (k9_pay183 x0 x1) (k9_pay184 x0 x1))⟩ :: ⟨S8x128, (k9_pay121 (k9_pay183 x0 x1) (k9_pay184 x0 x1))⟩ :: ⟨S8x128, (k9_pay122 (k9_pay183 x0 x1) (k9_pay184 x0 x1))⟩ :: ⟨S8x128, (k9_pay123 (k9_pay183 x0 x1) (k9_pay184 x0 x1))⟩ :: ⟨S8x128, (k9_pay127 (k9_pay184 x0 x1) (k9_pay124 (k9_pay183 x0 x1)) (k9_pay125 (k9_pay184 x0 x1)) (k9_pay126 (k9_pay184 x0 x1)))⟩ :: ⟨S8x128, (k9_pay128 (k9_pay183 x0 x1) (k9_pay184 x0 x1))⟩ :: ⟨S8x128, (k9_pay129 (k9_pay183 x0 x1) (k9_pay184 x0 x1))⟩ :: ⟨S8x128, (k9_pay130 (k9_pay183 x0 x1) (k9_pay184 x0 x1))⟩ :: ⟨S8x128, (k9_pay131 (k9_pay183 x0 x1) (k9_pay184 x0 x1))⟩ :: ⟨S8x128, (k9_pay132 (k9_pay183 x0 x1) (k9_pay184 x0 x1))⟩ :: ⟨S8x128, (k9_pay134 (k9_pay184 x0 x1) (k9_pay133 (k9_pay183 x0 x1)))⟩ :: ⟨S8x128, (k9_pay135 (k9_pay183 x0 x1) (k9_pay184 x0 x1))⟩ :: ⟨S8x128, (k9_pay136 (k9_pay183 x0 x1) (k9_pay184 x0 x1))⟩ :: ⟨S8x128, (k9_pay137 (k9_pay183 x0 x1) (k9_pay184 x0 x1))⟩ :: ⟨S8x128, (k9_pay138 (k9_pay183 x0 x1) (k9_pay184 x0 x1))⟩ :: ⟨S8x128, (k9_pay142 (k9_pay184 x0 x1) (k9_pay139 (k9_pay183 x0 x1)) (k9_pay140 (k9_pay184 x0 x1)) k9_pay141)⟩ :: ⟨S8x128, (k9_pay143 (k9_pay183 x0 x1) (k9_pay184 x0 x1))⟩ :: ⟨S8x128, (k9_pay144 (k9_pay183 x0 x1) (k9_pay184 x0 x1))⟩ :: ⟨S8x128, (k9_pay145 (k9_pay183 x0 x1) (k9_pay184 x0 x1))⟩ :: ⟨S8x128, (k9_pay146 (k9_pay183 x0 x1) (k9_pay184 x0 x1))⟩ :: ⟨S8x128, (k9_pay147 (k9_pay183 x0 x1) (k9_pay184 x0 x1))⟩ :: ⟨S8x128, (k9_pay148 (k9_pay183 x0 x1) (k9_pay184 x0 x1))⟩ :: ⟨S8x128, (k9_pay149 (k9_pay183 x0 x1) (k9_pay184 x0 x1))⟩ :: ⟨S8x128, (k9_pay150 (k9_pay183 x0 x1) (k9_pay184 x0 x1))⟩ :: ⟨S8x128, (k9_pay151 (k9_pay183 x0 x1) (k9_pay184 x0 x1))⟩ :: ⟨S8x128, (k9_pay152 (k9_pay183 x0 x1) (k9_pay184 x0 x1))⟩ :: ⟨S8x128, (k9_pay155 (k9_pay184 x0 x1) (k9_pay153 (k9_pay183 x0 x1)) (k9_pay154 (k9_pay184 x0 x1)) 128#32)⟩ :: ⟨S8x128, (k9_pay156 (k9_pay183 x0 x1) (k9_pay184 x0 x1))⟩ :: ⟨S8x128, (k9_pay157 (k9_pay183 x0 x1) (k9_pay184 x0 x1))⟩ :: ⟨S8x128, (k9_pay158 (k9_pay183 x0 x1) (k9_pay184 x0 x1))⟩ :: ⟨S8x128, (k9_pay159 (k9_pay183 x0 x1) (k9_pay184 x0 x1))⟩ :: ⟨S8x128, (k9_pay162 (k9_pay160 (k9_pay183 x0 x1)) (k9_pay161 (k9_pay184 x0 x1)))⟩ :: ⟨S8x128, (k9_pay163 (k9_pay183 x0 x1) (k9_pay184 x0 x1))⟩ :: ⟨S8x128, (k9_pay164 (k9_pay183 x0 x1) (k9_pay184 x0 x1))⟩ :: ⟨S8x128, (k9_pay165 (k9_pay183 x0 x1) (k9_pay184 x0 x1))⟩ :: ⟨S8x128, (k9_pay166 (k9_pay183 x0 x1) (k9_pay184 x0 x1))⟩ :: ⟨S8x128, (k9_pay167 (k9_pay183 x0 x1) (k9_pay184 x0 x1))⟩ :: ⟨S8x128, (k9_pay170 (k9_pay184 x0 x1) (k9_pay168 (k9_pay183 x0 x1)) (k9_pay169 (k9_pay184 x0 x1)))⟩ :: ⟨S8x128, (k9_pay171 (k9_pay183 x0 x1) (k9_pay184 x0 x1))⟩ :: ⟨S8x128, (k9_pay172 (k9_pay183 x0 x1) (k9_pay184 x0 x1))⟩ :: ⟨S8x128, (k9_pay173 (k9_pay183 x0 x1) (k9_pay184 x0 x1))⟩ :: ⟨S8x128, (k9_pay174 (k9_pay183 x0 x1) (k9_pay184 x0 x1))⟩ :: ⟨S8x128, (k9_pay177 (k9_pay175 (k9_pay183 x0 x1)) (k9_pay176 (k9_pay184 x0 x1)))⟩ :: ⟨S8x128, (k9_pay178 (k9_pay183 x0 x1) (k9_pay184 x0 x1))⟩ :: ⟨S8x128, (k9_pay179 (k9_pay183 x0 x1) (k9_pay184 x0 x1))⟩ :: ⟨S8x128, (k9_pay180 (k9_pay183 x0 x1) (k9_pay184 x0 x1))⟩ :: ⟨S8x128, (k9_pay1 (k9_pay184 x0 x1) (k9_pay181 (k9_pay183 x0 x1)))⟩ :: []

theorem q9_out5 (x0 : Vec Ideal S32x16384 .f32) (x1 : Vec Ideal S1x16384 .f32) (p : Fin 32) (j : Fin 16384) :
    out9_5 x0 x1 (ix2 p j) = (((Tern.code q9_n (fun k => x0 (ix2 p k)) (fun k => x1 (ix2 0 k))
      ⟨Tern.src j.val, Tern.src_lt (C := 128) rfl j.isLt⟩).toInt : ℝ) : EReal) := by
  unfold out9_5
  frame_out
  have hL := q9_pay2 (k9_pay182 x0 x1) (k9_list x0 x1) concatenates_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x16384_d1 rfl p j
  refine hL.trans ?_
  have e : k9_pay182 x0 x1 = k9_pay8 x0 x1 := by
    unfold k9_pay182
    frame_out
  rw [e, q9_pay8]

/-- The codes. -/
theorem q9_codes : (dat9 V c).arrAt 2 cfg9.N = fun i => Tern.code q9_n (fun k => V c main_v47 (ix2 (i 0) k)) (fun k => V c main_v48 (ix2 0 k)) (i 1) := by
  refine (dat9 V c).arrAt_eq_of_covers 2 _ (by decide +kernel) fun t hf y => ?_
  blk_simp
  rw [after9_2]
  frame_out
  have ht : t.val < 8 := t.isLt
  have hy : (y 0).val < 32 := (y 0).isLt
  have e0 : ((View.whole main_v49_0).slice (win9_2.rect t)).emb y 0 = (⟨32 * t.val + (y 0).val, by omega⟩ : Fin 256) :=
    Fin.ext (by blk_simp [q9_idx t]; try (show _ = 32 * t.val + (y 0).val; omega))
  have e1 : ((View.whole main_v49_0).slice (win9_2.rect t)).emb y 1 = (y 1 : Fin 16384) :=
    Fin.ext (by blk_simp [q9_idx t]; try (show _ = (y 1).val; omega))
  simp only [e0, e1]
  refine Eq.trans (congrArg _ (ix2_eta y).symm) ?_
  refine (q9_pay8 _ _ (y 0) (y 1)).trans ?_
  simp only [q9_row1, q9_row0 V c t (y 0) _ (by omega)]

/-- The scale of a row. -/
theorem q9_scale : (dat9 V c).arrAt 3 cfg9.N = fun i => Tern.scl q9_n (fun k => V c main_v47 (ix2 (i 0) k)) (fun k => V c main_v48 (ix2 0 k)) := by
  refine (dat9 V c).arrAt_eq_of_covers 3 _ (by decide +kernel) fun t hf y => ?_
  blk_simp
  rw [after9_3]
  frame_out
  have ht : t.val < 8 := t.isLt
  have hy : (y 0).val < 32 := (y 0).isLt
  have e0 : ((View.whole main_v49_1).slice (win9_3.rect t)).emb y 0 = (⟨32 * t.val + (y 0).val, by omega⟩ : Fin 256) :=
    Fin.ext (by blk_simp [q9_idx t]; try (show _ = 32 * t.val + (y 0).val; omega))
  simp only [e0]
  have hz : (y 1).val < 1 := (y 1).isLt
  have ey : y = ix2 (y 0) 0 := (ix2_eta y).symm.trans (congrArg (ix2 (y 0)) (Fin.ext (by show (y 1).val = 0; omega)))
  refine Eq.trans (congrArg _ ey) ?_
  refine (q9_pay6 _ _ (y 0)).trans ?_
  simp only [q9_row1, q9_row0 V c t (y 0) _ (by omega)]

/-- The reciprocal of a row's root mean square. -/
theorem q9_rstd : (dat9 V c).arrAt 4 cfg9.N = fun i => Tern.rstd q9_n (fun k => V c main_v47 (ix2 (i 0) k)) := by
  refine (dat9 V c).arrAt_eq_of_covers 4 _ (by decide +kernel) fun t hf y => ?_
  blk_simp
  rw [after9_4]
  frame_out
  have ht : t.val < 8 := t.isLt
  have hy : (y 0).val < 32 := (y 0).isLt
  have e0 : ((View.whole main_v49_2).slice (win9_4.rect t)).emb y 0 = (⟨32 * t.val + (y 0).val, by omega⟩ : Fin 256) :=
    Fin.ext (by blk_simp [q9_idx t]; try (show _ = 32 * t.val + (y 0).val; omega))
  simp only [e0]
  have hz : (y 1).val < 1 := (y 1).isLt
  have ey : y = ix2 (y 0) 0 := (ix2_eta y).symm.trans (congrArg (ix2 (y 0)) (Fin.ext (by show (y 1).val = 0; omega)))
  refine Eq.trans (congrArg _ ey) ?_
  refine (q9_pay4 _ (y 0)).trans ?_
  simp only [q9_row0 V c t (y 0) _ (by omega)]

/-- The codes in the order the matmul reads them. -/
theorem q9_lhs : (dat9 V c).arrAt 5 cfg9.N = fun i => (((Tern.code q9_n (fun k => V c main_v47 (ix2 (i 0) k)) (fun k => V c main_v48 (ix2 0 k))
      ⟨Tern.src (i 1).val, Tern.src_lt (C := 128) rfl (i 1).isLt⟩).toInt : ℝ) : EReal) := by
  refine (dat9 V c).arrAt_eq_of_covers 5 _ (by decide +kernel) fun t hf y => ?_
  blk_simp
  rw [after9_5]
  have ht : t.val < 8 := t.isLt
  have hy : (y 0).val < 32 := (y 0).isLt
  have e0 : ((View.whole main_v49_3).slice (win9_5.rect t)).emb y 0 = (⟨32 * t.val + (y 0).val, by omega⟩ : Fin 256) :=
    Fin.ext (by blk_simp [q9_idx t]; try (show _ = 32 * t.val + (y 0).val; omega))
  have e1 : ((View.whole main_v49_3).slice (win9_5.rect t)).emb y 1 = (y 1 : Fin 16384) :=
    Fin.ext (by blk_simp [q9_idx t]; try (show _ = (y 1).val; omega))
  simp only [e0, e1]
  refine Eq.trans (congrArg _ (ix2_eta y).symm) ?_
  refine (q9_out5 _ _ (y 0) (y 1)).trans ?_
  have e2 : win9_5.index t 1 = 0 := congrFun (q9_idx t).2.2.2.2.2.1 1
  simp only [e2, Nat.zero_mul, Nat.zero_add, q9_row1, q9_row0 V c t (y 0) _ (by omega)]

/-- The sum of a row's codes. -/
theorem q9_total : (dat9 V c).arrAt 6 cfg9.N = fun i => ∑ j, (((Tern.code q9_n (fun k => V c main_v47 (ix2 (i 0) k)) (fun k => V c main_v48 (ix2 0 k)) j).toInt : ℝ) : EReal) := by
  refine (dat9 V c).arrAt_eq_of_covers 6 _ (by decide +kernel) fun t hf y => ?_
  blk_simp
  rw [after9_6]
  frame_out
  have ht : t.val < 8 := t.isLt
  have hy : (y 0).val < 32 := (y 0).isLt
  have e0 : ((View.whole main_v49_4).slice (win9_6.rect t)).emb y 0 = (⟨32 * t.val + (y 0).val, by omega⟩ : Fin 256) :=
    Fin.ext (by blk_simp [q9_idx t]; try (show _ = 32 * t.val + (y 0).val; omega))
  simp only [e0]
  have hz : (y 1).val < 1 := (y 1).isLt
  have ey : y = ix2 (y 0) 0 := (ix2_eta y).symm.trans (congrArg (ix2 (y 0)) (Fin.ext (by show (y 1).val = 0; omega)))
  refine Eq.trans (congrArg _ ey) ?_
  refine (q9_pay9 _ (y 0)).trans ?_
  refine (Finset.sum_congr rfl fun k _ => q9_pay7 _ _ (y 0) k).trans ?_
  simp only [Tern.coe_toInt_code, q9_row1, q9_row0 V c t (y 0) _ (by omega)]

end Cert.KernelIdeal.Gen
end
-- ==== Proof.M10.lean ====
module

public import proofs.«01_k».proof.Proof.Gen.KernelIdeal.Frame.Region10
public import proofs.«01_k».proof.Proof.Wide

/-! Call 10: a product with a packed weight, one block of columns per grid step. The result at a row and a column
is the widened product of the prepared operand's row with the weight's column. -/

@[expose] public section
set_option maxRecDepth 65536
noncomputable section
namespace Cert.KernelIdeal.Gen
open Idealize.ShloMosaic Idealize.SL.Sem Idealize.ShloMosaic.TcCoe

variable (V : (c : Dev nD) → (b : Ref sig .tc) → Buf (Elt Ideal) ((c : Thread nD τ).loc b)) (c : Dev nD)

theorem m10_mul (x : Vec Ideal S256x16384 .bf16) (w : Vec Ideal S16384x256 .fp8e4m3) (t a : Vec Ideal S256x1 .f32) (s : Elt Ideal .f32) (h : Vec Ideal S256x256 .f32) (i : Fin 256) (j : Fin 256) :
    (k10_pay1 (k10_pay736 x w t a s) h : FVec Ideal S256x256 .bf16) (ix2 i j)
      = h (ix2 i j) + ((∑ k, x (ix2 i k) * w (ix2 k j)) * ((512 : ℝ) : EReal) - t (ix2 i 0)) * a (ix2 i 0) * s := by
  pointwise [k10_pay1, k10_pay736]
  rw [Tern.ofBits_512]

theorem m10_block (v : View sig .tc .vmem S16384x256 .fp8e4m3) (x : Vec Ideal S256x16384 .bf16) (w : Vec Ideal S4096x256 .i8)
    (t a : Vec Ideal S256x1 .f32) (s : Elt Ideal .f32) (h : Vec Ideal S256x256 .f32) (L)
    (hL : L = Tern.decPieces (N := 16384) (K4 := 4096) (C := 128) rfl rfl bitcasts_S32x256_w8_S8x256_w32 bitcasts_S8x256_w32_S32x256_w8
      shapeCasts_S32x256_S32x256 w [] 512 (by decide)) (inb) (i : Fin 256) (j : Fin 256) :
    (k10_pay1 (k10_pay736 x (v.readCov L (Rect.unit (s := S16384x256) ![0, 0] ![16384, 256] inb).toLoadRect : Vec Ideal S16384x256 .fp8e4m3) t a s) h : FVec Ideal S256x256 .bf16) (ix2 i j)
      = Tern.mmAdd (N := 16384) (K4 := 4096) (C := 128) rfl rfl (fun p => x (ix2 i p)) (fun r => w (ix2 r j)) (t (ix2 i 0)) (a (ix2 i 0)) s (h (ix2 i j)) := by
  rw [m10_mul]
  unfold Tern.mmAdd Tern.mm
  congr 5
  refine Finset.sum_congr rfl fun p _ => congrArg _ ?_
  exact Tern.readCov_decPieces (N := 16384) (K4 := 4096) (C := 128) rfl rfl _ _ _ w v [] L hL inb p j

theorem m10_idx : ∀ t : Fin cfg10.N, (cfg10.win 0).index t = ![0, 0] ∧ (cfg10.win 1).index t = ![0, t.val] ∧ (cfg10.win 2).index t = ![0, 0]
   ∧ (cfg10.win 3).index t = ![0, 0] ∧ (cfg10.win 4).index t = ![0, 0] ∧ (cfg10.win 5).index t = ![0, t.val] ∧ (cfg10.win 6).index t = ![0, t.val] := by
  decide +kernel

theorem m10_row0 (t : Fin cfg10.N) (r : Fin 256) (k : Fin 16384) : iblk10 V c 0 t (ix2 r k) = V c main_v49_3 (ix2 r k) := by
  blk_ext [iblk10, m10_idx t]
theorem m10_row1 (t : Fin cfg10.N) (r : Fin 4096) (k : Fin 256) (h : 256 * t.val + k.val < 6144) :
    iblk10 V c 1 t (ix2 r k) = V c main_arg18 (ix2 r ⟨256 * t.val + k.val, h⟩) := by
  blk_ext [iblk10, m10_idx t]
theorem m10_row2 (t : Fin cfg10.N) (r : Fin 256) : iblk10 V c 2 t (ix2 r 0) = V c main_v49_4 (ix2 r 0) := by
  blk_ext [iblk10, m10_idx t]
theorem m10_row3 (t : Fin cfg10.N) (r : Fin 256) : iblk10 V c 3 t (ix2 r 0) = V c main_v49_1 (ix2 r 0) := by
  blk_ext [iblk10, m10_idx t]
theorem m10_row4 (t : Fin cfg10.N) : iblk10 V c 4 t (ix2 0 0) = V c main_v50 (ix2 0 0) := by
  blk_ext [iblk10, m10_idx t]
theorem m10_row5 (t : Fin cfg10.N) (r : Fin 256) (k : Fin 256) (h : 256 * t.val + k.val < 6144) :
    iblk10 V c 5 t (ix2 r k) = V c main_v42 (ix2 r ⟨256 * t.val + k.val, h⟩) := by
  blk_ext [iblk10, m10_idx t]

set_option maxHeartbeats 4000000 in
theorem m10_blk (t : Fin cfg10.N) (i : Fin 256) (j : Fin 256) : outsAt10 V c t (ix2 i j)
    = Tern.mmAdd (N := 16384) (K4 := 4096) (C := 128) rfl rfl (fun p => iblk10 V c 0 t (ix2 i p)) (fun r => iblk10 V c 1 t (ix2 r j))
      (iblk10 V c 2 t (ix2 i 0)) (iblk10 V c 3 t (ix2 i 0)) (iblk10 V c 4 t (ix2 0 0)) (iblk10 V c 5 t (ix2 i j)) := by
  unfold outsAt10 out10_A_6
  frame_out
  refine (m10_block _ (iblk10 V c 0 t) (iblk10 V c 1 t) (iblk10 V c 2 t) (iblk10 V c 3 t)
    (View.ld (iblk10 V c 4 t) (Rect.unit ![0, 0] ![1, 1] inb_S1x1_S1x1_0_0) (Shape.Idx.first Nat.one_pos)) (iblk10 V c 5 t) _ ?hL _ i j).trans ?_
  case hL => rfl
  refine Tern.mmAdd_congr _ _ (fun _ => rfl) (fun _ => rfl) rfl rfl ?_ rfl
  refine (View.ld_apply _ _ _).trans (congrArg _ ?_)
  first | rfl | (funext a; fin_cases a <;> rfl)

set_option maxHeartbeats 4000000 in
theorem m10_out : (dat10 V c).arrAt 6 cfg10.N = fun i =>
    Tern.mmAdd (N := 16384) (K4 := 4096) (C := 128) rfl rfl (fun p => V c main_v49_3 (ix2 (i 0) p))
      (fun r => V c main_arg18 (ix2 r (i 1))) (V c main_v49_4 (ix2 (i 0) 0)) (V c main_v49_1 (ix2 (i 0) 0)) (V c main_v50 (ix2 0 0)) (V c main_v42 (ix2 (i 0) (i 1))) := by
  refine (dat10 V c).arrAt_eq_of_covers 6 _ (by decide +kernel) fun t hf y => ?_
  blk_simp
  rw [after10_6]
  have ht : t.val < 24 := t.isLt
  have hy : (y 1).val < 256 := (y 1).isLt
  have e0 : ((View.whole main_v51).slice (win10_6.rect t)).emb y 0 = (y 0 : Fin 256) :=
    Fin.ext (by blk_simp [m10_idx t]; try (show _ = (y 0).val; omega))
  have e1 : ((View.whole main_v51).slice (win10_6.rect t)).emb y 1 = (⟨256 * t.val + (y 1).val, by omega⟩ : Fin 6144) :=
    Fin.ext (by blk_simp [m10_idx t]; try (show _ = 256 * t.val + (y 1).val; omega))
  simp only [e0, e1]
  refine Eq.trans (congrArg (outsAt10 V c t) (ix2_eta y).symm) ?_
  refine (m10_blk V c t (y 0) (y 1)).trans ?_
  exact Tern.mmAdd_congr _ _ (fun p => m10_row0 V c t (y 0) p) (fun r => m10_row1 V c t r (y 1) (by omega)) (m10_row2 V c t (y 0))
    (m10_row3 V c t (y 0)) (m10_row4 V c t) (m10_row5 V c t (y 0) (y 1) (by omega))

end Cert.KernelIdeal.Gen
end
-- ==== Proof.KC4.lean ====
module

public import proofs.«01_k».proof.Proof.KC3
public import proofs.«01_k».proof.Proof.Q9
public import proofs.«01_k».proof.Proof.M10

/-! The kernel program to its end, against the stages of the reference. -/

@[expose] public section
set_option maxRecDepth 65536
noncomputable section
namespace Cert.KernelIdeal.Gen
open Idealize.ShloMosaic Idealize.ShloMosaic.TcCoe Idealize.SL.Sem Cert.ReferenceIdeal.RefValue

variable (m : (ℓ : Loc nD τ sig) → Buf (Elt Ideal) ℓ) (ρ : Dev nD → PrngReg) (c : Dev nD)

theorem k9_x (i : Fin 256) (j : Fin 16384) : W19 m ρ c (Proc.devRef .tc main_v47) (ix2 i j) = (kArgs m c).act (ix3 (hi i) (lo i) j) :=
  (congrFun (W19_of m ρ c main_v47 (by decide +kernel)) (ix2 i j)).trans (k8_out m ρ c i j)

theorem k9_gain (j : Fin 16384) : W19 m ρ c (Proc.devRef .tc main_v48) (ix2 0 j) = (kArgs m c).x17 (ix1 j) :=
  (h9_v48 (W18 m ρ c) j).trans (congrFun (W18_args m ρ c main_arg17 (by decide)) (ix1 j))

theorem k9_cd (i : Fin 256) (j : Fin 16384) :
    Tern.code q9_n (fun k => V19 m ρ c main_v47 (ix2 i k)) (fun k => V19 m ρ c main_v48 (ix2 0 k)) j = (kArgs m c).cDn (ix3 (hi i) (lo i) j) :=
  (Tern.code_congr (n' := n14) rfl (fun j => k9_x m ρ c i j) (k9_gain m ρ c) j).trans
    (gCode16384_apply (kArgs m c).act (kArgs m c).x17 (hi i) (lo i) j).symm

theorem k9_code (i : Fin 256) (j : Fin 16384) : W20 m ρ c (Proc.devRef .tc main_v49_0) (ix2 i j) = (kArgs m c).cDn (ix3 (hi i) (lo i) j) :=
  (congrFun ((W20_arr m ρ c 2).trans (q9_codes (V19 m ρ) c)) (ix2 i j)).trans (k9_cd m ρ c i j)

theorem k9_scale (i : Fin 256) : W20 m ρ c (Proc.devRef .tc main_v49_1) (ix2 i 0) = (kArgs m c).sDn (ix2 (hi i) (lo i)) :=
  (congrFun ((W20_arr m ρ c 3).trans (q9_scale (V19 m ρ) c)) (ix2 i 0)).trans
    ((Tern.scl_congr (n' := n14) rfl (fun j => k9_x m ρ c i j) (k9_gain m ρ c)).trans
      (gScale16384_apply (kArgs m c).act (kArgs m c).x17 (hi i) (lo i)).symm)

theorem k9_lhs (i : Fin 256) (p : Fin 16384) : W20 m ρ c (Proc.devRef .tc main_v49_3) (ix2 i p)
    = ((((kArgs m c).cDn (ix3 (hi i) (lo i) ⟨Tern.src p.val, Tern.src_lt (C := 128) rfl p.isLt⟩)).toInt : ℝ) : EReal) :=
  (congrFun ((W20_arr m ρ c 5).trans (q9_lhs (V19 m ρ) c)) (ix2 i p)).trans
    (congrArg (fun b : BitVec 8 => ((b.toInt : ℝ) : EReal)) (k9_cd m ρ c i _))

theorem k9_total (i : Fin 256) : W20 m ρ c (Proc.devRef .tc main_v49_4) (ix2 i 0)
    = ∑ j : Fin 16384, ((((kArgs m c).cDn (ix3 (hi i) (lo i) j)).toInt : ℝ) : EReal) :=
  (congrFun ((W20_arr m ρ c 6).trans (q9_total (V19 m ρ) c)) (ix2 i 0)).trans
    (congrArg (fun f : Fin 16384 → EReal => ∑ j, f j) (funext fun j => congrArg (fun b : BitVec 8 => ((b.toInt : ℝ) : EReal)) (k9_cd m ρ c i j)))

theorem k9_rstd (i : Fin 256) : W20 m ρ c (Proc.devRef .tc main_v49_2) (ix2 i 0) = (kArgs m c).rDn (ix2 (hi i) (lo i)) :=
  (congrFun ((W20_arr m ρ c 4).trans (q9_rstd (V19 m ρ) c)) (ix2 i 0)).trans
    ((Tern.rstd_congr (n' := n14) rfl (fun j => k9_x m ρ c i j)).trans (gR16384_apply (kArgs m c).act (hi i) (lo i)).symm)

theorem k10_mm (i : Fin 256) (j : Fin 6144) :
    Tern.mm (N := 16384) (K4 := 4096) (C := 128) rfl rfl (fun p => V21 m ρ c main_v49_3 (ix2 i p))
      (fun r => V21 m ρ c main_arg18 (ix2 r j)) (V21 m ρ c main_v49_4 (ix2 i 0)) (V21 m ρ c main_v49_1 (ix2 i 0)) (V21 m ρ c main_v50 (ix2 0 0))
      = (kArgs m c).out (ix3 (hi i) (lo i) j) := by
  have hl : ∀ p : Fin 16384, V21 m ρ c main_v49_3 (ix2 i p)
      = ((((kArgs m c).cDn (ix3 (hi i) (lo i) ⟨Tern.src p.val, Tern.src_lt (C := 128) rfl p.isLt⟩)).toInt : ℝ) : EReal) :=
    fun p => (congrFun (W21_of m ρ c main_v49_3 (by decide +kernel)) (ix2 i p)).trans (k9_lhs m ρ c i p)
  have hw : ∀ r : Fin 4096, V21 m ρ c main_arg18 (ix2 r j) = (kArgs m c).x18 (ix2 r j) :=
    fun r => congrFun (W21_args m ρ c main_arg18 (by decide)) (ix2 r j)
  have ht : V21 m ρ c main_v49_4 (ix2 i 0) = ∑ j : Fin 16384, ((((kArgs m c).cDn (ix3 (hi i) (lo i) j)).toInt : ℝ) : EReal) :=
    (congrFun (W21_of m ρ c main_v49_4 (by decide +kernel)) (ix2 i 0)).trans (k9_total m ρ c i)
  have ha : V21 m ρ c main_v49_1 (ix2 i 0) = (kArgs m c).sDn (ix2 (hi i) (lo i)) :=
    (congrFun (W21_of m ρ c main_v49_1 (by decide +kernel)) (ix2 i 0)).trans (k9_scale m ρ c i)
  have hs : V21 m ρ c main_v50 (ix2 0 0) = (kArgs m c).x19 ix0 :=
    (h10_v50 (W20 m ρ c)).trans (congrFun (W20_args m ρ c main_arg19 (by decide)) ix0)
  refine (Tern.mm_congr (N := 16384) (K4 := 4096) (C := 128) rfl rfl hl hw ht ha hs).trans ?_
  refine (Tern.mm_eq (N := 16384) (K4 := 4096) (C := 128) rfl rfl rfl (fun k => (kArgs m c).cDn (ix3 (hi i) (lo i) k)) _ _ _ _ _ (fun _ => rfl) rfl).trans ?_
  exact (gM16384x6144_apply (kArgs m c).cDn (kArgs m c).x18 (kArgs m c).sDn (kArgs m c).x19 (hi i) (lo i) j).symm

theorem k10_h (i : Fin 256) (j : Fin 6144) : W21 m ρ c (Proc.devRef .tc main_v42) (ix2 i j) = (kArgs m c).h (ix3 (hi i) (lo i) j) :=
  (congrFun (((((((W21_of m ρ c main_v42 (by decide +kernel)).trans (W20_of m ρ c main_v42 (by decide +kernel))).trans (W19_of m ρ c main_v42 (by decide +kernel))).trans (W18_of m ρ c main_v42 (by decide +kernel))).trans (W17_of m ρ c main_v42 (by decide +kernel))).trans (W16_of m ρ c main_v42 (by decide +kernel))).trans (W15_of m ρ c main_v42 (by decide +kernel))) (ix2 i j)).trans (k6_out m ρ c i j)

theorem k10_out (i : Fin 256) (j : Fin 6144) : W22 m ρ c (Proc.devRef .tc main_v51) (ix2 i j) = (kArgs m c).y (ix3 (hi i) (lo i) j) :=
  (congrFun ((W22_arr m ρ c 6).trans (m10_out (V21 m ρ) c)) (ix2 i j)).trans
    ((congrArg₂ (fun a b : EReal => a + b) (k10_h m ρ c i j) (k10_mm m ρ c i j)).trans (Args.y_apply (kArgs m c) (hi i) (lo i) j).symm)

end Cert.KernelIdeal.Gen
end
-- ==== Proof.KEnd.lean ====
module

public import proofs.«01_k».proof.Proof.KC4

/-! Each result of the kernel program is a stage of the reference. -/

@[expose] public section
set_option maxRecDepth 65536
noncomputable section
namespace Cert.KernelIdeal.Gen
open Idealize.ShloMosaic Idealize.ShloMosaic.TcCoe Idealize.SL.Sem Cert.ReferenceIdeal.RefValue

variable (m : (ℓ : Loc nD τ sig) → Buf (Elt Ideal) ℓ) (ρ : Dev nD → PrngReg) (c : Dev nD)

theorem end_v52_at (b : Fin 2) (t : Fin 128) (j : Fin 6144) : W23 m ρ c (Proc.devRef .tc main_v52) (ix3 b t j) = (kArgs m c).y (ix3 b t j) := by
  have h := (h11_v52 (W22 m ρ c) b t j).trans ((k10_out m ρ c (row b t) j))
  rw [hi_row, lo_row] at h
  exact h

theorem end_v52 : W23 m ρ c (Proc.devRef .tc main_v52) = (kArgs m c).y :=
  funext fun i => (congrArg (W23 m ρ c (Proc.devRef .tc main_v52)) (ix3_eta i).symm).trans
    ((end_v52_at m ρ c (i 0) (i 1) (i 2)).trans (congrArg (kArgs m c).y (ix3_eta i)))

theorem end_v53_at (b : Fin 2) (t : Fin 128) (h : Fin 64) (e : Fin 96) : W23 m ρ c (Proc.devRef .tc main_v53) (ix4 b t h e) = (kArgs m c).qr (ix4 b t h e) := by
  have h := (h11_v53 (W22 m ρ c) b t h e).trans ((congrFun ((((((((((((W22_of m ρ c main_v38_0 (by decide +kernel)).trans (W21_of m ρ c main_v38_0 (by decide +kernel))).trans (W20_of m ρ c main_v38_0 (by decide +kernel))).trans (W19_of m ρ c main_v38_0 (by decide +kernel))).trans (W18_of m ρ c main_v38_0 (by decide +kernel))).trans (W17_of m ρ c main_v38_0 (by decide +kernel))).trans (W16_of m ρ c main_v38_0 (by decide +kernel))).trans (W15_of m ρ c main_v38_0 (by decide +kernel))).trans (W14_of m ρ c main_v38_0 (by decide +kernel))).trans (W13_of m ρ c main_v38_0 (by decide +kernel))).trans (W12_of m ρ c main_v38_0 (by decide +kernel))).trans (W11_of m ρ c main_v38_0 (by decide +kernel))) (ix2 (row b t) ⟨h.val * 96 + e.val, by omega⟩)).trans (k4_q m ρ c (row b t) h e))
  rw [hi_row, lo_row] at h
  exact h

theorem end_v53 : W23 m ρ c (Proc.devRef .tc main_v53) = (kArgs m c).qr :=
  funext fun i => (congrArg (W23 m ρ c (Proc.devRef .tc main_v53)) (ix4_eta i).symm).trans
    ((end_v53_at m ρ c (i 0) (i 1) (i 2) (i 3)).trans (congrArg (kArgs m c).qr (ix4_eta i)))

theorem end_v54_at (b : Fin 2) (t : Fin 128) (h : Fin 8) (e : Fin 96) : W23 m ρ c (Proc.devRef .tc main_v54) (ix4 b t h e) = (kArgs m c).kr (ix4 b t h e) := by
  have h := (h11_v54 (W22 m ρ c) b t h e).trans ((congrFun ((((((((((((W22_of m ρ c main_v38_1 (by decide +kernel)).trans (W21_of m ρ c main_v38_1 (by decide +kernel))).trans (W20_of m ρ c main_v38_1 (by decide +kernel))).trans (W19_of m ρ c main_v38_1 (by decide +kernel))).trans (W18_of m ρ c main_v38_1 (by decide +kernel))).trans (W17_of m ρ c main_v38_1 (by decide +kernel))).trans (W16_of m ρ c main_v38_1 (by decide +kernel))).trans (W15_of m ρ c main_v38_1 (by decide +kernel))).trans (W14_of m ρ c main_v38_1 (by decide +kernel))).trans (W13_of m ρ c main_v38_1 (by decide +kernel))).trans (W12_of m ρ c main_v38_1 (by decide +kernel))).trans (W11_of m ρ c main_v38_1 (by decide +kernel))) (ix2 (row b t) ⟨h.val * 96 + e.val, by omega⟩)).trans (k4_k m ρ c (row b t) h e))
  rw [hi_row, lo_row] at h
  exact h

theorem end_v54 : W23 m ρ c (Proc.devRef .tc main_v54) = (kArgs m c).kr :=
  funext fun i => (congrArg (W23 m ρ c (Proc.devRef .tc main_v54)) (ix4_eta i).symm).trans
    ((end_v54_at m ρ c (i 0) (i 1) (i 2) (i 3)).trans (congrArg (kArgs m c).kr (ix4_eta i)))

theorem end_v55_at (b : Fin 2) (t : Fin 128) : W23 m ρ c (Proc.devRef .tc main_v55) (ix2 b t) = (kArgs m c).rAt (ix2 b t) := by
  have h := (h11_v55 (W22 m ρ c) b t).trans ((congrFun ((((((((((W22_of m ρ c main_v40_2 (by decide +kernel)).trans (W21_of m ρ c main_v40_2 (by decide +kernel))).trans (W20_of m ρ c main_v40_2 (by decide +kernel))).trans (W19_of m ρ c main_v40_2 (by decide +kernel))).trans (W18_of m ρ c main_v40_2 (by decide +kernel))).trans (W17_of m ρ c main_v40_2 (by decide +kernel))).trans (W16_of m ρ c main_v40_2 (by decide +kernel))).trans (W15_of m ρ c main_v40_2 (by decide +kernel))).trans (W14_of m ρ c main_v40_2 (by decide +kernel))).trans (W13_of m ρ c main_v40_2 (by decide +kernel))) (ix2 (row b t) 0)).trans (k5_rstd m ρ c (row b t)))
  rw [hi_row, lo_row] at h
  exact h

theorem end_v55 : W23 m ρ c (Proc.devRef .tc main_v55) = (kArgs m c).rAt :=
  funext fun i => (congrArg (W23 m ρ c (Proc.devRef .tc main_v55)) (ix2_eta i).symm).trans
    ((end_v55_at m ρ c (i 0) (i 1)).trans (congrArg (kArgs m c).rAt (ix2_eta i)))

theorem end_v56_at (b : Fin 2) (t : Fin 128) : W23 m ρ c (Proc.devRef .tc main_v56) (ix2 b t) = (kArgs m c).rDn (ix2 b t) := by
  have h := (h11_v56 (W22 m ρ c) b t).trans ((congrFun ((W22_of m ρ c main_v49_2 (by decide +kernel)).trans (W21_of m ρ c main_v49_2 (by decide +kernel))) (ix2 (row b t) 0)).trans (k9_rstd m ρ c (row b t)))
  rw [hi_row, lo_row] at h
  exact h

theorem end_v56 : W23 m ρ c (Proc.devRef .tc main_v56) = (kArgs m c).rDn :=
  funext fun i => (congrArg (W23 m ρ c (Proc.devRef .tc main_v56)) (ix2_eta i).symm).trans
    ((end_v56_at m ρ c (i 0) (i 1)).trans (congrArg (kArgs m c).rDn (ix2_eta i)))

theorem end_v57_at (b : Fin 2) (t : Fin 128) (j : Fin 6144) : W23 m ρ c (Proc.devRef .tc main_v57) (ix3 b t j) = (kArgs m c).cIn (ix3 b t j) := by
  have h := (h11_v57 (W22 m ρ c) b t j).trans ((congrFun ((((((((((((((((((((W22_of m ρ c main_v2_0 (by decide +kernel)).trans (W21_of m ρ c main_v2_0 (by decide +kernel))).trans (W20_of m ρ c main_v2_0 (by decide +kernel))).trans (W19_of m ρ c main_v2_0 (by decide +kernel))).trans (W18_of m ρ c main_v2_0 (by decide +kernel))).trans (W17_of m ρ c main_v2_0 (by decide +kernel))).trans (W16_of m ρ c main_v2_0 (by decide +kernel))).trans (W15_of m ρ c main_v2_0 (by decide +kernel))).trans (W14_of m ρ c main_v2_0 (by decide +kernel))).trans (W13_of m ρ c main_v2_0 (by decide +kernel))).trans (W12_of m ρ c main_v2_0 (by decide +kernel))).trans (W11_of m ρ c main_v2_0 (by decide +kernel))).trans (W10_of m ρ c main_v2_0 (by decide +kernel))).trans (W9_of m ρ c main_v2_0 (by decide +kernel))).trans (W8_of m ρ c main_v2_0 (by decide +kernel))).trans (W7_of m ρ c main_v2_0 (by decide +kernel))).trans (W6_of m ρ c main_v2_0 (by decide +kernel))).trans (W5_of m ρ c main_v2_0 (by decide +kernel))).trans (W4_of m ρ c main_v2_0 (by decide +kernel))).trans (W3_of m ρ c main_v2_0 (by decide +kernel))) (ix2 (row b t) j)).trans (k0_code m ρ c (row b t) j))
  rw [hi_row, lo_row] at h
  exact h

theorem end_v57 : W23 m ρ c (Proc.devRef .tc main_v57) = (kArgs m c).cIn :=
  funext fun i => (congrArg (W23 m ρ c (Proc.devRef .tc main_v57)) (ix3_eta i).symm).trans
    ((end_v57_at m ρ c (i 0) (i 1) (i 2)).trans (congrArg (kArgs m c).cIn (ix3_eta i)))

theorem end_v58_at (b : Fin 2) (t : Fin 128) : W23 m ρ c (Proc.devRef .tc main_v58) (ix2 b t) = (kArgs m c).sIn (ix2 b t) := by
  have h := (h11_v58 (W22 m ρ c) b t).trans ((congrFun ((((((((((((((((((((W22_of m ρ c main_v2_1 (by decide +kernel)).trans (W21_of m ρ c main_v2_1 (by decide +kernel))).trans (W20_of m ρ c main_v2_1 (by decide +kernel))).trans (W19_of m ρ c main_v2_1 (by decide +kernel))).trans (W18_of m ρ c main_v2_1 (by decide +kernel))).trans (W17_of m ρ c main_v2_1 (by decide +kernel))).trans (W16_of m ρ c main_v2_1 (by decide +kernel))).trans (W15_of m ρ c main_v2_1 (by decide +kernel))).trans (W14_of m ρ c main_v2_1 (by decide +kernel))).trans (W13_of m ρ c main_v2_1 (by decide +kernel))).trans (W12_of m ρ c main_v2_1 (by decide +kernel))).trans (W11_of m ρ c main_v2_1 (by decide +kernel))).trans (W10_of m ρ c main_v2_1 (by decide +kernel))).trans (W9_of m ρ c main_v2_1 (by decide +kernel))).trans (W8_of m ρ c main_v2_1 (by decide +kernel))).trans (W7_of m ρ c main_v2_1 (by decide +kernel))).trans (W6_of m ρ c main_v2_1 (by decide +kernel))).trans (W5_of m ρ c main_v2_1 (by decide +kernel))).trans (W4_of m ρ c main_v2_1 (by decide +kernel))).trans (W3_of m ρ c main_v2_1 (by decide +kernel))) (ix2 (row b t) 0)).trans (k0_scale m ρ c (row b t)))
  rw [hi_row, lo_row] at h
  exact h

theorem end_v58 : W23 m ρ c (Proc.devRef .tc main_v58) = (kArgs m c).sIn :=
  funext fun i => (congrArg (W23 m ρ c (Proc.devRef .tc main_v58)) (ix2_eta i).symm).trans
    ((end_v58_at m ρ c (i 0) (i 1)).trans (congrArg (kArgs m c).sIn (ix2_eta i)))

theorem end_v59_at (b : Fin 2) (t : Fin 128) (j : Fin 6144) : W23 m ρ c (Proc.devRef .tc main_v59) (ix3 b t j) = (kArgs m c).cAt (ix3 b t j) := by
  have h := (h11_v59 (W22 m ρ c) b t j).trans ((congrFun ((((((((((W22_of m ρ c main_v40_0 (by decide +kernel)).trans (W21_of m ρ c main_v40_0 (by decide +kernel))).trans (W20_of m ρ c main_v40_0 (by decide +kernel))).trans (W19_of m ρ c main_v40_0 (by decide +kernel))).trans (W18_of m ρ c main_v40_0 (by decide +kernel))).trans (W17_of m ρ c main_v40_0 (by decide +kernel))).trans (W16_of m ρ c main_v40_0 (by decide +kernel))).trans (W15_of m ρ c main_v40_0 (by decide +kernel))).trans (W14_of m ρ c main_v40_0 (by decide +kernel))).trans (W13_of m ρ c main_v40_0 (by decide +kernel))) (ix2 (row b t) j)).trans (k5_code m ρ c (row b t) j))
  rw [hi_row, lo_row] at h
  exact h

theorem end_v59 : W23 m ρ c (Proc.devRef .tc main_v59) = (kArgs m c).cAt :=
  funext fun i => (congrArg (W23 m ρ c (Proc.devRef .tc main_v59)) (ix3_eta i).symm).trans
    ((end_v59_at m ρ c (i 0) (i 1) (i 2)).trans (congrArg (kArgs m c).cAt (ix3_eta i)))

theorem end_v60_at (b : Fin 2) (t : Fin 128) : W23 m ρ c (Proc.devRef .tc main_v60) (ix2 b t) = (kArgs m c).sAt (ix2 b t) := by
  have h := (h11_v60 (W22 m ρ c) b t).trans ((congrFun ((((((((((W22_of m ρ c main_v40_1 (by decide +kernel)).trans (W21_of m ρ c main_v40_1 (by decide +kernel))).trans (W20_of m ρ c main_v40_1 (by decide +kernel))).trans (W19_of m ρ c main_v40_1 (by decide +kernel))).trans (W18_of m ρ c main_v40_1 (by decide +kernel))).trans (W17_of m ρ c main_v40_1 (by decide +kernel))).trans (W16_of m ρ c main_v40_1 (by decide +kernel))).trans (W15_of m ρ c main_v40_1 (by decide +kernel))).trans (W14_of m ρ c main_v40_1 (by decide +kernel))).trans (W13_of m ρ c main_v40_1 (by decide +kernel))) (ix2 (row b t) 0)).trans (k5_scale m ρ c (row b t)))
  rw [hi_row, lo_row] at h
  exact h

theorem end_v60 : W23 m ρ c (Proc.devRef .tc main_v60) = (kArgs m c).sAt :=
  funext fun i => (congrArg (W23 m ρ c (Proc.devRef .tc main_v60)) (ix2_eta i).symm).trans
    ((end_v60_at m ρ c (i 0) (i 1)).trans (congrArg (kArgs m c).sAt (ix2_eta i)))

theorem end_v61_at (b : Fin 2) (t : Fin 128) (j : Fin 6144) : W23 m ρ c (Proc.devRef .tc main_v61) (ix3 b t j) = (kArgs m c).cFf (ix3 b t j) := by
  have h := (h11_v61 (W22 m ρ c) b t j).trans ((congrFun ((((((W22_of m ρ c main_v44_0 (by decide +kernel)).trans (W21_of m ρ c main_v44_0 (by decide +kernel))).trans (W20_of m ρ c main_v44_0 (by decide +kernel))).trans (W19_of m ρ c main_v44_0 (by decide +kernel))).trans (W18_of m ρ c main_v44_0 (by decide +kernel))).trans (W17_of m ρ c main_v44_0 (by decide +kernel))) (ix2 (row b t) j)).trans (k7_code m ρ c (row b t) j))
  rw [hi_row, lo_row] at h
  exact h

theorem end_v61 : W23 m ρ c (Proc.devRef .tc main_v61) = (kArgs m c).cFf :=
  funext fun i => (congrArg (W23 m ρ c (Proc.devRef .tc main_v61)) (ix3_eta i).symm).trans
    ((end_v61_at m ρ c (i 0) (i 1) (i 2)).trans (congrArg (kArgs m c).cFf (ix3_eta i)))

theorem end_v62_at (b : Fin 2) (t : Fin 128) : W23 m ρ c (Proc.devRef .tc main_v62) (ix2 b t) = (kArgs m c).sFf (ix2 b t) := by
  have h := (h11_v62 (W22 m ρ c) b t).trans ((congrFun ((((((W22_of m ρ c main_v44_1 (by decide +kernel)).trans (W21_of m ρ c main_v44_1 (by decide +kernel))).trans (W20_of m ρ c main_v44_1 (by decide +kernel))).trans (W19_of m ρ c main_v44_1 (by decide +kernel))).trans (W18_of m ρ c main_v44_1 (by decide +kernel))).trans (W17_of m ρ c main_v44_1 (by decide +kernel))) (ix2 (row b t) 0)).trans (k7_scale m ρ c (row b t)))
  rw [hi_row, lo_row] at h
  exact h

theorem end_v62 : W23 m ρ c (Proc.devRef .tc main_v62) = (kArgs m c).sFf :=
  funext fun i => (congrArg (W23 m ρ c (Proc.devRef .tc main_v62)) (ix2_eta i).symm).trans
    ((end_v62_at m ρ c (i 0) (i 1)).trans (congrArg (kArgs m c).sFf (ix2_eta i)))

theorem end_v63_at (b : Fin 2) (t : Fin 128) (j : Fin 16384) : W23 m ρ c (Proc.devRef .tc main_v63) (ix3 b t j) = (kArgs m c).cDn (ix3 b t j) := by
  have h := (h11_v63 (W22 m ρ c) b t j).trans ((congrFun ((W22_of m ρ c main_v49_0 (by decide +kernel)).trans (W21_of m ρ c main_v49_0 (by decide +kernel))) (ix2 (row b t) j)).trans (k9_code m ρ c (row b t) j))
  rw [hi_row, lo_row] at h
  exact h

theorem end_v63 : W23 m ρ c (Proc.devRef .tc main_v63) = (kArgs m c).cDn :=
  funext fun i => (congrArg (W23 m ρ c (Proc.devRef .tc main_v63)) (ix3_eta i).symm).trans
    ((end_v63_at m ρ c (i 0) (i 1) (i 2)).trans (congrArg (kArgs m c).cDn (ix3_eta i)))

theorem end_v64_at (b : Fin 2) (t : Fin 128) : W23 m ρ c (Proc.devRef .tc main_v64) (ix2 b t) = (kArgs m c).sDn (ix2 b t) := by
  have h := (h11_v64 (W22 m ρ c) b t).trans ((congrFun ((W22_of m ρ c main_v49_1 (by decide +kernel)).trans (W21_of m ρ c main_v49_1 (by decide +kernel))) (ix2 (row b t) 0)).trans (k9_scale m ρ c (row b t)))
  rw [hi_row, lo_row] at h
  exact h

theorem end_v64 : W23 m ρ c (Proc.devRef .tc main_v64) = (kArgs m c).sDn :=
  funext fun i => (congrArg (W23 m ρ c (Proc.devRef .tc main_v64)) (ix2_eta i).symm).trans
    ((end_v64_at m ρ c (i 0) (i 1)).trans (congrArg (kArgs m c).sDn (ix2_eta i)))

end Cert.KernelIdeal.Gen
end
-- ==== Proof.KRun.lean ====
module

public import proofs.«01_k».proof.Proof.Gen.KernelIdeal.Frame

/-! The kernel program's run, with what each result holds at the end: the contents the last stretch of host operations leaves. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- Every run of the program ends, with each result at the last boundary's contents and each argument as launched. -/
theorem run : θ_run defs (onTc (τ := τ) (main (F := F))) ⟨m, fun _ => 0, ρ⟩ (fun r => ∀ c : Dev nD,
      r.2.mem ((c.tc : Thread nD τ).loc main_v52) = W23 m ρ c (Proc.devRef .tc main_v52)
      ∧ r.2.mem ((c.tc : Thread nD τ).loc main_v53) = W23 m ρ c (Proc.devRef .tc main_v53)
      ∧ r.2.mem ((c.tc : Thread nD τ).loc main_v54) = W23 m ρ c (Proc.devRef .tc main_v54)
      ∧ r.2.mem ((c.tc : Thread nD τ).loc main_v55) = W23 m ρ c (Proc.devRef .tc main_v55)
      ∧ r.2.mem ((c.tc : Thread nD τ).loc main_v56) = W23 m ρ c (Proc.devRef .tc main_v56)
      ∧ r.2.mem ((c.tc : Thread nD τ).loc main_v57) = W23 m ρ c (Proc.devRef .tc main_v57)
      ∧ r.2.mem ((c.tc : Thread nD τ).loc main_v58) = W23 m ρ c (Proc.devRef .tc main_v58)
      ∧ r.2.mem ((c.tc : Thread nD τ).loc main_v59) = W23 m ρ c (Proc.devRef .tc main_v59)
      ∧ r.2.mem ((c.tc : Thread nD τ).loc main_v60) = W23 m ρ c (Proc.devRef .tc main_v60)
      ∧ r.2.mem ((c.tc : Thread nD τ).loc main_v61) = W23 m ρ c (Proc.devRef .tc main_v61)
      ∧ r.2.mem ((c.tc : Thread nD τ).loc main_v62) = W23 m ρ c (Proc.devRef .tc main_v62)
      ∧ r.2.mem ((c.tc : Thread nD τ).loc main_v63) = W23 m ρ c (Proc.devRef .tc main_v63)
      ∧ r.2.mem ((c.tc : Thread nD τ).loc main_v64) = W23 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h _ => fun c =>
      ⟨h c _ (mem_uc main_v52 (by decide)),
       h c _ (mem_uc main_v53 (by decide)),
       h c _ (mem_uc main_v54 (by decide)),
       h c _ (mem_uc main_v55 (by decide)),
       h c _ (mem_uc main_v56 (by decide)),
       h c _ (mem_uc main_v57 (by decide)),
       h c _ (mem_uc main_v58 (by decide)),
       h c _ (mem_uc main_v59 (by decide)),
       h c _ (mem_uc main_v60 (by decide)),
       h c _ (mem_uc main_v61 (by decide)),
       h c _ (mem_uc main_v62 (by decide)),
       h c _ (mem_uc main_v63 (by decide)),
       h c _ (mem_uc main_v64 (by decide)),
       (h c _ (mem_uc main_arg0 (by decide))).trans (W23_main_arg0 m ρ c),
       (h c _ (mem_uc main_arg1 (by decide))).trans (W23_main_arg1 m ρ c),
       (h c _ (mem_uc main_arg2 (by decide))).trans (W23_main_arg2 m ρ c),
       (h c _ (mem_uc main_arg3 (by decide))).trans (W23_main_arg3 m ρ c),
       (h c _ (mem_uc main_arg4 (by decide))).trans (W23_main_arg4 m ρ c),
       (h c _ (mem_uc main_arg5 (by decide))).trans (W23_main_arg5 m ρ c),
       (h c _ (mem_uc main_arg6 (by decide))).trans (W23_main_arg6 m ρ c),
       (h c _ (mem_uc main_arg7 (by decide))).trans (W23_main_arg7 m ρ c),
       (h c _ (mem_uc main_arg8 (by decide))).trans (W23_main_arg8 m ρ c),
       (h c _ (mem_uc main_arg9 (by decide))).trans (W23_main_arg9 m ρ c),
       (h c _ (mem_uc main_arg10 (by decide))).trans (W23_main_arg10 m ρ c),
       (h c _ (mem_uc main_arg11 (by decide))).trans (W23_main_arg11 m ρ c),
       (h c _ (mem_uc main_arg12 (by decide))).trans (W23_main_arg12 m ρ c),
       (h c _ (mem_uc main_arg13 (by decide))).trans (W23_main_arg13 m ρ c),
       (h c _ (mem_uc main_arg14 (by decide))).trans (W23_main_arg14 m ρ c),
       (h c _ (mem_uc main_arg15 (by decide))).trans (W23_main_arg15 m ρ c),
       (h c _ (mem_uc main_arg16 (by decide))).trans (W23_main_arg16 m ρ c),
       (h c _ (mem_uc main_arg17 (by decide))).trans (W23_main_arg17 m ρ c),
       (h c _ (mem_uc main_arg18 (by decide))).trans (W23_main_arg18 m ρ c),
       (h c _ (mem_uc main_arg19 (by decide))).trans (W23_main_arg19 m ρ c)⟩)

end Cert.KernelIdeal.Gen
end
-- ==== Proof.RRun.lean ====
module

public import proofs.«01_k».proof.Proof.RefChain
public import proofs.«01_k».proof.Proof.Gen.ReferenceIdeal.Run
public import Idealize.ShloMosaic.Lib.Claim

/-! The reference's run, each result as a named stage over its arguments. -/

@[expose] public section
noncomputable section
namespace Cert.ReferenceIdeal.RefValue
open Cert.ReferenceIdeal Cert.ReferenceIdeal.Gen Cert.ReferenceIdeal.Read Idealize.ShloMosaic Idealize.ShloMosaic.StableHlo
open Idealize.ShloMosaic.TcCoe Idealize.SL.Sem

variable (m : (ℓ : Loc nD τ sig) → Buf (Elt Ideal) ℓ) (ρ : Dev nD → PrngReg)

/-- The arguments at launch. -/
def rArgs (c : Dev nD) : Args where
  x0 := m ((c.tc : Thread nD τ).loc main_arg0)
  x1 := m ((c.tc : Thread nD τ).loc main_arg1)
  x2 := m ((c.tc : Thread nD τ).loc main_arg2)
  x3 := m ((c.tc : Thread nD τ).loc main_arg3)
  x4 := m ((c.tc : Thread nD τ).loc main_arg4)
  x5 := m ((c.tc : Thread nD τ).loc main_arg5)
  x6 := m ((c.tc : Thread nD τ).loc main_arg6)
  x7 := m ((c.tc : Thread nD τ).loc main_arg7)
  x8 := m ((c.tc : Thread nD τ).loc main_arg8)
  x9 := m ((c.tc : Thread nD τ).loc main_arg9)
  x10 := m ((c.tc : Thread nD τ).loc main_arg10)
  x11 := m ((c.tc : Thread nD τ).loc main_arg11)
  x12 := m ((c.tc : Thread nD τ).loc main_arg12)
  x13 := m ((c.tc : Thread nD τ).loc main_arg13)
  x14 := m ((c.tc : Thread nD τ).loc main_arg14)
  x15 := m ((c.tc : Thread nD τ).loc main_arg15)
  x16 := m ((c.tc : Thread nD τ).loc main_arg16)
  x17 := m ((c.tc : Thread nD τ).loc main_arg17)
  x18 := m ((c.tc : Thread nD τ).loc main_arg18)
  x19 := m ((c.tc : Thread nD τ).loc main_arg19)

/-- Every run of the reference ends, with each result at its stage and each argument as launched. -/
theorem run : θ_run defs (onTc (τ := τ) (main (F := Ideal))) ⟨m, fun _ => 0, ρ⟩ (fun r => ∀ c : Dev nD,
      r.2.mem ((c.tc : Thread nD τ).loc main_v381) = (rArgs m c).y
      ∧ r.2.mem ((c.tc : Thread nD τ).loc main_v148) = (rArgs m c).qr
      ∧ r.2.mem ((c.tc : Thread nD τ).loc main_v158) = (rArgs m c).kr
      ∧ r.2.mem ((c.tc : Thread nD τ).loc main_v193) = (rArgs m c).rAt
      ∧ r.2.mem ((c.tc : Thread nD τ).loc main_v332) = (rArgs m c).rDn
      ∧ r.2.mem ((c.tc : Thread nD τ).loc main_v27) = (rArgs m c).cIn
      ∧ r.2.mem ((c.tc : Thread nD τ).loc main_v20) = (rArgs m c).sIn
      ∧ r.2.mem ((c.tc : Thread nD τ).loc main_v213) = (rArgs m c).cAt
      ∧ r.2.mem ((c.tc : Thread nD τ).loc main_v206) = (rArgs m c).sAt
      ∧ r.2.mem ((c.tc : Thread nD τ).loc main_v268) = (rArgs m c).cFf
      ∧ r.2.mem ((c.tc : Thread nD τ).loc main_v261) = (rArgs m c).sFf
      ∧ r.2.mem ((c.tc : Thread nD τ).loc main_v352) = (rArgs m c).cDn
      ∧ r.2.mem ((c.tc : Thread nD τ).loc main_v345) = (rArgs m c).sDn
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => by
    obtain ⟨h0, h1, h2, h3, h4, h5, h6, h7, h8, h9, h10, h11, h12, hA⟩ := h c
    exact ⟨h0.trans ((val_main_v381_eq (launchContents m c)).trans (eq_v381 (rArgs m c))),
      h1.trans ((val_main_v148_eq (launchContents m c)).trans (eq_v148 (rArgs m c))),
      h2.trans ((val_main_v158_eq (launchContents m c)).trans (eq_v158 (rArgs m c))),
      h3.trans ((val_main_v193_eq (launchContents m c)).trans (eq_v193 (rArgs m c))),
      h4.trans ((val_main_v332_eq (launchContents m c)).trans (eq_v332 (rArgs m c))),
      h5.trans ((val_main_v27_eq (launchContents m c)).trans (eq_v27 (rArgs m c))),
      h6.trans ((val_main_v20_eq (launchContents m c)).trans (eq_v20 (rArgs m c))),
      h7.trans ((val_main_v213_eq (launchContents m c)).trans (eq_v213 (rArgs m c))),
      h8.trans ((val_main_v206_eq (launchContents m c)).trans (eq_v206 (rArgs m c))),
      h9.trans ((val_main_v268_eq (launchContents m c)).trans (eq_v268 (rArgs m c))),
      h10.trans ((val_main_v261_eq (launchContents m c)).trans (eq_v261 (rArgs m c))),
      h11.trans ((val_main_v352_eq (launchContents m c)).trans (eq_v352 (rArgs m c))),
      h12.trans ((val_main_v345_eq (launchContents m c)).trans (eq_v345 (rArgs m c))), hA⟩)
    (Cert.ReferenceIdeal.Value.run m ρ)

end Cert.ReferenceIdeal.RefValue
end
-- ==== Proof.Pair.lean ====
module

public import proofs.«01_k».proof.Defs
public import proofs.«01_k».proof.Proof.KEnd
public import proofs.«01_k».proof.Proof.KRun
public import proofs.«01_k».proof.Proof.RRun

/-! The kernel program and the reference, from equal arguments, end with equal results. -/

@[expose] public section
noncomputable section
namespace Cert.Proof
open Idealize.ShloMosaic Idealize.SL.Sem

/-- All thirteen results agree. -/
theorem algebraic : Cert.algebraic_KernelIdeal_ReferenceIdeal := by
  intro m g m' g' _ hag
  have hA : ∀ c, Cert.ReferenceIdeal.RefValue.rArgs m' c = Cert.KernelIdeal.Gen.kArgs m c := by
    intro c
    obtain ⟨a0, a1, a2, a3, a4, a5, a6, a7, a8, a9, a10, a11, a12, a13, a14, a15, a16, a17, a18, a19⟩ := hag c
    unfold Cert.ReferenceIdeal.RefValue.rArgs Cert.KernelIdeal.Gen.kArgs
    congr 1
  refine ⟨fun c => (Cert.KernelIdeal.Gen.kArgs m c).y, fun c => (Cert.KernelIdeal.Gen.kArgs m c).qr, fun c => (Cert.KernelIdeal.Gen.kArgs m c).kr, fun c => (Cert.KernelIdeal.Gen.kArgs m c).rAt, fun c => (Cert.KernelIdeal.Gen.kArgs m c).rDn, fun c => (Cert.KernelIdeal.Gen.kArgs m c).cIn, fun c => (Cert.KernelIdeal.Gen.kArgs m c).sIn, fun c => (Cert.KernelIdeal.Gen.kArgs m c).cAt, fun c => (Cert.KernelIdeal.Gen.kArgs m c).sAt, fun c => (Cert.KernelIdeal.Gen.kArgs m c).cFf, fun c => (Cert.KernelIdeal.Gen.kArgs m c).sFf, fun c => (Cert.KernelIdeal.Gen.kArgs m c).cDn, fun c => (Cert.KernelIdeal.Gen.kArgs m c).sDn, ?_, ?_⟩
  · refine (θ_run _ _ _).mono (fun r h c => ?_) (Cert.KernelIdeal.Gen.run m g)
    obtain ⟨h0, h1, h2, h3, h4, h5, h6, h7, h8, h9, h10, h11, h12, hU⟩ := h c
    exact ⟨h0.trans (Cert.KernelIdeal.Gen.end_v52 m g c), h1.trans (Cert.KernelIdeal.Gen.end_v53 m g c), h2.trans (Cert.KernelIdeal.Gen.end_v54 m g c), h3.trans (Cert.KernelIdeal.Gen.end_v55 m g c), h4.trans (Cert.KernelIdeal.Gen.end_v56 m g c), h5.trans (Cert.KernelIdeal.Gen.end_v57 m g c), h6.trans (Cert.KernelIdeal.Gen.end_v58 m g c), h7.trans (Cert.KernelIdeal.Gen.end_v59 m g c), h8.trans (Cert.KernelIdeal.Gen.end_v60 m g c), h9.trans (Cert.KernelIdeal.Gen.end_v61 m g c), h10.trans (Cert.KernelIdeal.Gen.end_v62 m g c), h11.trans (Cert.KernelIdeal.Gen.end_v63 m g c), h12.trans (Cert.KernelIdeal.Gen.end_v64 m g c), hU⟩
  · refine (θ_run _ _ _).mono (fun r h c => ?_) (Cert.ReferenceIdeal.RefValue.run m' g')
    have h := h c
    rw [hA c] at h
    exact h

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Pair
public import Idealize.ShloMosaic.Adequacy
public import Idealize.ShloMosaic.Init

@[expose] public section

noncomputable section

namespace Cert.Proof

open Idealize.ShloMosaic Idealize.SL.Sem Cert.Kernel

/-- The reference ends with its arguments as launched and every counter at zero. -/
theorem frame_ri : Cert.quiescent_ReferenceIdeal := fun m ρ _ =>
  (θ_run Cert.ReferenceIdeal.defs _ _).mono (fun r h => ⟨fun c => (h c).2.2.2.2.2.2.2.2.2.2.2.2.2,
      Idealize.ShloMosaic.sem_eq_zero_of_no_sems (by decide) r.2⟩)
    (Cert.ReferenceIdeal.RefValue.run m ρ)

theorem claim : Cert.Claim :=
  ⟨Cert.Kernel.Gen.facts, Cert.KernelIdeal.Gen.facts, Cert.ReferenceIdeal.Gen.facts, fun m ρ _ => Cert.Kernel.Gen.frame m ρ,
    fun m ρ _ => Cert.KernelIdeal.Gen.frame m ρ, frame_ri, trivial, algebraic⟩

end Cert.Proof

end
